-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v63) = v1 c
          ∧ r.2.mem ((c.tc : Thread Cert.Reference5Ideal.nD Cert.Reference5Ideal.τ).loc Cert.Reference5Ideal.main_v64) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v49) = v2 c
          ∧ r.2.mem ((c.tc : Thread Cert.Reference6Ideal.nD Cert.Reference6Ideal.τ).loc Cert.Reference6Ideal.main_v50) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v8) = v0 c
          ∧ r.2.mem ((c.tc : Thread Cert.Reference35Ideal.nD Cert.Reference35Ideal.τ).loc Cert.Reference35Ideal.main_v12) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v18) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v51) = v0 c
          ∧ r.2.mem ((c.tc : Thread Cert.Reference24Ideal.nD Cert.Reference24Ideal.τ).loc Cert.Reference24Ideal.main_v50) = v1 c
          ∧ r.2.mem ((c.tc : Thread Cert.Reference24Ideal.nD Cert.Reference24Ideal.τ).loc Cert.Reference24Ideal.main_v52) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v36) = v1 c
          ∧ r.2.mem ((c.tc : Thread Cert.Reference25Ideal.nD Cert.Reference25Ideal.τ).loc Cert.Reference25Ideal.main_v37) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v25) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v118) = v0 c
          ∧ r.2.mem ((c.tc : Thread Cert.Reference28Ideal.nD Cert.Reference28Ideal.τ).loc Cert.Reference28Ideal.main_v119) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v42) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v130) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel35 : Cert.Kernel35.Facts) (hKernel35Ideal : Cert.Kernel35Ideal.Facts) (hReference35Ideal : Cert.Reference35Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel30 : Cert.Kernel30.Facts) (hKernel30Ideal : Cert.Kernel30Ideal.Facts) (hReference30Ideal : Cert.Reference30Ideal.Facts) (hKernel33 : Cert.Kernel33.Facts) (hKernel33Ideal : Cert.Kernel33Ideal.Facts) (hReference33Ideal : Cert.Reference33Ideal.Facts) (hKernel32 : Cert.Kernel32.Facts) (hKernel32Ideal : Cert.Kernel32Ideal.Facts) (hReference32Ideal : Cert.Reference32Ideal.Facts) (hKernel34 : Cert.Kernel34.Facts) (hKernel34Ideal : Cert.Kernel34Ideal.Facts) (hReference34Ideal : Cert.Reference34Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel35_Kernel35Ideal
    ∧ algebraic_Kernel35Ideal_Reference35Ideal (hKernel35Ideal := hKernel35Ideal) (hReference35Ideal := hReference35Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel30_Kernel30Ideal
    ∧ algebraic_Kernel30Ideal_Reference30Ideal (hKernel30Ideal := hKernel30Ideal) (hReference30Ideal := hReference30Ideal)
    ∧ preserves_Kernel33_Kernel33Ideal
    ∧ algebraic_Kernel33Ideal_Reference33Ideal (hKernel33Ideal := hKernel33Ideal) (hReference33Ideal := hReference33Ideal)
    ∧ preserves_Kernel32_Kernel32Ideal
    ∧ algebraic_Kernel32Ideal_Reference32Ideal (hKernel32Ideal := hKernel32Ideal) (hReference32Ideal := hReference32Ideal)
    ∧ preserves_Kernel34_Kernel34Ideal
    ∧ algebraic_Kernel34Ideal_Reference34Ideal (hKernel34Ideal := hKernel34Ideal) (hReference34Ideal := hReference34Ideal)
-- ==== Pre_scores_finite.lean ====
abbrev S4096x1024 : Shape := ⟨2, ![4096, 1024]⟩
abbrev S512x2048 : Shape := ⟨2, ![512, 2048]⟩
abbrev S512x1024 : Shape := ⟨2, ![512, 1024]⟩
abbrev S_ : Shape := ⟨0, ![]⟩

class Facts : Prop where
  slices_S512x2048_S512x1024_0_0 : S512x2048.Slices ![0, 0] S512x1024
  bcast_S_S4096x1024 : S_.BroadcastsInDim S4096x1024 (![] : Fin 0 → Fin S4096x1024.rank)
  bcast_S_S512x1024 : S_.BroadcastsInDim S512x1024 (![] : Fin 0 → Fin S512x1024.rank)

variable [Facts]

def fn {F : FTy → Type} [FloatOps F] (main_arg0 : FVec F S4096x1024 .bf16) (main_arg1 : FVec F S512x2048 .bf16) (main_arg2 : FVec F S4096x1024 .bf16) : IVec S4096x1024 1 × IVec S512x1024 1 :=
  let main_v0 : FVec F S512x1024 .bf16 := (extractStridedSlice S512x1024 ![0, 0] · slices_S512x2048_S512x1024_0_0) main_arg1
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_arg0 main_v1
  let main_cst_0 : FVec F S_ .bf16 := constant S_ .bf16 0xFF80#16
  let main_v3 : FVec F S4096x1024 .bf16 := broadcastInDim S4096x1024 ![] bcast_S_S4096x1024 main_cst_0
  let main_v4 : IVec S4096x1024 1 := cmpf .ogt main_arg0 main_v3
  let main_v5 : IVec S4096x1024 1 := andi main_v2 main_v4
  let main_cst_1 : FVec F S_ .bf16 := constant S_ .bf16 0x7F80#16
  let main_v6 : FVec F S512x1024 .bf16 := broadcastInDim S512x1024 ![] bcast_S_S512x1024 main_cst_1
  let main_v7 : IVec S512x1024 1 := cmpf .olt main_v0 main_v6
  let main_cst_2 : FVec F S_ .bf16 := constant S_ .bf16 0xFF80#16
  let main_v8 : FVec F S512x1024 .bf16 := broadcastInDim S512x1024 ![] bcast_S_S512x1024 main_cst_2
  let main_v9 : IVec S512x1024 1 := cmpf .ogt main_v0 main_v8
  let main_v10 : IVec S512x1024 1 := andi main_v7 main_v9
  (main_v5, main_v10)
-- ==== Kernel.lean ====
abbrev S4096x1024 : Shape := ⟨2, ![4096, 1024]⟩
abbrev S512x2048 : Shape := ⟨2, ![512, 2048]⟩
abbrev S512x1024 : Shape := ⟨2, ![512, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .bf16⟩
  | .hbm, ⟨4, _⟩ => ⟨S512x1024, .f32⟩
  | .hbm, ⟨5, _⟩ => ⟨S512x1024, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x1024 : Shape := ⟨2, ![4096, 1024]⟩
abbrev S512x2048 : Shape := ⟨2, ![512, 2048]⟩
abbrev S2x256x2048 : Shape := ⟨3, ![2, 256, 2048]⟩
abbrev S2x256x1024 : Shape := ⟨3, ![2, 256, 1024]⟩
abbrev S2x2048x1024 : Shape := ⟨3, ![2, 2048, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S512x1024 : Shape := ⟨2, ![512, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .f32⟩
  | .hbm, ⟨4, _⟩ => ⟨S512x2048, .f32⟩
  | .hbm, ⟨5, _⟩ => ⟨S4096x1024, .f32⟩
  | .hbm, ⟨6, _⟩ => ⟨S2x256x2048, .f32⟩
  | .hbm, ⟨7, _⟩ => ⟨S2x256x1024, .f32⟩
  | .hbm, ⟨8, _⟩ => ⟨S2x256x1024, .f32⟩
  | .hbm, ⟨9, _⟩ => ⟨S2x2048x1024, .f32⟩
  | .hbm, ⟨10, _⟩ => ⟨S2x2048x4x256, .f32⟩
  | .hbm, ⟨11, _⟩ => ⟨S2x256x4x256, .f32⟩
  | .hbm, ⟨12, _⟩ => ⟨S2x256x4x256, .f32⟩
  | .hbm, ⟨13, _⟩ => ⟨S2x4x2048x256, .f32⟩
  | .hbm, ⟨14, _⟩ => ⟨S_, .f32⟩
  | .hbm, ⟨15, _⟩ => ⟨S2x4x2048x256, .f32⟩
  | .hbm, ⟨16, _⟩ => ⟨S2x4x2048x256, .f32⟩
  | .hbm, ⟨17, _⟩ => ⟨S_, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .i1⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .f32⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S2x4x2048, .i1⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S_, .f32⟩
  | .hbm, ⟨39, _⟩ => ⟨S2x4x2048, .f32⟩
  | .hbm, ⟨40, _⟩ => ⟨S2x4x2048, .f32⟩
  | .hbm, ⟨41, _⟩ => ⟨S2x4x2048, .f32⟩
  | .hbm, ⟨42, _⟩ => ⟨S2x4x2048x1, .f32⟩
  | .hbm, ⟨43, _⟩ => ⟨S2x4x2048x256, .f32⟩
  | .hbm, ⟨44, _⟩ => ⟨S2x4x2048x256, .f32⟩
  | .hbm, ⟨45, _⟩ => ⟨S2x4x2048x256, .f32⟩
  | .hbm, ⟨46, _⟩ => ⟨S_, .f32⟩
  | .hbm, ⟨47, _⟩ => ⟨S2x4x2048, .f32⟩
  | .hbm, ⟨48, _⟩ => ⟨S2x4x2048x1, .f32⟩
  | .hbm, ⟨49, _⟩ => ⟨S2x4x2048x256, .f32⟩
  | .hbm, ⟨50, _⟩ => ⟨S2x4x2048x256, .f32⟩
  | .hbm, ⟨51, _⟩ => ⟨S2x4x2048x1, .f32⟩
  | .hbm, ⟨52, _⟩ => ⟨S_, .f32⟩
  | .hbm, ⟨53, _⟩ => ⟨S2x4x2048x1, .f32⟩
  | .hbm, ⟨54, _⟩ => ⟨S2x4x2048x1, .f32⟩
  | .hbm, ⟨55, _⟩ => ⟨S2x4x256x2048, .f32⟩
  | .hbm, ⟨56, _⟩ => ⟨S2x2048x4x256, .f32⟩
  | .hbm, ⟨57, _⟩ => ⟨S2x2048x1024, .f32⟩
  | .hbm, ⟨58, _⟩ => ⟨S2x2048x1024, .f32⟩
  | .hbm, ⟨59, _⟩ => ⟨S2x2048x4x256, .f32⟩
  | .hbm, ⟨60, _⟩ => ⟨S2x4x256x2048, .f32⟩
  | .hbm, ⟨61, _⟩ => ⟨S2x4x2048x256, .f32⟩
  | .hbm, ⟨62, _⟩ => ⟨S2x4x256x256, .f32⟩
  | .hbm, ⟨63, _⟩ => ⟨S2x256x4x256, .f32⟩
  | .hbm, ⟨64, _⟩ => ⟨S2x4x2048x256, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048, .f32⟩
  | .hbm, ⟨69, _⟩ => ⟨S2x4x2048x1, .f32⟩
  | .hbm, ⟨70, _⟩ => ⟨S2x4x2048x1, .f32⟩
  | .hbm, ⟨71, _⟩ => ⟨S2x4x2048x256, .f32⟩
  | .hbm, ⟨72, _⟩ => ⟨S2x4x2048x256, .f32⟩
  | .hbm, ⟨73, _⟩ => ⟨S_, .f32⟩
  | .hbm, ⟨74, _⟩ => ⟨S2x4x2048, .f32⟩
  | .hbm, ⟨75, _⟩ => ⟨S2x4x2048x256, .f32⟩
  | .hbm, ⟨76, _⟩ => ⟨S2x4x2048x256, .f32⟩
  | .hbm, ⟨77, _⟩ => ⟨S2x4x2048x256, .f32⟩
  | .hbm, ⟨78, _⟩ => ⟨S_, .f32⟩
  | .hbm, ⟨79, _⟩ => ⟨S2x4x2048x256, .f32⟩
  | .hbm, ⟨80, _⟩ => ⟨S2x4x2048x256, .f32⟩
  | .hbm, ⟨81, _⟩ => ⟨S2x4x256x256, .f32⟩
  | .hbm, ⟨82, _⟩ => ⟨S2x256x4x256, .f32⟩
  | .hbm, ⟨83, _⟩ => ⟨S2x4x2048x256, .f32⟩
  | .hbm, ⟨84, _⟩ => ⟨S2x2048x4x256, .f32⟩
  | .hbm, ⟨85, _⟩ => ⟨S2x256x1024, .f32⟩
  | .hbm, ⟨86, _⟩ => ⟨S2x256x1024, .f32⟩
  | .hbm, ⟨87, _⟩ => ⟨S2x2048x1024, .f32⟩
  | .hbm, ⟨88, _⟩ => ⟨S4096x1024, .f32⟩
  | .hbm, ⟨89, _⟩ => ⟨S4096x1024, .bf16⟩
  | .hbm, ⟨90, _⟩ => ⟨S512x1024, .f32⟩
  | .hbm, ⟨91, _⟩ => ⟨S512x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel2.lean ====
abbrev S2x4096x2816 : Shape := ⟨3, ![2, 4096, 2816]⟩
abbrev S1x1024x5632 : Shape := ⟨3, ![1, 1024, 5632]⟩
abbrev S4096x1024 : Shape := ⟨2, ![4096, 1024]⟩
abbrev S1024 : Shape := ⟨1, ![1024]⟩
abbrev S1x1024 : Shape := ⟨2, ![1, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1x1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1x1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x4096x2816 : Shape := ⟨3, ![2, 4096, 2816]⟩
abbrev S1x1024x5632 : Shape := ⟨3, ![1, 1024, 5632]⟩
abbrev S4096x1024 : Shape := ⟨2, ![4096, 1024]⟩
abbrev S1024 : Shape := ⟨1, ![1024]⟩
abbrev S1024x5632 : Shape := ⟨2, ![1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1x1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x5632, .bf16⟩
  | .hbm, ⟨6, _⟩ => ⟨S1024x5632, .f32⟩
  | .hbm, ⟨7, _⟩ => ⟨S1x4096x2816, .bf16⟩
  | .hbm, ⟨8, _⟩ => ⟨S4096x2816, .bf16⟩
  | .hbm, ⟨9, _⟩ => ⟨S1x4096x2816, .bf16⟩
  | .hbm, ⟨10, _⟩ => ⟨S4096x2816, .bf16⟩
  | .hbm, ⟨11, _⟩ => ⟨S4096x5632, .bf16⟩
  | .hbm, ⟨12, _⟩ => ⟨S4096x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel3.lean ====
abbrev S2x4096x512 : Shape := ⟨3, ![2, 4096, 512]⟩
abbrev S4096x512 : Shape := ⟨2, ![4096, 512]⟩
abbrev S2x4096x1024 : Shape := ⟨3, ![2, 4096, 1024]⟩
abbrev S1x1024x3584 : Shape := ⟨3, ![1, 1024, 3584]⟩
abbrev S4096x1024 : Shape := ⟨2, ![4096, 1024]⟩
abbrev S1024 : Shape := ⟨1, ![1024]⟩
abbrev S1x1024 : Shape := ⟨2, ![1, 1024]⟩
abbrev S2x512x512 : Shape := ⟨3, ![2, 512, 512]⟩
abbrev S512x512 : Shape := ⟨2, ![512, 512]⟩
abbrev S2x512x1024 : Shape := ⟨3, ![2, 512, 1024]⟩
abbrev S512x1024 : Shape := ⟨2, ![512, 1024]⟩
abbrev S1x512x512 : Shape := ⟨3, ![1, 512, 512]⟩
abbrev S1x1024x512 : Shape := ⟨3, ![1, 1024, 512]⟩
abbrev S1024x512 : Shape := ⟨2, ![1024, 512]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S2x4096x512, .bf16⟩
  | .hbm, ⟨1, _⟩ => ⟨S4096x512, .bf16⟩
  | .hbm, ⟨2, _⟩ => ⟨S2x4096x1024, .bf16⟩
  | .hbm, ⟨3, _⟩ => ⟨S1x1024x3584, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S2x512x512, .bf16⟩
  | .local _ .vmem, ⟨1, _⟩ => ⟨S2x512x512, .bf16⟩
  | .local _ .vmem, ⟨2, _⟩ => ⟨S512x512, .bf16⟩
  | .local _ .vmem, ⟨3, _⟩ => ⟨S512x512, .bf16⟩
  | .local _ .vmem, ⟨4, _⟩ => ⟨S2x512x1024, .bf16⟩
  | .local _ .vmem, ⟨5, _⟩ => ⟨S2x512x1024, .bf16⟩
  | .local _ .vmem, ⟨6, _⟩ => ⟨S1x1024x3584, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S2x4096x512 : Shape := ⟨3, ![2, 4096, 512]⟩
abbrev S4096x512 : Shape := ⟨2, ![4096, 512]⟩
abbrev S2x4096x1024 : Shape := ⟨3, ![2, 4096, 1024]⟩
abbrev S1x1024x3584 : Shape := ⟨3, ![1, 1024, 3584]⟩
abbrev S4096x1024 : Shape := ⟨2, ![4096, 1024]⟩
abbrev S1024 : Shape := ⟨1, ![1024]⟩
abbrev S1024x3584 : Shape := ⟨2, ![1024, 3584]⟩
abbrev S1x4096x512 : Shape := ⟨3, ![1, 4096, 512]⟩
abbrev S1x4096x1024 : Shape := ⟨3, ![1, 4096, 1024]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S4096x512, .bf16⟩
  | .hbm, ⟨2, _⟩ => ⟨S2x4096x1024, .bf16⟩
  | .hbm, ⟨3, _⟩ => ⟨S1x1024x3584, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1024x3584, .bf16⟩
  | .hbm, ⟨8, _⟩ => ⟨S1024x3584, .f32⟩
  | .hbm, ⟨9, _⟩ => ⟨S1x4096x512, .bf16⟩
  | .hbm, ⟨10, _⟩ => ⟨S4096x512, .bf16⟩
  | .hbm, ⟨11, _⟩ => ⟨S1x4096x512, .bf16⟩
  | .hbm, ⟨12, _⟩ => ⟨S4096x512, .bf16⟩
  | .hbm, ⟨13, _⟩ => ⟨S1x4096x1024, .bf16⟩
  | .hbm, ⟨14, _⟩ => ⟨S4096x1024, .bf16⟩
  | .hbm, ⟨15, _⟩ => ⟨S1x4096x1024, .bf16⟩
  | .hbm, ⟨16, _⟩ => ⟨S4096x1024, .bf16⟩
  | .hbm, ⟨17, _⟩ => ⟨S4096x3584, .bf16⟩
  | .hbm, ⟨18, _⟩ => ⟨S4096x3584, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x3584, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S1x1024, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel4.lean ====
abbrev S4096x1024 : Shape := ⟨2, ![4096, 1024]⟩
abbrev S1x1024x1024 : Shape := ⟨3, ![1, 1024, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x1024 : Shape := ⟨2, ![4096, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S4096x1024 : Shape := ⟨2, ![4096, 1024]⟩
abbrev S1x512x1024 : Shape := ⟨3, ![1, 512, 1024]⟩
abbrev S4096x512 : Shape := ⟨2, ![4096, 512]⟩
abbrev S512 : Shape := ⟨1, ![512]⟩
abbrev S1x512 : Shape := ⟨2, ![1, 512]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1x512x1024, .bf16⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S4096x512, .f32⟩
  | .hbm, ⟨8, _⟩ => ⟨S1x512, .f32⟩
  | .hbm, ⟨9, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x1024 : Shape := ⟨2, ![4096, 1024]⟩
abbrev S1x512x1024 : Shape := ⟨3, ![1, 512, 1024]⟩
abbrev S4096x512 : Shape := ⟨2, ![4096, 512]⟩
abbrev S512 : Shape := ⟨1, ![512]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x512x1024, .bf16⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S512x1024, .bf16⟩
  | .hbm, ⟨6, _⟩ => ⟨S512x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S4096x1024, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S4096x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S4096x512, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x512, .f32⟩
  | .hbm, ⟨76, _⟩ => ⟨S4096x512, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x512, .f32⟩
  | .hbm, ⟨98, _⟩ => ⟨S4096x512, .f32⟩
  | .hbm, ⟨99, _⟩ => ⟨S1x512, .f32⟩
  | .hbm, ⟨100, _⟩ => ⟨S1x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]
-- ==== Kernel6.lean ====
abbrev S4096x3584 : Shape := ⟨2, ![4096, 3584]⟩
abbrev S4096x1024 : Shape := ⟨2, ![4096, 1024]⟩
abbrev S1024 : Shape := ⟨1, ![1024]⟩
abbrev S1x1024 : Shape := ⟨2, ![1, 1024]⟩
abbrev S2x4096x1024 : Shape := ⟨3, ![2, 4096, 1024]⟩
abbrev S512x512 : Shape := ⟨2, ![512, 512]⟩
abbrev S1x512 : Shape := ⟨2, ![1, 512]⟩
abbrev S2x512x512 : Shape := ⟨3, ![2, 512, 512]⟩
abbrev S512 : Shape := ⟨1, ![512]⟩
abbrev S1x512x512 : Shape := ⟨3, ![1, 512, 512]⟩

abbrev nBuf : Space → Nat
  | .hbm => 10
  | .vmem => 20
  | .smem => 0
  | _ => 0

abbrev bufTy : (tb : Table) → Fin (tcTables nBuf tb) → BufTy
  | .hbm, ⟨0, _⟩ => ⟨S4096x3584, .f32⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S2x4096x1024, .bf16⟩
  | .hbm, ⟨7, _⟩ => ⟨S4096x1024, .bf16⟩
  | .hbm, ⟨8, _⟩ => ⟨S4096x1024, .bf16⟩
  | .hbm, ⟨9, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S2x512x512, .bf16⟩
  | .local _ .vmem, ⟨13, _⟩ => ⟨S2x512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | .local _ .vmem, ⟨19, _⟩ => ⟨S1x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference6Ideal.lean ====
abbrev S4096x3584 : Shape := ⟨2, ![4096, 3584]⟩
abbrev S4096x1024 : Shape := ⟨2, ![4096, 1024]⟩
abbrev S1024 : Shape := ⟨1, ![1024]⟩
abbrev S4096x512 : Shape := ⟨2, ![4096, 512]⟩
abbrev S_ : Shape := ⟨0, ![]⟩
abbrev S1x1024 : Shape := ⟨2, ![1, 1024]⟩
abbrev S1x4096x1024 : Shape := ⟨3, ![1, 4096, 1024]⟩
abbrev S2x4096x1024 : Shape := ⟨3, ![2, 4096, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x1024, .bf16⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x4096x1024, .f32⟩
  | .hbm, ⟨58, _⟩ => ⟨S1x4096x1024, .f32⟩
  | .hbm, ⟨59, _⟩ => ⟨S2x4096x1024, .f32⟩
  | .hbm, ⟨60, _⟩ => ⟨S2x4096x1024, .bf16⟩
  | .hbm, ⟨61, _⟩ => ⟨S4096x1024, .bf16⟩
  | .hbm, ⟨62, _⟩ => ⟨S4096x1024, .bf16⟩
  | .hbm, ⟨63, _⟩ => ⟨S1x1024, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel8.lean ====
abbrev S4096x1024 : Shape := ⟨2, ![4096, 1024]⟩
abbrev S2x4096x2816 : Shape := ⟨3, ![2, 4096, 2816]⟩
abbrev S1024x5632 : Shape := ⟨2, ![1024, 5632]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x5632, .f32⟩
  | .hbm, ⟨3, _⟩ => ⟨S1024x5632, .bf16⟩
  | .local _ .vmem, ⟨0, _⟩ => ⟨S4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x256 : Shape := ⟨2, ![4096, 256]⟩
abbrev S1408x256 : Shape := ⟨2, ![1408, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x256, .bf16⟩
  | .local _ .vmem, ⟨3, _⟩ => ⟨S4096x256, .bf16⟩
  | .local _ .vmem, ⟨4, _⟩ => ⟨S1408x256, .f32⟩
  | .local _ .vmem, ⟨5, _⟩ => ⟨S1408x256, .f32⟩
  | .local _ .vmem, ⟨6, _⟩ => ⟨S1408x256, .bf16⟩
  | .local _ .vmem, ⟨7, _⟩ => ⟨S1408x256, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S512x1024 : Shape := ⟨2, ![512, 1024]⟩
abbrev S4096x256 : Shape := ⟨2, ![4096, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .hbm, ⟨3, _⟩ => ⟨S512x1024, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S512x1024 : Shape := ⟨2, ![512, 1024]⟩
abbrev S512x2048 : Shape := ⟨2, ![512, 2048]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S512x2048, .f32⟩
  | .hbm, ⟨2, _⟩ => ⟨S1024x2048, .f32⟩
  | .hbm, ⟨3, _⟩ => ⟨S1024x2048, .bf16⟩
  | .local _ .vmem, ⟨0, _⟩ => ⟨S512x1024, .bf16⟩
  | .local _ .vmem, ⟨1, _⟩ => ⟨S512x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .f32⟩
  | .hbm, ⟨2, _⟩ => ⟨S_, .f32⟩
  | .hbm, ⟨3, _⟩ => ⟨S1024x2048, .f32⟩
  | .hbm, ⟨4, _⟩ => ⟨S512x1024, .f32⟩
  | .hbm, ⟨5, _⟩ => ⟨S512x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S2x4096x1024 : Shape := ⟨3, ![2, 4096, 1024]⟩
abbrev S1024x3584 : Shape := ⟨2, ![1024, 3584]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1024x3584, .f32⟩
  | .hbm, ⟨3, _⟩ => ⟨S1024x3584, .bf16⟩
  | .hbm, ⟨4, _⟩ => ⟨S1024x3584, .f32⟩
  | .hbm, ⟨5, _⟩ => ⟨S1024x3584, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S2x4096x1024 : Shape := ⟨3, ![2, 4096, 1024]⟩
abbrev S1024x3584 : Shape := ⟨2, ![1024, 3584]⟩
abbrev S1x4096x1024 : Shape := ⟨3, ![1, 4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x1536 : Shape := ⟨2, ![1024, 1536]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1024x3584, .f32⟩
  | .hbm, ⟨3, _⟩ => ⟨S1024x3584, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S4096x2048, .bf16⟩
  | .hbm, ⟨9, _⟩ => ⟨S4096x2048, .f32⟩
  | .hbm, ⟨10, _⟩ => ⟨S_, .f32⟩
  | .hbm, ⟨11, _⟩ => ⟨S1024x2048, .f32⟩
  | .hbm, ⟨12, _⟩ => ⟨S4096x1024, .f32⟩
  | .hbm, ⟨13, _⟩ => ⟨S4096x2048, .f32⟩
  | .hbm, ⟨14, _⟩ => ⟨S2048x1024, .f32⟩
  | .hbm, ⟨15, _⟩ => ⟨S1024x2048, .f32⟩
  | .hbm, ⟨16, _⟩ => ⟨S1024x1536, .f32⟩
  | .hbm, ⟨17, _⟩ => ⟨S1024x3584, .f32⟩
  | .hbm, ⟨18, _⟩ => ⟨S1024x1536, .bf16⟩
  | .hbm, ⟨19, _⟩ => ⟨S1024x2048, .bf16⟩
  | .hbm, ⟨20, _⟩ => ⟨S1024x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel35.lean ====
abbrev S4096x1024 : Shape := ⟨2, ![4096, 1024]⟩
abbrev S4096x512 : Shape := ⟨2, ![4096, 512]⟩
abbrev S1024x3584 : Shape := ⟨2, ![1024, 3584]⟩
abbrev S4096x256 : Shape := ⟨2, ![4096, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x3584, .f32⟩
  | .hbm, ⟨3, _⟩ => ⟨S1024x3584, .bf16⟩
  | .hbm, ⟨4, _⟩ => ⟨S1024x3584, .f32⟩
  | .hbm, ⟨5, _⟩ => ⟨S1024x3584, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference35Ideal.lean ====
abbrev S4096x1024 : Shape := ⟨2, ![4096, 1024]⟩
abbrev S4096x512 : Shape := ⟨2, ![4096, 512]⟩
abbrev S1024x3584 : Shape := ⟨2, ![1024, 3584]⟩
abbrev S_ : Shape := ⟨0, ![]⟩
abbrev S1024x512 : Shape := ⟨2, ![1024, 512]⟩
abbrev S512x1024 : Shape := ⟨2, ![512, 1024]⟩
abbrev S1024x1024 : Shape := ⟨2, ![1024, 1024]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x3584, .f32⟩
  | .hbm, ⟨3, _⟩ => ⟨S1024x3584, .bf16⟩
  | .hbm, ⟨4, _⟩ => ⟨S_, .f32⟩
  | .hbm, ⟨5, _⟩ => ⟨S1024x512, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S512x1024, .f32⟩
  | .hbm, ⟨10, _⟩ => ⟨S1024x512, .f32⟩
  | .hbm, ⟨11, _⟩ => ⟨S1024x1024, .f32⟩
  | .hbm, ⟨12, _⟩ => ⟨S1024x2048, .f32⟩
  | .hbm, ⟨13, _⟩ => ⟨S1024x3584, .f32⟩
  | .hbm, ⟨14, _⟩ => ⟨S1024x1024, .bf16⟩
  | .hbm, ⟨15, _⟩ => ⟨S1024x512, .bf16⟩
  | .hbm, ⟨16, _⟩ => ⟨S1024x2048, .bf16⟩
  | .hbm, ⟨17, _⟩ => ⟨S1024x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S4096x1024 : Shape := ⟨2, ![4096, 1024]⟩
abbrev S1x2816x1024 : Shape := ⟨3, ![1, 2816, 1024]⟩
abbrev S4096x2816 : Shape := ⟨2, ![4096, 2816]⟩
abbrev S1x256x1024 : Shape := ⟨3, ![1, 256, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .local _ .vmem, ⟨0, _⟩ => ⟨S4096x1024, .f32⟩
  | .local _ .vmem, ⟨1, _⟩ => ⟨S1x256x1024, .bf16⟩
  | .local _ .vmem, ⟨2, _⟩ => ⟨S1x256x1024, .bf16⟩
  | .local _ .vmem, ⟨3, _⟩ => ⟨S4096x256, .bf16⟩
  | .local _ .vmem, ⟨4, _⟩ => ⟨S4096x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1x2816x1024 : Shape := ⟨3, ![1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1x1024x1024 : Shape := ⟨3, ![1, 1024, 1024]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S512x2048 : Shape := ⟨2, ![512, 2048]⟩
abbrev S1x1024x2048 : Shape := ⟨3, ![1, 1024, 2048]⟩
abbrev S512x1024 : Shape := ⟨2, ![512, 1024]⟩
abbrev S1x256x2048 : Shape := ⟨3, ![1, 256, 2048]⟩
abbrev S512x256 : Shape := ⟨2, ![512, 256]⟩
abbrev S256x2048 : Shape := ⟨2, ![256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S1x1024x2048, .bf16⟩
  | .hbm, ⟨2, _⟩ => ⟨S512x1024, .f32⟩
  | .hbm, ⟨3, _⟩ => ⟨S512x1024, .f32⟩
  | .local _ .vmem, ⟨0, _⟩ => ⟨S512x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S512x2048 : Shape := ⟨2, ![512, 2048]⟩
abbrev S1x1024x2048 : Shape := ⟨3, ![1, 1024, 2048]⟩
abbrev S512x1024 : Shape := ⟨2, ![512, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x1024x2048, .bf16⟩
  | .hbm, ⟨2, _⟩ => ⟨S512x1024, .f32⟩
  | .hbm, ⟨3, _⟩ => ⟨S_, .f32⟩
  | .hbm, ⟨4, _⟩ => ⟨S512x1024, .f32⟩
  | .hbm, ⟨5, _⟩ => ⟨S1024x2048, .bf16⟩
  | .hbm, ⟨6, _⟩ => ⟨S1024x2048, .f32⟩
  | .hbm, ⟨7, _⟩ => ⟨S512x2048, .f32⟩
  | .hbm, ⟨8, _⟩ => ⟨S512x1024, .f32⟩
  | .hbm, ⟨9, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S1x1024x5632 : Shape := ⟨3, ![1, 1024, 5632]⟩
abbrev S4096x5632 : Shape := ⟨2, ![4096, 5632]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x5632, .f32⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1x1024x5632 : Shape := ⟨3, ![1, 1024, 5632]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x5632, .bf16⟩
  | .hbm, ⟨2, _⟩ => ⟨S4096x1024, .f32⟩
  | .hbm, ⟨3, _⟩ => ⟨S1024x5632, .bf16⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x1024 : Shape := ⟨2, ![4096, 1024]⟩
abbrev S1x1024x1024 : Shape := ⟨3, ![1, 1024, 1024]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S512x1024 : Shape := ⟨2, ![512, 1024]⟩
abbrev S1x1024x2048 : Shape := ⟨3, ![1, 1024, 2048]⟩
abbrev S512x2048 : Shape := ⟨2, ![512, 2048]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1x1024x2048, .bf16⟩
  | .hbm, ⟨2, _⟩ => ⟨S512x2048, .bf16⟩
  | .local _ .vmem, ⟨0, _⟩ => ⟨S512x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1x1024x2048, .bf16⟩
  | .hbm, ⟨2, _⟩ => ⟨S512x1024, .f32⟩
  | .hbm, ⟨3, _⟩ => ⟨S1024x2048, .bf16⟩
  | .hbm, ⟨4, _⟩ => ⟨S1024x2048, .f32⟩
  | .hbm, ⟨5, _⟩ => ⟨S512x2048, .f32⟩
  | .hbm, ⟨6, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S1x1024x1024 : Shape := ⟨3, ![1, 1024, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S4096x1024 : Shape := ⟨2, ![4096, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel21.lean ====
abbrev S4096x2816 : Shape := ⟨2, ![4096, 2816]⟩
abbrev S1x2816x1024 : Shape := ⟨3, ![1, 2816, 1024]⟩
abbrev S4096x1024 : Shape := ⟨2, ![4096, 1024]⟩
abbrev S2048x2816 : Shape := ⟨2, ![2048, 2816]⟩
abbrev S1x2816x256 : Shape := ⟨3, ![1, 2816, 256]⟩
abbrev S2048x256 : Shape := ⟨2, ![2048, 256]⟩
abbrev S2816x256 : Shape := ⟨2, ![2816, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .local _ .vmem, ⟨0, _⟩ => ⟨S2048x2816, .bf16⟩
  | .local _ .vmem, ⟨1, _⟩ => ⟨S2048x2816, .bf16⟩
  | .local _ .vmem, ⟨2, _⟩ => ⟨S1x2816x256, .bf16⟩
  | .local _ .vmem, ⟨3, _⟩ => ⟨S1x2816x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x512 : Shape := ⟨2, ![4096, 512]⟩
abbrev S512 : Shape := ⟨1, ![512]⟩
abbrev S1x512x1024 : Shape := ⟨3, ![1, 512, 1024]⟩
abbrev S1x512 : Shape := ⟨2, ![1, 512]⟩
abbrev S4096x1024 : Shape := ⟨2, ![4096, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S1x512x1024, .bf16⟩
  | .hbm, ⟨4, _⟩ => ⟨S1x512, .f32⟩
  | .hbm, ⟨5, _⟩ => ⟨S1x512, .f32⟩
  | .hbm, ⟨6, _⟩ => ⟨S4096x512, .bf16⟩
  | .hbm, ⟨7, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S1x512x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S4096x512 : Shape := ⟨2, ![4096, 512]⟩
abbrev S512 : Shape := ⟨1, ![512]⟩
abbrev S1x512x1024 : Shape := ⟨3, ![1, 512, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S512x1024 : Shape := ⟨2, ![512, 1024]⟩
abbrev S4096x1024 : Shape := ⟨2, ![4096, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S1x512x1024, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .bf16⟩
  | .hbm, ⟨41, _⟩ => ⟨S512x1024, .bf16⟩
  | .hbm, ⟨42, _⟩ => ⟨S512x1024, .f32⟩
  | .hbm, ⟨43, _⟩ => ⟨S4096x1024, .f32⟩
  | .hbm, ⟨44, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel23.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v58 : BitVec 1 := Scalar.cmpi .eq arg0 c7_i32
  let v59 : BitVec 32 := Scalar.extui v58
  let c0_i32_25 : BitVec 32 := 0#32
  let v60 : BitVec 1 := Scalar.cmpi .ne v59 c0_i32_25
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel25.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S1x1024, .f32⟩
  | .hbm, ⟨4, _⟩ => ⟨S512x1024, .f32⟩
  | .hbm, ⟨5, _⟩ => ⟨S512x1024, .bf16⟩
  | .hbm, ⟨6, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S1024, .f32⟩
  | .hbm, ⟨31, _⟩ => ⟨S512x1024, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S512x1024, .f32⟩
  | .hbm, ⟨36, _⟩ => ⟨S512x1024, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .bf16⟩
  | .hbm, ⟨49, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel26.lean ====
abbrev S4096x1024 : Shape := ⟨2, ![4096, 1024]⟩
abbrev S512x2048 : Shape := ⟨2, ![512, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1024x256, .bf16⟩
  | .local _ .vmem, ⟨7, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference26Ideal.lean ====
abbrev S4096x1024 : Shape := ⟨2, ![4096, 1024]⟩
abbrev S512x2048 : Shape := ⟨2, ![512, 2048]⟩
abbrev S2x256x2048 : Shape := ⟨3, ![2, 256, 2048]⟩
abbrev S2x256x1024 : Shape := ⟨3, ![2, 256, 1024]⟩
abbrev S2x2048x1024 : Shape := ⟨3, ![2, 2048, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S512x2048, .f32⟩
  | .hbm, ⟨3, _⟩ => ⟨S2x256x2048, .f32⟩
  | .hbm, ⟨4, _⟩ => ⟨S2x256x1024, .f32⟩
  | .hbm, ⟨5, _⟩ => ⟨S2x256x1024, .f32⟩
  | .hbm, ⟨6, _⟩ => ⟨S4096x1024, .f32⟩
  | .hbm, ⟨7, _⟩ => ⟨S2x2048x1024, .f32⟩
  | .hbm, ⟨8, _⟩ => ⟨S2x2048x4x256, .f32⟩
  | .hbm, ⟨9, _⟩ => ⟨S2x256x4x256, .f32⟩
  | .hbm, ⟨10, _⟩ => ⟨S2x256x4x256, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .f32⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S2x4x2048x1, .f32⟩
  | .hbm, ⟨27, _⟩ => ⟨S2x4x2048x256, .f32⟩
  | .hbm, ⟨28, _⟩ => ⟨S2x4x2048x256, .f32⟩
  | .hbm, ⟨29, _⟩ => ⟨S2x4x256x2048, .f32⟩
  | .hbm, ⟨30, _⟩ => ⟨S2x2048x4x256, .f32⟩
  | .hbm, ⟨31, _⟩ => ⟨S2x2048x1024, .f32⟩
  | .hbm, ⟨32, _⟩ => ⟨S4096x1024, .f32⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel27.lean ====
abbrev S4096x3584 : Shape := ⟨2, ![4096, 3584]⟩
abbrev S4096x1024 : Shape := ⟨2, ![4096, 1024]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x3584, .f32⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference27Ideal.lean ====
abbrev S4096x3584 : Shape := ⟨2, ![4096, 3584]⟩
abbrev S4096x1024 : Shape := ⟨2, ![4096, 1024]⟩
abbrev S1024 : Shape := ⟨1, ![1024]⟩
abbrev S4096x512 : Shape := ⟨2, ![4096, 512]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel28.lean ====
abbrev S4096x3584 : Shape := ⟨2, ![4096, 3584]⟩
abbrev S4x256x128 : Shape := ⟨3, ![4, 256, 128]⟩
abbrev S4096x1024 : Shape := ⟨2, ![4096, 1024]⟩
abbrev S4096x512 : Shape := ⟨2, ![4096, 512]⟩
abbrev S2048x128 : Shape := ⟨2, ![2048, 128]⟩
abbrev S1x256x128 : Shape := ⟨3, ![1, 256, 128]⟩
abbrev S2048x256 : Shape := ⟨2, ![2048, 256]⟩
abbrev S256x128 : Shape := ⟨2, ![256, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x3584, .f32⟩
  | .hbm, ⟨1, _⟩ => ⟨S4x256x128, .bf16⟩
  | .hbm, ⟨2, _⟩ => ⟨S4096x1024, .bf16⟩
  | .hbm, ⟨3, _⟩ => ⟨S4096x512, .bf16⟩
  | .hbm, ⟨4, _⟩ => ⟨S4x256x128, .f32⟩
  | .local _ .vmem, ⟨0, _⟩ => ⟨S2048x128, .f32⟩
  | .local _ .vmem, ⟨1, _⟩ => ⟨S2048x128, .f32⟩
  | .local _ .vmem, ⟨2, _⟩ => ⟨S1x256x128, .bf16⟩
  | .local _ .vmem, ⟨3, _⟩ => ⟨S1x256x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S1x256x128, .f32⟩
  | .local _ .vmem, ⟨9, _⟩ => ⟨S1x256x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference28Ideal.lean ====
abbrev S4096x3584 : Shape := ⟨2, ![4096, 3584]⟩
abbrev S4x256x128 : Shape := ⟨3, ![4, 256, 128]⟩
abbrev S4096x1024 : Shape := ⟨2, ![4096, 1024]⟩
abbrev S4096x512 : Shape := ⟨2, ![4096, 512]⟩
abbrev S2x2048x512 : Shape := ⟨3, ![2, 2048, 512]⟩
abbrev S4x128x256 : Shape := ⟨3, ![4, 128, 256]⟩
abbrev S2x2048x4x128 : Shape := ⟨4, ![2, 2048, 4, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S1x2048x2048 : Shape := ⟨3, ![1, 2048, 2048]⟩
abbrev S4x2048x2048 : Shape := ⟨3, ![4, 2048, 2048]⟩
abbrev S2048x4 : Shape := ⟨2, ![2048, 4]⟩
abbrev S4x2x128x2048 : Shape := ⟨4, ![4, 2, 128, 2048]⟩
abbrev S1x2048x4x1 : Shape := ⟨4, ![1, 2048, 4, 1]⟩
abbrev S4x256x2x2048 : Shape := ⟨4, ![4, 256, 2, 2048]⟩
abbrev S2x2048x4x256 : Shape := ⟨4, ![2, 2048, 4, 256]⟩
abbrev S2x2048x1024 : Shape := ⟨3, ![2, 2048, 1024]⟩
abbrev S4x2x2048x128 : Shape := ⟨4, ![4, 2, 2048, 128]⟩

abbrev nBuf : Space → Nat
  | .hbm => 135
  | .vmem => 0
  | .smem => 0
  | _ => 0

abbrev hbmTy0_0 (i : Nat) : BufTy := match i % 128 with
  | 0 => ⟨S4096x3584, .f32⟩
  | 1 => ⟨S4x256x128, .bf16⟩
  | 2 => ⟨S4096x1024, .bf16⟩
  | 3 => ⟨S4096x512, .f32⟩
  | 4 => ⟨S2x2048x512, .f32⟩
  | 5 => ⟨S4x128x256, .bf16⟩
  | 6 => ⟨S4x128x256, .f32⟩
  | 7 => ⟨S2x2048x4x128, .f32⟩
  | 8 => ⟨S2048, .i32⟩
  | 9 => ⟨S1x2048, .i32⟩
  | 10 => ⟨S2048x1, .i32⟩
  | 11 => ⟨S2048x2048, .i32⟩
  | 12 => ⟨S2048x2048, .i32⟩
  | 13 => ⟨S2048x2048, .i1⟩
  | 14 => ⟨S2048x1, .i32⟩
  | 15 => ⟨S1x2048, .i32⟩
  | 16 => ⟨S_, .i32⟩
  | 17 => ⟨S1x2048, .i32⟩
  | 18 => ⟨S1x2048, .i32⟩
  | 19 => ⟨S2048x2048, .i32⟩
  | 20 => ⟨S2048x2048, .i32⟩
  | 21 => ⟨S2048x2048, .i1⟩
  | 22 => ⟨S2048x2048, .i1⟩
  | 23 => ⟨S1x2048, .i32⟩
  | 24 => ⟨S2048x1, .i32⟩
  | 25 => ⟨S2048x2048, .i32⟩
  | 26 => ⟨S2048x2048, .i32⟩
  | 27 => ⟨S2048x2048, .i1⟩
  | 28 => ⟨S2048x1, .i32⟩
  | 29 => ⟨S1x2048, .i32⟩
  | 30 => ⟨S_, .i32⟩
  | 31 => ⟨S1x2048, .i32⟩
  | 32 => ⟨S1x2048, .i32⟩
  | 33 => ⟨S2048x2048, .i32⟩
  | 34 => ⟨S2048x2048, .i32⟩
  | 35 => ⟨S2048x2048, .i1⟩
  | 36 => ⟨S2048x2048, .i1⟩
  | 37 => ⟨S1x2048, .i32⟩
  | 38 => ⟨S2048x1, .i32⟩
  | 39 => ⟨S2048x2048, .i32⟩
  | 40 => ⟨S2048x2048, .i32⟩
  | 41 => ⟨S2048x2048, .i1⟩
  | 42 => ⟨S2048x1, .i32⟩
  | 43 => ⟨S1x2048, .i32⟩
  | 44 => ⟨S_, .i32⟩
  | 45 => ⟨S1x2048, .i32⟩
  | 46 => ⟨S1x2048, .i32⟩
  | 47 => ⟨S2048x2048, .i32⟩
  | 48 => ⟨S2048x2048, .i32⟩
  | 49 => ⟨S2048x2048, .i1⟩
  | 50 => ⟨S2048x2048, .i1⟩
  | 51 => ⟨S1x2048, .i32⟩
  | 52 => ⟨S2048x1, .i32⟩
  | 53 => ⟨S2048x2048, .i32⟩
  | 54 => ⟨S2048x2048, .i32⟩
  | 55 => ⟨S2048x2048, .i1⟩
  | 56 => ⟨S2048x1, .i32⟩
  | 57 => ⟨S1x2048, .i32⟩
  | 58 => ⟨S_, .i32⟩
  | 59 => ⟨S1x2048, .i32⟩
  | 60 => ⟨S1x2048, .i32⟩
  | 61 => ⟨S2048x2048, .i32⟩
  | 62 => ⟨S2048x2048, .i32⟩
  | 63 => ⟨S2048x2048, .i1⟩
  | 64 => ⟨S2048x2048, .i1⟩
  | 65 => ⟨S2048x2048, .f32⟩
  | 66 => ⟨S2048x2048, .f32⟩
  | 67 => ⟨S2048x2048, .f32⟩
  | 68 => ⟨S2048x2048, .f32⟩
  | 69 => ⟨S1x2048x2048, .f32⟩
  | 70 => ⟨S1x2048x2048, .f32⟩
  | 71 => ⟨S1x2048x2048, .f32⟩
  | 72 => ⟨S1x2048x2048, .f32⟩
  | 73 => ⟨S4x2048x2048, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S2048, .f32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S2048, .f32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S2048, .f32⟩
  | 102 => ⟨S2048x1, .f32⟩
  | 103 => ⟨S2048x1, .f32⟩
  | 104 => ⟨S2048x1, .f32⟩
  | 105 => ⟨S2048x1, .f32⟩
  | 106 => ⟨S2048x4, .f32⟩
  | 107 => ⟨S4x2x128x2048, .f32⟩
  | 108 => ⟨S2x2048x4x128, .f32⟩
  | 109 => ⟨S1x2048x4x1, .f32⟩
  | 110 => ⟨S2x2048x4x128, .f32⟩
  | 111 => ⟨S2x2048x4x128, .f32⟩
  | 112 => ⟨S2x2048x4x128, .f32⟩
  | 113 => ⟨S4x256x2x2048, .f32⟩
  | 114 => ⟨S2x2048x4x256, .f32⟩
  | 115 => ⟨S2x2048x1024, .f32⟩
  | 116 => ⟨S4096x1024, .f32⟩
  | 117 => ⟨S2x2048x1024, .f32⟩
  | 118 => ⟨S2x2048x4x256, .f32⟩
  | 119 => ⟨S4x256x2x2048, .f32⟩
  | 120 => ⟨S4x2x2048x128, .f32⟩
  | 121 => ⟨S2x2048x4x128, .f32⟩
  | 122 => ⟨S4x256x128, .f32⟩
  | 123 => ⟨S4x128x256, .f32⟩
  | 124 => ⟨S2x2048x4x128, .f32⟩
  | 125 => ⟨S2x2048x4x128, .f32⟩
  | 126 => ⟨S2x2048x4x128, .f32⟩
  | 127 => ⟨S4x2x128x2048, .f32⟩
  | _ => ⟨S4096x3584, .f32⟩

abbrev hbmTy0_1 (i : Nat) : BufTy := match i % 128 with
  | 0 => ⟨S4x2x128x2048, .f32⟩
  | 1 => ⟨S2x2048x4x128, .f32⟩
  | 2 => ⟨S2x2048x4x128, .f32⟩
  | 3 => ⟨S2x2048x512, .f32⟩
  | 4 => ⟨S4096x512, .f32⟩
  | 5 => ⟨S4096x512, .bf16⟩
  | 6 => ⟨S4x256x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c_1 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_c_2 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_c_3 : Ref sig .tc := ⟨.hbm, 74, rfl⟩
abbrev main_v67 : Ref sig .tc := ⟨.hbm, 75, rfl⟩
abbrev main_v68 : Ref sig .tc := ⟨.hbm, 76, rfl⟩
abbrev main_c_4 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_c_5 : Ref sig .tc := ⟨.hbm, 81, rfl⟩
abbrev main_v72 : Ref sig .tc := ⟨.hbm, 82, rfl⟩
abbrev main_v73 : Ref sig .tc := ⟨.hbm, 83, rfl⟩
abbrev main_c_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_c_7 : Ref sig .tc := ⟨.hbm, 88, rfl⟩
abbrev main_v77 : Ref sig .tc := ⟨.hbm, 89, rfl⟩
abbrev main_v78 : Ref sig .tc := ⟨.hbm, 90, rfl⟩
abbrev main_c_8 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_9 : Ref sig .tc := ⟨.hbm, 95, rfl⟩
abbrev main_v82 : Ref sig .tc := ⟨.hbm, 96, rfl⟩
abbrev main_v83 : Ref sig .tc := ⟨.hbm, 97, rfl⟩
abbrev main_c_10 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩

abbrev nD : Nat := 1
abbrev τ : Topo := Topo.v7x

variable {F : FTy → Type} [FloatOps F]
-- ==== Kernel30.lean ====
abbrev S4096x5632 : Shape := ⟨2, ![4096, 5632]⟩
abbrev S3x5632 : Shape := ⟨2, ![3, 5632]⟩
abbrev S4096x2816 : Shape := ⟨2, ![4096, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference30Ideal.lean ====
abbrev S4096x5632 : Shape := ⟨2, ![4096, 5632]⟩
abbrev S3x5632 : Shape := ⟨2, ![3, 5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S5632 : Shape := ⟨1, ![5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2x2048x5632, .f32⟩
  | .hbm, ⟨3, _⟩ => ⟨S_, .f32⟩
  | .hbm, ⟨4, _⟩ => ⟨S2x2x5632, .f32⟩
  | .hbm, ⟨5, _⟩ => ⟨S2x2050x5632, .f32⟩
  | .hbm, ⟨6, _⟩ => ⟨S2x2048x5632, .f32⟩
  | .hbm, ⟨7, _⟩ => ⟨S1x5632, .f32⟩
  | .hbm, ⟨8, _⟩ => ⟨S5632, .f32⟩
  | .hbm, ⟨9, _⟩ => ⟨S1x1x5632, .f32⟩
  | .hbm, ⟨10, _⟩ => ⟨S2x2048x5632, .f32⟩
  | .hbm, ⟨11, _⟩ => ⟨S2x2048x5632, .f32⟩
  | .hbm, ⟨12, _⟩ => ⟨S_, .f32⟩
  | .hbm, ⟨13, _⟩ => ⟨S2x2048x5632, .f32⟩
  | .hbm, ⟨14, _⟩ => ⟨S2x2048x5632, .f32⟩
  | .hbm, ⟨15, _⟩ => ⟨S2x2048x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S_, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S4096x2816, .f32⟩
  | .hbm, ⟨50, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel33.lean ====
abbrev S4096x3584 : Shape := ⟨2, ![4096, 3584]⟩
abbrev S4x256x128 : Shape := ⟨3, ![4, 256, 128]⟩
abbrev S4096x1024 : Shape := ⟨2, ![4096, 1024]⟩
abbrev S2048x128 : Shape := ⟨2, ![2048, 128]⟩
abbrev S1x256x128 : Shape := ⟨3, ![1, 256, 128]⟩
abbrev S2048x256 : Shape := ⟨2, ![2048, 256]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x3584, .f32⟩
  | .hbm, ⟨1, _⟩ => ⟨S4x256x128, .bf16⟩
  | .hbm, ⟨2, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S1x256x128, .bf16⟩
  | .local _ .vmem, ⟨3, _⟩ => ⟨S1x256x128, .bf16⟩
  | .local _ .vmem, ⟨4, _⟩ => ⟨S2048x256, .bf16⟩
  | .local _ .vmem, ⟨5, _⟩ => ⟨S2048x256, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S4096x3584 : Shape := ⟨2, ![4096, 3584]⟩
abbrev S4x256x128 : Shape := ⟨3, ![4, 256, 128]⟩
abbrev S4096x512 : Shape := ⟨2, ![4096, 512]⟩
abbrev S2x2048x512 : Shape := ⟨3, ![2, 2048, 512]⟩
abbrev S4x128x256 : Shape := ⟨3, ![4, 128, 256]⟩
abbrev S2x2048x4x128 : Shape := ⟨4, ![2, 2048, 4, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x2048x1x128 : Shape := ⟨4, ![2, 2048, 1, 128]⟩
abbrev S2x2048x128 : Shape := ⟨3, ![2, 2048, 128]⟩
abbrev S2x128x2048 : Shape := ⟨3, ![2, 128, 2048]⟩
abbrev S1x2048x1 : Shape := ⟨3, ![1, 2048, 1]⟩
abbrev S4x256x2x2048 : Shape := ⟨4, ![4, 256, 2, 2048]⟩
abbrev S2x2048x4x256 : Shape := ⟨4, ![2, 2048, 4, 256]⟩
abbrev S4096x1024 : Shape := ⟨2, ![4096, 1024]⟩

abbrev nBuf : Space → Nat
  | .hbm => 145
  | .vmem => 0
  | .smem => 0
  | _ => 0

abbrev hbmTy0_0 (i : Nat) : BufTy := match i % 128 with
  | 0 => ⟨S4096x3584, .f32⟩
  | 1 => ⟨S4x256x128, .bf16⟩
  | 2 => ⟨S4096x512, .f32⟩
  | 3 => ⟨S2x2048x512, .f32⟩
  | 4 => ⟨S4x128x256, .bf16⟩
  | 5 => ⟨S4x128x256, .f32⟩
  | 6 => ⟨S2x2048x4x128, .f32⟩
  | 7 => ⟨S2048, .i32⟩
  | 8 => ⟨S1x2048, .i32⟩
  | 9 => ⟨S2048x1, .i32⟩
  | 10 => ⟨S2048x2048, .i32⟩
  | 11 => ⟨S2048x2048, .i32⟩
  | 12 => ⟨S2048x2048, .i1⟩
  | 13 => ⟨S2048x1, .i32⟩
  | 14 => ⟨S1x2048, .i32⟩
  | 15 => ⟨S_, .i32⟩
  | 16 => ⟨S1x2048, .i32⟩
  | 17 => ⟨S1x2048, .i32⟩
  | 18 => ⟨S2048x2048, .i32⟩
  | 19 => ⟨S2048x2048, .i32⟩
  | 20 => ⟨S2048x2048, .i1⟩
  | 21 => ⟨S2048x2048, .i1⟩
  | 22 => ⟨S2048x2048, .f32⟩
  | 23 => ⟨S2x2048x1x128, .f32⟩
  | 24 => ⟨S2x2048x128, .f32⟩
  | 25 => ⟨S2x128x2048, .f32⟩
  | 26 => ⟨S2x2048x128, .f32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S2048, .f32⟩
  | 34 => ⟨S1x2048x1, .f32⟩
  | 35 => ⟨S2x2048x128, .f32⟩
  | 36 => ⟨S2x2048x128, .f32⟩
  | 37 => ⟨S2x2048x1x128, .f32⟩
  | 38 => ⟨S2x2048x128, .f32⟩
  | 39 => ⟨S2x2048x128, .f32⟩
  | 40 => ⟨S1x2048, .i32⟩
  | 41 => ⟨S2048x1, .i32⟩
  | 42 => ⟨S2048x2048, .i32⟩
  | 43 => ⟨S2048x2048, .i32⟩
  | 44 => ⟨S2048x2048, .i1⟩
  | 45 => ⟨S2048x1, .i32⟩
  | 46 => ⟨S1x2048, .i32⟩
  | 47 => ⟨S_, .i32⟩
  | 48 => ⟨S1x2048, .i32⟩
  | 49 => ⟨S1x2048, .i32⟩
  | 50 => ⟨S2048x2048, .i32⟩
  | 51 => ⟨S2048x2048, .i32⟩
  | 52 => ⟨S2048x2048, .i1⟩
  | 53 => ⟨S2048x2048, .i1⟩
  | 54 => ⟨S2048x2048, .f32⟩
  | 55 => ⟨S2x2048x1x128, .f32⟩
  | 56 => ⟨S2x2048x128, .f32⟩
  | 57 => ⟨S2x128x2048, .f32⟩
  | 58 => ⟨S2x2048x128, .f32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048, .f32⟩
  | 66 => ⟨S1x2048x1, .f32⟩
  | 67 => ⟨S2x2048x128, .f32⟩
  | 68 => ⟨S2x2048x128, .f32⟩
  | 69 => ⟨S2x2048x1x128, .f32⟩
  | 70 => ⟨S2x2048x128, .f32⟩
  | 71 => ⟨S2x2048x128, .f32⟩
  | 72 => ⟨S1x2048, .i32⟩
  | 73 => ⟨S2048x1, .i32⟩
  | 74 => ⟨S2048x2048, .i32⟩
  | 75 => ⟨S2048x2048, .i32⟩
  | 76 => ⟨S2048x2048, .i1⟩
  | 77 => ⟨S2048x1, .i32⟩
  | 78 => ⟨S1x2048, .i32⟩
  | 79 => ⟨S_, .i32⟩
  | 80 => ⟨S1x2048, .i32⟩
  | 81 => ⟨S1x2048, .i32⟩
  | 82 => ⟨S2048x2048, .i32⟩
  | 83 => ⟨S2048x2048, .i32⟩
  | 84 => ⟨S2048x2048, .i1⟩
  | 85 => ⟨S2048x2048, .i1⟩
  | 86 => ⟨S2048x2048, .f32⟩
  | 87 => ⟨S2x2048x1x128, .f32⟩
  | 88 => ⟨S2x2048x128, .f32⟩
  | 89 => ⟨S2x128x2048, .f32⟩
  | 90 => ⟨S2x2048x128, .f32⟩
  | 91 => ⟨S_, .i32⟩
  | 92 => ⟨S2048, .i32⟩
  | 93 => ⟨S2048, .i32⟩
  | 94 => ⟨S_, .i32⟩
  | 95 => ⟨S2048, .i32⟩
  | 96 => ⟨S2048, .i32⟩
  | 97 => ⟨S2048, .f32⟩
  | 98 => ⟨S1x2048x1, .f32⟩
  | 99 => ⟨S2x2048x128, .f32⟩
  | 100 => ⟨S2x2048x128, .f32⟩
  | 101 => ⟨S2x2048x1x128, .f32⟩
  | 102 => ⟨S2x2048x128, .f32⟩
  | 103 => ⟨S2x2048x128, .f32⟩
  | 104 => ⟨S1x2048, .i32⟩
  | 105 => ⟨S2048x1, .i32⟩
  | 106 => ⟨S2048x2048, .i32⟩
  | 107 => ⟨S2048x2048, .i32⟩
  | 108 => ⟨S2048x2048, .i1⟩
  | 109 => ⟨S2048x1, .i32⟩
  | 110 => ⟨S1x2048, .i32⟩
  | 111 => ⟨S_, .i32⟩
  | 112 => ⟨S1x2048, .i32⟩
  | 113 => ⟨S1x2048, .i32⟩
  | 114 => ⟨S2048x2048, .i32⟩
  | 115 => ⟨S2048x2048, .i32⟩
  | 116 => ⟨S2048x2048, .i1⟩
  | 117 => ⟨S2048x2048, .i1⟩
  | 118 => ⟨S2048x2048, .f32⟩
  | 119 => ⟨S2x2048x1x128, .f32⟩
  | 120 => ⟨S2x2048x128, .f32⟩
  | 121 => ⟨S2x128x2048, .f32⟩
  | 122 => ⟨S2x2048x128, .f32⟩
  | 123 => ⟨S_, .i32⟩
  | 124 => ⟨S2048, .i32⟩
  | 125 => ⟨S2048, .i32⟩
  | 126 => ⟨S_, .i32⟩
  | 127 => ⟨S2048, .i32⟩
  | _ => ⟨S4096x3584, .f32⟩

abbrev hbmTy0_1 (i : Nat) : BufTy := match i % 128 with
  | 0 => ⟨S2048, .i32⟩
  | 1 => ⟨S2048, .f32⟩
  | 2 => ⟨S1x2048x1, .f32⟩
  | 3 => ⟨S2x2048x128, .f32⟩
  | 4 => ⟨S2x2048x128, .f32⟩
  | 5 => ⟨S2x2048x1x128, .f32⟩
  | 6 => ⟨S2x2048x128, .f32⟩
  | 7 => ⟨S2x2048x128, .f32⟩
  | 8 => ⟨S2x2048x1x128, .f32⟩
  | 9 => ⟨S2x2048x1x128, .f32⟩
  | 10 => ⟨S2x2048x1x128, .f32⟩
  | 11 => ⟨S2x2048x1x128, .f32⟩
  | 12 => ⟨S2x2048x4x128, .f32⟩
  | 13 => ⟨S4x256x2x2048, .f32⟩
  | 14 => ⟨S2x2048x4x256, .f32⟩
  | 15 => ⟨S4096x1024, .f32⟩
  | 16 => ⟨S4096x1024, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_c_0 : Ref sig .tc := ⟨.hbm, 27, rfl⟩
abbrev main_v24 : Ref sig .tc := ⟨.hbm, 28, rfl⟩
abbrev main_v25 : Ref sig .tc := ⟨.hbm, 29, rfl⟩
abbrev main_c_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_c_3 : Ref sig .tc := ⟨.hbm, 59, rfl⟩
abbrev main_v53 : Ref sig .tc := ⟨.hbm, 60, rfl⟩
abbrev main_v54 : Ref sig .tc := ⟨.hbm, 61, rfl⟩
abbrev main_c_4 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_c_5 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_c_6 : Ref sig .tc := ⟨.hbm, 91, rfl⟩
abbrev main_v82 : Ref sig .tc := ⟨.hbm, 92, rfl⟩
abbrev main_v83 : Ref sig .tc := ⟨.hbm, 93, rfl⟩
abbrev main_c_7 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_c_8 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_c_9 : Ref sig .tc := ⟨.hbm, 123, rfl⟩
abbrev main_v111 : Ref sig .tc := ⟨.hbm, 124, rfl⟩
abbrev main_v112 : Ref sig .tc := ⟨.hbm, 125, rfl⟩
abbrev main_c_10 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩

abbrev nD : Nat := 1
abbrev τ : Topo := Topo.v7x

variable {F : FTy → Type} [FloatOps F]
-- ==== Kernel32.lean ====
abbrev S4096x1024 : Shape := ⟨2, ![4096, 1024]⟩
abbrev S1x1024x3584 : Shape := ⟨3, ![1, 1024, 3584]⟩
abbrev S4096x3584 : Shape := ⟨2, ![4096, 3584]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x3584, .bf16⟩
  | .hbm, ⟨2, _⟩ => ⟨S4096x3584, .f32⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x1024 : Shape := ⟨2, ![4096, 1024]⟩
abbrev S1x1024x3584 : Shape := ⟨3, ![1, 1024, 3584]⟩
abbrev S1024x3584 : Shape := ⟨2, ![1024, 3584]⟩
abbrev S4096x3584 : Shape := ⟨2, ![4096, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x3584, .bf16⟩
  | .hbm, ⟨2, _⟩ => ⟨S4096x1024, .f32⟩
  | .hbm, ⟨3, _⟩ => ⟨S1024x3584, .bf16⟩
  | .hbm, ⟨4, _⟩ => ⟨S1024x3584, .f32⟩
  | .hbm, ⟨5, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel34.lean ====
abbrev S4096x1024 : Shape := ⟨2, ![4096, 1024]⟩
abbrev S1x2816x1024 : Shape := ⟨3, ![1, 2816, 1024]⟩
abbrev S4096x2816 : Shape := ⟨2, ![4096, 2816]⟩
abbrev S1x256x1024 : Shape := ⟨3, ![1, 256, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S4096x2816, .bf16⟩
  | .local _ .vmem, ⟨0, _⟩ => ⟨S4096x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S4096x256, .bf16⟩
  | .local _ .vmem, ⟨4, _⟩ => ⟨S4096x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4096x1024 : Shape := ⟨2, ![4096, 1024]⟩
abbrev S1x2816x1024 : Shape := ⟨3, ![1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Attn.Row.lean ====
/-
  One query row of the memory attention and its gradient, over the extended reals.

  A row has the query `q`, the cotangent `o`, and the keys `k` and values `v` of its head. Its scores are the products
  `q · kₘ` times the scale, its probabilities the exponentials of the scores less their largest, divided by their sum.
  `dscore` is the gradient of the row's scores as the softmax rule with probabilities writes it; `dscoreRule` is the same
  gradient as the derivative of exponential, sum and quotient one after the other writes it. The two agree as soon as the
  row's exponentials are positive reals (`dscoreRule_eq`), which holds when the query and the keys are finite.
-/
module

public import Idealize.ShloMosaic.Lib.Pointwise
public import Idealize.ShloMosaic.PureOps.Ideal.Laws

@[expose] public section

noncomputable section

namespace Cert.Attn

open Idealize.ShloMosaic

/-- The scale of the scores, one sixteenth, as its 32-bit pattern. -/
abbrev scale : EReal := FloatOps.ofBits (F := Ideal) .f32 0x3D800000#32
/-- The starting value of the largest score: minus infinity as its 32-bit pattern. -/
abbrev low : EReal := FloatOps.ofBits (F := Ideal) .f32 0xFF800000#32

variable {n d : ℕ}

/-- The scores of a row. -/
def score (q : Fin d → EReal) (k : Fin n → Fin d → EReal) (m : Fin n) : EReal := (∑ j, q j * k m j) * scale
/-- The largest of some values. -/
def top (x : Fin n → EReal) : EReal := Finset.univ.fold max low x
/-- The exponentials of some values less the largest. -/
def expo (x : Fin n → EReal) (m : Fin n) : EReal := Ideal.exp (x m - top x)
/-- The softmax of some values. -/
def soft (x : Fin n → EReal) (m : Fin n) : EReal := Ideal.div (expo x m) (∑ i, expo x i)
/-- The cotangent of the probabilities of a row. -/
def dprob (o : Fin d → EReal) (v : Fin n → Fin d → EReal) (m : Fin n) : EReal := ∑ j, o j * v m j
/-- The gradient of the scores, written with the probabilities. -/
def dscore (x y : Fin n → EReal) (m : Fin n) : EReal := soft x m * (y m - ∑ i, y i * soft x i) * scale
/-- The gradient of the scores, written as the derivatives of exponential, sum and quotient in turn. -/
def dscoreRule (x y : Fin n → EReal) (m : Fin n) : EReal :=
  (Ideal.div (y m) (∑ i, expo x i) + -∑ i, y i * Ideal.div 1 ((∑ i, expo x i) * ∑ i, expo x i) * expo x i) * expo x m * scale

/-- A non-negative real factor goes into a sum of extended reals. -/
theorem mul_sum_of_real {ι : Type} (s : Finset ι) (f : ι → EReal) (r : EReal) (h0 : 0 ≤ r) (ht : r ≠ ⊤) :
    r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

/-- A finite extended real is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by norm_cast⟩

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

theorem IsReal.of_lt {x : EReal} (h : x < ⊤) (h' : ⊥ < x) : IsReal x :=
  ⟨x.toReal, (EReal.coe_toReal h.ne h'.ne').symm⟩

theorem low_eq : low = ⊥ := by
  simp [low, Ideal.ofBits, Ideal.ieee]

theorem scale_isReal : IsReal scale := by
  simp [scale, Ideal.ofBits, Ideal.ieee]
  exact ⟨_, rfl⟩

/-- The largest of at least one real value is real. -/
theorem top_isReal [NeZero n] (x : Fin n → EReal) (h : ∀ m, IsReal (x m)) : IsReal (top x) := by
  have key : ∀ s : Finset (Fin n), s.fold max low x = ⊥ ∨ IsReal (s.fold max low x) := by
    intro s
    induction s using Finset.induction_on with
    | empty => exact .inl (by rw [Finset.fold_empty, low_eq])
    | insert a s ha ih =>
      rw [Finset.fold_insert ha]
      right
      rcases ih with e | e
      · rw [e, max_eq_left bot_le]; exact h a
      · rcases max_choice (x a) (s.fold max low x) with e' | e' <;> rw [e']
        · exact h a
        · exact e
  rcases key Finset.univ with e | e
  · exfalso
    have h1 : x 0 ≤ Finset.univ.fold max low x := (Finset.le_fold_max _).mpr (.inr ⟨0, Finset.mem_univ _, le_rfl⟩)
    rw [e, le_bot_iff] at h1
    obtain ⟨r, hr⟩ := h 0
    rw [hr] at h1
    exact EReal.coe_ne_bot r h1
  · exact e

/-- The exponentials of real values are positive reals. -/
theorem expo_pos [NeZero n] (x : Fin n → EReal) (h : ∀ m, IsReal (x m)) (m : Fin n) :
    ∃ r : ℝ, 0 < r ∧ expo x m = (r : EReal) := by
  obtain ⟨a, ha⟩ := h m
  obtain ⟨b, hb⟩ := top_isReal x h
  refine ⟨Real.exp (a - b), Real.exp_pos _, ?_⟩
  unfold expo
  rw [ha, hb, ← EReal.coe_sub]
  rfl

/-- The two forms of the gradient of a row's scores agree when the scores are real. -/
theorem dscoreRule_eq [NeZero n] (x y : Fin n → EReal) (h : ∀ m, IsReal (x m)) (m : Fin n) :
    dscoreRule x y m = dscore x y m := by
  choose e he0 he using expo_pos x h
  have hS : ∑ i, expo x i = ((∑ i, e i : ℝ) : EReal) := by
    rw [coe_sum]; exact Finset.sum_congr rfl fun i _ => he i
  have hpos : 0 < ∑ i, e i := Finset.sum_pos (fun i _ => he0 i) ⟨0, Finset.mem_univ _⟩
  generalize hs : ∑ i, e i = s at hS hpos
  have hd : ∀ z : EReal, Ideal.div z ((s : ℝ) : EReal) = z * ((s⁻¹ : ℝ) : EReal) := fun z => by
    unfold Ideal.div
    rw [if_neg (by exact_mod_cast hpos.ne'), ← EReal.coe_inv]
  have hd2 : Ideal.div 1 (((s : ℝ) : EReal) * ((s : ℝ) : EReal)) = ((s⁻¹ : ℝ) : EReal) * ((s⁻¹ : ℝ) : EReal) := by
    unfold Ideal.div
    rw [← EReal.coe_mul, if_neg (by exact_mod_cast (mul_pos hpos hpos).ne'), ← EReal.coe_inv, ← EReal.coe_mul, one_mul]
    congr 1
    rw [mul_inv]
  unfold dscoreRule dscore soft
  rw [hS]
  simp only [hd, hd2]
  generalize hr : ((s⁻¹ : ℝ) : EReal) = r
  have hr0 : 0 ≤ r := by rw [← hr]; exact_mod_cast (inv_pos.mpr hpos).le
  have hrt : r ≠ ⊤ := by rw [← hr]; exact EReal.coe_ne_top _
  have h1 : ∑ i, y i * (r * r) * expo x i = r * ∑ i, y i * (expo x i * r) := by
    rw [mul_sum_of_real _ _ _ hr0 hrt]
    exact Finset.sum_congr rfl fun i _ => by ac_rfl
  rw [h1, ← mul_neg, mul_comm (y m) r, ← EReal.left_distrib_of_nonneg_of_ne_top hr0 hrt, sub_eq_add_neg]
  ac_rfl

end Cert.Attn

end
-- ==== Proof.Attn.Spec.lean ====
/-
  The three gradients of the memory attention as functions of the query, key/value and cotangent arrays.

  Token row `r` belongs to example `r / 2048`; head `h` has the columns `256 h … 256 h + 255` of the queries and the keys,
  and the same columns 1024 further on for the values.
-/
module

public import proofs.«01_k».proof.Proof.Attn.Row

@[expose] public section

noncomputable section

namespace Cert.Attn

open Idealize.ShloMosaic

/-- A matrix of extended reals. -/
abbrev Mat (a b : ℕ) : Type := (⟨2, ![a, b]⟩ : Shape).Idx → EReal

/-- The query (or cotangent) of token row `r` in head `h`. -/
def qRow (x : Mat 4096 1024) (r : Fin 4096) (h : Fin 4) (d : Fin 256) : EReal :=
  x (ix2 r ⟨h.val * 256 + d.val, by omega⟩)
/-- The keys of example `b` in head `h`. -/
def kRow (x : Mat 512 2048) (b : Fin 2) (h : Fin 4) (m : Fin 256) (d : Fin 256) : EReal :=
  x (ix2 ⟨b.val * 256 + m.val, by omega⟩ ⟨h.val * 256 + d.val, by omega⟩)
/-- The values of example `b` in head `h`. -/
def vRow (x : Mat 512 2048) (b : Fin 2) (h : Fin 4) (m : Fin 256) (d : Fin 256) : EReal :=
  x (ix2 ⟨b.val * 256 + m.val, by omega⟩ ⟨1024 + (h.val * 256 + d.val), by omega⟩)

/-- Token `s` of example `b`. -/
abbrev tok (b : Fin 2) (s : Fin 2048) : Fin 4096 := ⟨b.val * 2048 + s.val, by omega⟩

/-- The scores of token `s` of example `b` in head `h`. -/
def scores (x0 : Mat 4096 1024) (x1 : Mat 512 2048) (b : Fin 2) (s : Fin 2048) (h : Fin 4) : Fin 256 → EReal :=
  score (qRow x0 (tok b s) h) (kRow x1 b h)
/-- The cotangents of its probabilities. -/
def dprobs (x1 : Mat 512 2048) (x2 : Mat 4096 1024) (b : Fin 2) (s : Fin 2048) (h : Fin 4) : Fin 256 → EReal :=
  dprob (qRow x2 (tok b s) h) (vRow x1 b h)

/-- The gradient of the queries at token `s` of example `b`, head `h`, column `d`. -/
def dQ (x0 : Mat 4096 1024) (x1 : Mat 512 2048) (x2 : Mat 4096 1024) (b : Fin 2) (s : Fin 2048) (h : Fin 4) (d : Fin 256) : EReal :=
  ∑ m : Fin 256, dscore (scores x0 x1 b s h) (dprobs x1 x2 b s h) m * kRow x1 b h m d
/-- The gradient of the keys at slot `m` of example `b`, head `h`, column `d`. -/
def dK (x0 : Mat 4096 1024) (x1 : Mat 512 2048) (x2 : Mat 4096 1024) (b : Fin 2) (m : Fin 256) (h : Fin 4) (d : Fin 256) : EReal :=
  ∑ s : Fin 2048, dscore (scores x0 x1 b s h) (dprobs x1 x2 b s h) m * qRow x0 (tok b s) h d
/-- The gradient of the values at slot `m` of example `b`, head `h`, column `d`. -/
def dV (x0 : Mat 4096 1024) (x1 : Mat 512 2048) (x2 : Mat 4096 1024) (b : Fin 2) (m : Fin 256) (h : Fin 4) (d : Fin 256) : EReal :=
  ∑ s : Fin 2048, soft (scores x0 x1 b s h) m * qRow x2 (tok b s) h d

/-- The gradient of the queries as an array. -/
def gradQ (x0 : Mat 4096 1024) (x1 : Mat 512 2048) (x2 : Mat 4096 1024) : Mat 4096 1024 := fun i =>
  have h0 : (i 0).val < 4096 := (i 0).isLt
  have h1 : (i 1).val < 1024 := (i 1).isLt
  dQ x0 x1 x2 ⟨(i 0).val / 2048, by omega⟩ ⟨(i 0).val % 2048, by omega⟩ ⟨(i 1).val / 256, by omega⟩ ⟨(i 1).val % 256, by omega⟩
/-- The gradient of the keys as an array. -/
def gradK (x0 : Mat 4096 1024) (x1 : Mat 512 2048) (x2 : Mat 4096 1024) : Mat 512 1024 := fun i =>
  have h0 : (i 0).val < 512 := (i 0).isLt
  have h1 : (i 1).val < 1024 := (i 1).isLt
  dK x0 x1 x2 ⟨(i 0).val / 256, by omega⟩ ⟨(i 0).val % 256, by omega⟩ ⟨(i 1).val / 256, by omega⟩ ⟨(i 1).val % 256, by omega⟩
/-- The gradient of the values as an array. -/
def gradV (x0 : Mat 4096 1024) (x1 : Mat 512 2048) (x2 : Mat 4096 1024) : Mat 512 1024 := fun i =>
  have h0 : (i 0).val < 512 := (i 0).isLt
  have h1 : (i 1).val < 1024 := (i 1).isLt
  dV x0 x1 x2 ⟨(i 0).val / 256, by omega⟩ ⟨(i 0).val % 256, by omega⟩ ⟨(i 1).val / 256, by omega⟩ ⟨(i 1).val % 256, by omega⟩

/-- A function of four bounded numbers takes equal values at equal numbers. -/
theorem fun4_congr {a b c e : ℕ} (F : Fin a → Fin b → Fin c → Fin e → EReal) {w w' : Fin a} {x x' : Fin b} {y y' : Fin c}
    {z z' : Fin e} (hw : w.val = w'.val) (hx : x.val = x'.val) (hy : y.val = y'.val) (hz : z.val = z'.val) :
    F w x y z = F w' x' y' z' := by
  rw [Fin.ext hw, Fin.ext hx, Fin.ext hy, Fin.ext hz]

section At

variable (x0 : Mat 4096 1024) (x1 : Mat 512 2048) (x2 : Mat 4096 1024)

theorem gradQ_at (i : (⟨2, ![4096, 1024]⟩ : Shape).Idx) (b : Fin 2) (s : Fin 2048) (h : Fin 4) (d : Fin 256)
    (h0 : (i 0).val = b.val * 2048 + s.val) (h1 : (i 1).val = h.val * 256 + d.val) :
    gradQ x0 x1 x2 i = dQ x0 x1 x2 b s h d := by
  exact fun4_congr (dQ x0 x1 x2) (by dsimp only; omega) (by dsimp only; omega) (by dsimp only; omega) (by dsimp only; omega)

theorem gradK_at (i : (⟨2, ![512, 1024]⟩ : Shape).Idx) (b : Fin 2) (m : Fin 256) (h : Fin 4) (d : Fin 256)
    (h0 : (i 0).val = b.val * 256 + m.val) (h1 : (i 1).val = h.val * 256 + d.val) :
    gradK x0 x1 x2 i = dK x0 x1 x2 b m h d := by
  exact fun4_congr (dK x0 x1 x2) (by dsimp only; omega) (by dsimp only; omega) (by dsimp only; omega) (by dsimp only; omega)

theorem gradV_at (i : (⟨2, ![512, 1024]⟩ : Shape).Idx) (b : Fin 2) (m : Fin 256) (h : Fin 4) (d : Fin 256)
    (h0 : (i 0).val = b.val * 256 + m.val) (h1 : (i 1).val = h.val * 256 + d.val) :
    gradV x0 x1 x2 i = dV x0 x1 x2 b m h d := by
  exact fun4_congr (dV x0 x1 x2) (by dsimp only; omega) (by dsimp only; omega) (by dsimp only; omega) (by dsimp only; omega)

end At

/-- A sum over 2048 tokens is the sum over its two halves of 1024. -/
theorem sum_halves (f : Fin 2048 → EReal) :
    ∑ a : Fin 2, ∑ r : Fin 1024, f ⟨a.val * 1024 + r.val, by omega⟩ = ∑ s : Fin 2048, f s := by
  rw [Fin.sum_univ_two, show (∑ s : Fin 2048, f s) = _ from Fin.sum_univ_add (a := 1024) (b := 1024) f]
  refine congr (congrArg _ ?_) ?_
  · exact Finset.sum_congr rfl fun r _ => congrArg f (Fin.ext (by simp))
  · exact Finset.sum_congr rfl fun r _ => congrArg f (Fin.ext (by simp [Nat.add_comm]))

end Cert.Attn

end
-- ==== Proof.Attn.Kernel.lean ====
/-
  What the attention-gradient call leaves in its three result arrays.

  A grid point is one example, one head and one half of the example's tokens; it holds 1024 query rows and all 256 keys and
  values of the head. Its payloads are the row formulas of Row.lean (`probs_apply` … `dqueries_apply`). The gradient of the
  queries is written once per point; the gradients of the keys and the values are added up over the two halves of the
  tokens, which makes them sums over all tokens of the example (`dk_array`, `dv_array`).
-/
module

public import proofs.«01_k».proof.Proof.Attn.Spec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

section Payloads

variable (u0 u3 : Vec Ideal S1024x256 .bf16) (u1 u2 : Vec Ideal S256x256 .bf16)

theorem probs_apply (r : Fin 1024) (m : Fin 256) :
    k0_pay3 u0 u1 (ix2 r m) = soft (score (fun d => u0 (ix2 r d)) fun m d => u1 (ix2 m d)) m := by
  pointwise [k0_pay3, soft, expo, top, score]

theorem dscores_apply (r : Fin 1024) (m : Fin 256) :
    k0_pay4 u0 u1 u2 u3 (ix2 r m) = dscore (score (fun d => u0 (ix2 r d)) fun m d => u1 (ix2 m d))
      (dprob (fun d => u3 (ix2 r d)) fun m d => u2 (ix2 m d)) m := by
  pointwise [k0_pay4, dscore, dprob, probs_apply]

theorem dqueries_apply (r : Fin 1024) (d : Fin 256) :
    k0_pay5 u0 u1 u2 u3 (ix2 r d) = ∑ m : Fin 256, dscore (score (fun d => u0 (ix2 r d)) fun m d => u1 (ix2 m d))
      (dprob (fun d => u3 (ix2 r d)) fun m d => u2 (ix2 m d)) m * u1 (ix2 m d) := by
  pointwise [k0_pay5, dscores_apply]

theorem dkeys_apply (w : FVec Ideal S1024x256 .bf16) (acc : Vec Ideal S256x256 .f32) (m d : Fin 256) :
    k0_pay1 u0 w acc (ix2 m d) = acc (ix2 m d) + ∑ r : Fin 1024, w (ix2 r m) * u0 (ix2 r d) := by
  pointwise [k0_pay1]

theorem dvalues_apply (w : FVec Ideal S1024x256 .f32) (acc : Vec Ideal S256x256 .f32) (m d : Fin 256) :
    k0_pay2 u3 w acc (ix2 m d) = acc (ix2 m d) + ∑ r : Fin 1024, w (ix2 r m) * u3 (ix2 r d) := by
  pointwise [k0_pay2]

end Payloads

variable (m : (ℓ : Loc nD τ sig) → Buf (Elt Ideal) ℓ) (c : Dev nD)

/-- The query, key/value and cotangent arrays as the call finds them. -/
abbrev argQ : Mat 4096 1024 := m ((c.tc : Thread nD τ).loc main_arg0)
abbrev argKV : Mat 512 2048 := m ((c.tc : Thread nD τ).loc main_arg1)
abbrev argO : Mat 4096 1024 := m ((c.tc : Thread nD τ).loc main_arg2)

theorem idx0 : ∀ t : Fin grid0.N, win0_0.index t = ![t.val / 8 * 2 + t.val % 2, t.val / 2 % 4] := by decide +kernel
theorem idx1 : ∀ t : Fin grid0.N, win0_1.index t = ![t.val / 8, t.val / 2 % 4] := by decide +kernel
theorem idx2 : ∀ t : Fin grid0.N, win0_2.index t = ![t.val / 8, 4 + t.val / 2 % 4] := by decide +kernel
theorem idx3 : ∀ t : Fin grid0.N, win0_3.index t = ![t.val / 8 * 2 + t.val % 2, t.val / 2 % 4] := by decide +kernel
theorem idx4 : ∀ t : Fin grid0.N, win0_4.index t = ![t.val / 8 * 2 + t.val % 2, t.val / 2 % 4] := by decide +kernel
theorem idx5 : ∀ t : Fin grid0.N, win0_5.index t = ![t.val / 8, t.val / 2 % 4] := by decide +kernel
theorem idx6 : ∀ t : Fin grid0.N, win0_6.index t = ![t.val / 8, t.val / 2 % 4] := by decide +kernel

/-- The example, the head and the half of the tokens of a grid point. -/
abbrev exOf (t : Fin cfg0.N) : Fin 2 := ⟨t.val / 8, by have := t.isLt; have : cfg0.N = 16 := N_0; omega⟩
abbrev headOf (t : Fin cfg0.N) : Fin 4 := ⟨t.val / 2 % 4, by omega⟩
abbrev tokOf (t : Fin cfg0.N) (r : Fin 1024) : Fin 2048 := ⟨t.val % 2 * 1024 + r.val, by omega⟩

theorem blk_q (t : Fin cfg0.N) (r : Fin 1024) (d : Fin 256) :
    iblk m c 0 t (ix2 r d) = qRow (argQ m c) (tok (exOf t) (tokOf t r)) (headOf t) d := by
  unfold qRow
  blk_ext [iblk, V, idx0 t]

theorem blk_k (t : Fin cfg0.N) (r d : Fin 256) :
    iblk m c 1 t (ix2 r d) = kRow (argKV m c) (exOf t) (headOf t) r d := by
  unfold kRow
  blk_ext [iblk, V, idx1 t]

theorem blk_v (t : Fin cfg0.N) (r d : Fin 256) :
    iblk m c 2 t (ix2 r d) = vRow (argKV m c) (exOf t) (headOf t) r d := by
  unfold vRow
  blk_ext [iblk, V, idx2 t]

theorem blk_o (t : Fin cfg0.N) (r : Fin 1024) (d : Fin 256) :
    iblk m c 3 t (ix2 r d) = qRow (argO m c) (tok (exOf t) (tokOf t r)) (headOf t) d := by
  unfold qRow
  blk_ext [iblk, V, idx3 t]

/-- The scores of the rows of a grid point and the cotangents of their probabilities. -/
theorem scores_blk (t : Fin cfg0.N) (r : Fin 1024) :
    (score (fun d => iblk m c 0 t (ix2 r d)) fun k d => iblk m c 1 t (ix2 k d))
      = scores (argQ m c) (argKV m c) (exOf t) (tokOf t r) (headOf t) := by
  unfold scores
  congr 1
  · funext d; exact blk_q m c t r d
  · funext k d; exact blk_k m c t k d

theorem dprobs_blk (t : Fin cfg0.N) (r : Fin 1024) :
    (dprob (fun d => iblk m c 3 t (ix2 r d)) fun k d => iblk m c 2 t (ix2 k d))
      = dprobs (argKV m c) (argO m c) (exOf t) (tokOf t r) (headOf t) := by
  unfold dprobs
  congr 1
  · funext d; exact blk_o m c t r d
  · funext k d; exact blk_v m c t k d

theorem dq_array : (dats m 0 c).arrAt 4 cfg0.N = gradQ (argQ m c) (argKV m c) (argO m c) := by
  refine (dats m 0 c).arrAt_eq_of_covers 4 _ (by decide +kernel) fun t hf y => ?_
  blk_simp
  rw [after0_4]
  have key : (outsAt0 m c t.val t.isLt).1 y
      = k0_pay5 (iblk m c 0 t) (iblk m c 1 t) (iblk m c 2 t) (iblk m c 3 t) y := by
    by_cases h : t.val % 2 = 0
    · rw [Gen.outsAt0_A m c t h]; frame_out
    · rw [Gen.outsAt0_B m c t h]; frame_out
  rw [key]
  idx_vars y
  rw [dqueries_apply, scores_blk, dprobs_blk]
  rw [gradQ_at _ _ _ _ (exOf t) (tokOf t y0) (headOf t) y1 (by blk_simp [idx4 t]; dsimp only [exOf, tokOf]; omega) (by blk_simp [idx4 t])]
  show @Eq EReal _ _
  exact Finset.sum_congr rfl fun k _ => by rw [blk_k]

/-- The part of a grid point in the gradient of the keys, and in the gradient of the values. -/
def dkPart (t : Fin cfg0.N) (j : S256x256.Idx) : EReal :=
  ∑ r : Fin 1024, dscore (scores (argQ m c) (argKV m c) (exOf t) (tokOf t r) (headOf t))
    (dprobs (argKV m c) (argO m c) (exOf t) (tokOf t r) (headOf t)) (j 0)
    * qRow (argQ m c) (tok (exOf t) (tokOf t r)) (headOf t) (j 1)
def dvPart (t : Fin cfg0.N) (j : S256x256.Idx) : EReal :=
  ∑ r : Fin 1024, soft (scores (argQ m c) (argKV m c) (exOf t) (tokOf t r) (headOf t)) (j 0)
    * qRow (argO m c) (tok (exOf t) (tokOf t r)) (headOf t) (j 1)

theorem dk_step (t : Fin cfg0.N) (acc : Vec Ideal S256x256 .f32) (j : S256x256.Idx) :
    k0_pay1 (iblk m c 0 t) (k0_pay4 (iblk m c 0 t) (iblk m c 1 t) (iblk m c 2 t) (iblk m c 3 t)) acc j
      = acc j + dkPart m c t j := by
  idx_vars j
  rw [dkeys_apply]
  refine congrArg (acc _ + ·) (Finset.sum_congr rfl fun r _ => ?_)
  rw [dscores_apply, scores_blk, dprobs_blk, blk_q]
  rfl

theorem dv_step (t : Fin cfg0.N) (acc : Vec Ideal S256x256 .f32) (j : S256x256.Idx) :
    k0_pay2 (iblk m c 3 t) (k0_pay3 (iblk m c 0 t) (iblk m c 1 t)) acc j = acc j + dvPart m c t j := by
  idx_vars j
  rw [dvalues_apply]
  refine congrArg (acc _ + ·) (Finset.sum_congr rfl fun r _ => ?_)
  rw [probs_apply, scores_blk, blk_o]
  rfl

theorem zero_k (j : S256x256.Idx) : k0_pay6 (F := Ideal) j = 0 := by pointwise [k0_pay6]
theorem zero_v (j : S256x256.Idx) : k0_pay7 (F := Ideal) j = 0 := by pointwise [k0_pay7]

theorem dk_array : (dats m 0 c).arrAt 5 cfg0.N = gradK (argQ m c) (argKV m c) (argO m c) := by
  refine (dats m 0 c).arrAt_eq_of_covers 5 _ (by decide +kernel) fun t hf y => ?_
  blk_simp
  rw [after0_5]
  have key := Pipeline.eq_sum_fin_of_reset_step_apply_of_flush (fun n h => (outsAt0 m c n h).2.1) 2 (fun _ => 0)
    (dkPart m c) (fun t h j => by rw [Gen.outsAt0_A m c t h]; frame_out; rw [dk_step, zero_k])
    (fun t h j => by rw [Gen.outsAt0_B m c t h]; frame_out; rw [dk_step]) t ((flush0_5 t).mp hf) y
  rw [show (outsAt0 m c t.val t.isLt).2.1 y = _ from key, zero_add]
  idx_vars y
  rw [gradK_at _ _ _ _ (exOf t) y0 (headOf t) y1 (by blk_simp [idx5 t]) (by blk_simp [idx5 t])]
  unfold dK
  rw [← sum_halves]
  show @Eq EReal _ _
  refine Finset.sum_congr rfl fun a _ => ?_
  have e1 : ∀ h, exOf ⟨2 * (t.val / 2) + a.val, h⟩ = exOf t := fun h => Fin.ext (by dsimp only; omega)
  have e2 : ∀ h, headOf ⟨2 * (t.val / 2) + a.val, h⟩ = headOf t := fun h => Fin.ext (by dsimp only; omega)
  have e3 : ∀ h r, tokOf ⟨2 * (t.val / 2) + a.val, h⟩ r = ⟨a.val * 1024 + r.val, by omega⟩ :=
    fun h r => Fin.ext (by dsimp only; omega)
  unfold dkPart
  simp only [e1, e2, e3]
  rfl

theorem dv_array : (dats m 0 c).arrAt 6 cfg0.N = gradV (argQ m c) (argKV m c) (argO m c) := by
  refine (dats m 0 c).arrAt_eq_of_covers 6 _ (by decide +kernel) fun t hf y => ?_
  blk_simp
  rw [after0_6]
  have key := Pipeline.eq_sum_fin_of_reset_step_apply_of_flush (fun n h => (outsAt0 m c n h).2.2) 2 (fun _ => 0)
    (dvPart m c) (fun t h j => by rw [Gen.outsAt0_A m c t h]; frame_out; rw [dv_step, zero_v])
    (fun t h j => by rw [Gen.outsAt0_B m c t h]; frame_out; rw [dv_step]) t ((flush0_6 t).mp hf) y
  rw [show (outsAt0 m c t.val t.isLt).2.2 y = _ from key, zero_add]
  idx_vars y
  rw [gradV_at _ _ _ _ (exOf t) y0 (headOf t) y1 (by blk_simp [idx6 t]) (by blk_simp [idx6 t])]
  unfold dV
  rw [← sum_halves]
  show @Eq EReal _ _
  refine Finset.sum_congr rfl fun a _ => ?_
  have e1 : ∀ h, exOf ⟨2 * (t.val / 2) + a.val, h⟩ = exOf t := fun h => Fin.ext (by dsimp only; omega)
  have e2 : ∀ h, headOf ⟨2 * (t.val / 2) + a.val, h⟩ = headOf t := fun h => Fin.ext (by dsimp only; omega)
  have e3 : ∀ h r, tokOf ⟨2 * (t.val / 2) + a.val, h⟩ r = ⟨a.val * 1024 + r.val, by omega⟩ :=
    fun h r => Fin.ext (by dsimp only; omega)
  unfold dvPart
  simp only [e1, e2, e3]
  rfl

end Cert.KernelIdeal.Attn

end
-- ==== Proof.Attn.Ref.lean ====
/-
  What the reference's attention gradient computes, read at an index.
-/
module

public import proofs.«01_k».proof.Proof.Attn.Spec
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (x0 : Mat 4096 1024) (x1 : Mat 512 2048) (x2 : Mat 4096 1024)

theorem v7_at (b : Fin 2) (s : Fin 2048) (h : Fin 4) (d : Fin 256) :
    val_main_v7 (F := Ideal) x0 (ix4 b s h d) = qRow x0 (tok b s) h d := by
  pointwise [val_main_v7, val_main_v6, val_main_v0]
  rfl

theorem v45_at (b : Fin 2) (s : Fin 2048) (h : Fin 4) (d : Fin 256) :
    val_main_v45 (F := Ideal) x2 (ix4 b s h d) = qRow x2 (tok b s) h d := by
  pointwise [val_main_v45, val_main_v44, val_main_v2]
  rfl

theorem v8_at (b : Fin 2) (m : Fin 256) (h : Fin 4) (d : Fin 256) :
    val_main_v8 (F := Ideal) x1 (ix4 b m h d) = kRow x1 b h m d := by
  pointwise [val_main_v8, val_main_v4, val_main_v3, val_main_v1]
  rfl

theorem v9_at (b : Fin 2) (m : Fin 256) (h : Fin 4) (d : Fin 256) :
    val_main_v9 (F := Ideal) x1 (ix4 b m h d) = vRow x1 b h m d := by
  pointwise [val_main_v9, val_main_v5, val_main_v3, val_main_v1]
  rfl

theorem v12_at (b : Fin 2) (h : Fin 4) (s : Fin 2048) (m : Fin 256) :
    val_main_v12 (F := Ideal) x0 x1 (ix4 b h s m) = scores x0 x1 b s h m := by
  pointwise [val_main_v12, val_main_v11, val_main_v10, val_main_cst, v7_at, v8_at, scores, score]

theorem v13_at (b : Fin 2) (h : Fin 4) (s : Fin 2048) :
    val_main_v13 (F := Ideal) x0 x1 (ix3 b h s) = top (scores x0 x1 b s h) := by
  pointwise [val_main_v13, val_main_cst_0, v12_at, top]

theorem v33_at (b : Fin 2) (h : Fin 4) (s : Fin 2048) (m : Fin 256) :
    val_main_v33 (F := Ideal) x0 x1 (ix4 b h s m) = expo (scores x0 x1 b s h) m := by
  rw [val_main_v33_apply, val_main_v32_apply, val_main_v31_apply, val_main_v30_apply, val_main_v20_apply, v12_at]
  have e : idx_main_v30 (idx_main_v31 (ix4 b h s m)) = ix3 b h s := by
    funext a
    match a with
    | ⟨0, _⟩ => rfl
    | ⟨1, _⟩ => rfl
    | ⟨2, _⟩ => rfl
  rw [e, v13_at, val_main_v19_apply, val_main_cst_2_apply, Ideal.maximumf_def, show FloatOps.ofBits (F := Ideal) FTy.f32 0xFF800000#32 = ⊥ from low_eq, max_eq_right bot_le]
  rfl

theorem v34_at (b : Fin 2) (h : Fin 4) (s : Fin 2048) :
    val_main_v34 (F := Ideal) x0 x1 (ix3 b h s) = ∑ m, expo (scores x0 x1 b s h) m := by
  pointwise [val_main_v34, val_main_cst_8, v33_at]

theorem v37_at (b : Fin 2) (h : Fin 4) (s : Fin 2048) (m : Fin 256) :
    val_main_v37 (F := Ideal) x0 x1 (ix4 b h s m) = soft (scores x0 x1 b s h) m := by
  pointwise [val_main_v37, val_main_v36, val_main_v35, v34_at, v33_at, soft]

theorem v47_at (b : Fin 2) (h : Fin 4) (s : Fin 2048) (m : Fin 256) :
    val_main_v47 (F := Ideal) x1 x2 (ix4 b h s m) = dprobs x1 x2 b s h m := by
  pointwise [val_main_v47, val_main_v46, v45_at, v9_at, dprobs, dprob]

theorem v63_at (b : Fin 2) (h : Fin 4) (s : Fin 2048) (m : Fin 256) :
    val_main_v63 (F := Ideal) x0 x1 x2 (ix4 b h s m) = dscoreRule (scores x0 x1 b s h) (dprobs x1 x2 b s h) m := by
  pointwise [val_main_v63, val_main_v62, val_main_cst_12, val_main_v61, val_main_v60, val_main_v59, val_main_v58, val_main_cst_11,
    val_main_v57, val_main_v56, val_main_v55, val_main_v54, val_main_v53, val_main_cst_10, val_main_v52, val_main_v51, val_main_v50,
    val_main_v40, val_main_v39, val_main_cst_9, val_main_v38, val_main_v35, v34_at, v33_at, v47_at, dscoreRule]
  simp only [Finset.univ_unique, Finset.sum_const, Finset.card_singleton, one_smul]

theorem v67_at (b : Fin 2) (s : Fin 2048) (h : Fin 4) (d : Fin 256) :
    val_main_v67 (F := Ideal) x0 x1 x2 (ix4 b s h d)
      = ∑ m : Fin 256, dscoreRule (scores x0 x1 b s h) (dprobs x1 x2 b s h) m * kRow x1 b h m d := by
  pointwise [val_main_v67, val_main_v66, v63_at, v8_at]

theorem v65_at (b : Fin 2) (m : Fin 256) (h : Fin 4) (d : Fin 256) :
    val_main_v65 (F := Ideal) x0 x1 x2 (ix4 b m h d)
      = ∑ s : Fin 2048, dscoreRule (scores x0 x1 b s h) (dprobs x1 x2 b s h) m * qRow x0 (tok b s) h d := by
  pointwise [val_main_v65, val_main_v64, v63_at, v7_at]

theorem v49_at (b : Fin 2) (m : Fin 256) (h : Fin 4) (d : Fin 256) :
    val_main_v49 (F := Ideal) x0 x1 x2 (ix4 b m h d)
      = ∑ s : Fin 2048, soft (scores x0 x1 b s h) m * qRow x2 (tok b s) h d := by
  pointwise! [val_main_v49, val_main_v48, val_main_v46, v37_at, v45_at]

/-- The scores are real when no query and no key is infinite. -/
theorem scores_real (hq : ∀ i, IsReal (x0 i)) (hk : ∀ (i : Fin 512) (j : Fin 1024), IsReal (x1 (ix2 i ⟨j.val, by omega⟩)))
    (b : Fin 2) (s : Fin 2048) (h : Fin 4) (m : Fin 256) : IsReal (scores x0 x1 b s h m) :=
  IsReal.mul (IsReal.sum _ fun d => IsReal.mul (hq _) (hk _ ⟨h.val * 256 + d.val, by omega⟩)) scale_isReal

variable (hq : ∀ i, IsReal (x0 i)) (hk : ∀ (i : Fin 512) (j : Fin 1024), IsReal (x1 (ix2 i ⟨j.val, by omega⟩)))
include hq hk

theorem v72_eq : val_main_v72 (F := Ideal) x0 x1 x2 = gradQ x0 x1 x2 := by
  funext i
  idx_vars i
  pointwise [val_main_v72, val_main_v71, val_main_v70, v67_at]
  rw [gradQ_at x0 x1 x2 (ix2 i0 i1) ⟨i0.val / 2048, by omega⟩ ⟨i0.val % 2048, by omega⟩ ⟨i1.val / 256, by omega⟩
    ⟨i1.val % 256, by omega⟩ (by show i0.val = _; dsimp only; omega) (by show i1.val = _; dsimp only; omega)]
  exact Finset.sum_congr rfl fun k _ => by rw [dscoreRule_eq _ _ (scores_real x0 x1 hq hk _ _ _)]

theorem v73_eq : val_main_v73 (F := Ideal) x0 x1 x2 = gradK x0 x1 x2 := by
  funext i
  idx_vars i
  pointwise [val_main_v73, val_main_v69, v65_at]
  rw [gradK_at x0 x1 x2 (ix2 i0 i1) ⟨i0.val / 256, by omega⟩ ⟨i0.val % 256, by omega⟩ ⟨i1.val / 256, by omega⟩
    ⟨i1.val % 256, by omega⟩ (by show i0.val = _; dsimp only; omega) (by show i1.val = _; dsimp only; omega)]
  exact Finset.sum_congr rfl fun k _ => by rw [dscoreRule_eq _ _ (scores_real x0 x1 hq hk _ _ _)]

omit hq hk in
theorem v74_eq : val_main_v74 (F := Ideal) x0 x1 x2 = gradV x0 x1 x2 := by
  funext i
  idx_vars i
  pointwise [val_main_v74, val_main_v68, v49_at]
  rw [gradV_at x0 x1 x2 (ix2 i0 i1) ⟨i0.val / 256, by omega⟩ ⟨i0.val % 256, by omega⟩ ⟨i1.val / 256, by omega⟩
    ⟨i1.val % 256, by omega⟩ (by show i0.val = _; dsimp only; omega) (by show i1.val = _; dsimp only; omega)]
  rfl

end Cert.ReferenceIdeal.Attn

end
-- ==== Proof.Attn.Claim.lean ====
/-
  The value claim of the attention-gradient call, from the two runs.
-/
module

public import proofs.«01_k».proof.Defs
public import proofs.«01_k».proof.Proof.Attn.Kernel
public import proofs.«01_k».proof.Proof.Attn.Ref
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal

@[expose] public section

set_option maxRecDepth 16384

noncomputable section

open Idealize.ShloMosaic Idealize.ShloMosaic.TcCoe Idealize.SL.Sem

namespace Cert.Attn

/-- The side conditions of the precondition's own operations. -/
theorem preFacts : Cert.Pre_scores_finite.Facts := ⟨by decide, by decide, by decide⟩

/-- The two marks of an entry being set says it lies between minus infinity and plus infinity. -/
theorem real_of_marks (x : EReal)
    (h : IntOp.andi (BitVec.ofBool (decide (x < Ideal.ofBits FTy.bf16 32640#16)))
      (BitVec.ofBool (decide (Ideal.ofBits FTy.bf16 65408#16 < x))) = 1#1) : IsReal x := by
  have top : Ideal.ofBits FTy.bf16 32640#16 = ⊤ := by simp [Ideal.ofBits, Ideal.ieee]
  have bot : Ideal.ofBits FTy.bf16 65408#16 = ⊥ := by simp [Ideal.ofBits, Ideal.ieee]
  rw [top, bot] at h
  by_cases a : x < ⊤ <;> by_cases b : ⊥ < x
  · exact IsReal.of_lt a b
  all_goals (simp [a, b, IntOp.andi] at h)

/-- The precondition, read: no query and no key is infinite. -/
theorem real_of_pre [Cert.Pre_scores_finite.Facts] (x0 x2 : Mat 4096 1024) (x1 : Mat 512 2048)
    (h : (Cert.Pre_scores_finite.fn (F := Ideal) x0 x1 x2).1 = (fun _ => 1#1)
      ∧ (Cert.Pre_scores_finite.fn (F := Ideal) x0 x1 x2).2 = (fun _ => 1#1)) :
    (∀ i, IsReal (x0 i)) ∧ ∀ (i : Fin 512) (j : Fin 1024), IsReal (x1 (ix2 i ⟨j.val, by omega⟩)) := by
  constructor
  · intro i
    have e := congrFun h.1 i
    idx_vars i
    pointwise [Cert.Pre_scores_finite.fn] at e
    exact real_of_marks _ e
  · intro i j
    have e := congrFun h.2 (ix2 i j)
    pointwise [Cert.Pre_scores_finite.fn] at e
    exact real_of_marks _ e

/-- The reference runs, keeps its arguments, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2.2, Idealize.ShloMosaic.sem_eq_zero_of_no_sems (by decide) r.2⟩)
    (Cert.ReferenceIdeal.Value.run m g)

/-- The two programs return the same three gradients. -/
theorem algebraic : Cert.algebraic_KernelIdeal_ReferenceIdeal_pre_scores_finite
    (hKernelIdeal := Cert.KernelIdeal.Gen.facts) (hReferenceIdeal := Cert.ReferenceIdeal.Gen.facts)
    (hPre_scores_finite := preFacts) := by
  intro m g m' g' hpre hag
  have args := fun c => @real_of_pre preFacts _ _ _ (hpre c)
  refine ⟨fun c => gradQ (Cert.KernelIdeal.Attn.argQ m c) (Cert.KernelIdeal.Attn.argKV m c) (Cert.KernelIdeal.Attn.argO m c),
    fun c => gradK (Cert.KernelIdeal.Attn.argQ m c) (Cert.KernelIdeal.Attn.argKV m c) (Cert.KernelIdeal.Attn.argO m c),
    fun c => gradV (Cert.KernelIdeal.Attn.argQ m c) (Cert.KernelIdeal.Attn.argKV m c) (Cert.KernelIdeal.Attn.argO m c),
    (θ_run _ _ _).mono (fun r h c => ?_) (Cert.KernelIdeal.Value.run_blocks m g),
    (θ_run _ _ _).mono (fun r h c => ?_) (Cert.ReferenceIdeal.Value.run m' g')⟩
  · exact ⟨(h c).1.trans (Cert.KernelIdeal.Attn.dq_array m c), (h c).2.1.trans (Cert.KernelIdeal.Attn.dk_array m c),
      (h c).2.2.1.trans (Cert.KernelIdeal.Attn.dv_array m c), (h c).2.2.2.1, (h c).2.2.2.2.1, (h c).2.2.2.2.2⟩
  · obtain ⟨e0, e1, e2⟩ := hag c
    refine ⟨(h c).1.trans ?_, (h c).2.1.trans ?_, (h c).2.2.1.trans ?_, (h c).2.2.2.1, (h c).2.2.2.2.1, (h c).2.2.2.2.2⟩
    · rw [Cert.ReferenceIdeal.Read.val_main_v72_eq, e0, e1, e2]
      exact Cert.ReferenceIdeal.Attn.v72_eq _ _ _ (args c).1 (args c).2
    · rw [Cert.ReferenceIdeal.Read.val_main_v73_eq, e0, e1, e2]
      exact Cert.ReferenceIdeal.Attn.v73_eq _ _ _ (args c).1 (args c).2
    · rw [e0, e1, e2]
      exact (Cert.ReferenceIdeal.Read.val_main_v74_eq _ _ _).trans (Cert.ReferenceIdeal.Attn.v74_eq _ _ _)

end Cert.Attn

end
-- ==== Proof.Prod.Spec.lean ====
/-
  The products of the step's calls as functions of two matrices of extended reals.
-/
module

public import proofs.«01_k».proof.Proof.Attn.Spec

@[expose] public section

noncomputable section

namespace Cert.Prod

open Idealize.ShloMosaic Cert.Attn

/-- A one-sheet stack of matrices, as the step keeps its weights. -/
abbrev Stack (p a b : ℕ) : Type := (⟨3, ![p, a, b]⟩ : Shape).Idx → EReal

variable {k m n : ℕ}

/-- The first matrix transposed times the second. -/
def prodTN (a : Mat k m) (b : Mat k n) : Mat m n := fun i => ∑ r : Fin k, a (ix2 r (i 0)) * b (ix2 r (i 1))
/-- The first matrix times the second transposed. -/
def prodNT (a : Mat m k) (b : Mat n k) : Mat m n := fun i => ∑ r : Fin k, a (ix2 (i 0) r) * b (ix2 (i 1) r)
/-- The first matrix times the second. -/
def prodNN (a : Mat m k) (b : Mat k n) : Mat m n := fun i => ∑ r : Fin k, a (ix2 (i 0) r) * b (ix2 r (i 1))

/-- The only sheet of a stack. -/
def sheet (w : Stack 1 m n) : Mat m n := fun i => w (ix3 0 (i 0) (i 1))
/-- The sum of two matrices. -/
def plus (a b : Mat m n) : Mat m n := fun i => a i + b i

/-- Two matrices kept as a stack, side by side. -/
def joined (d : Stack 2 4096 2816) : Mat 4096 5632 := fun i =>
  if h : (i 1).val < 2816 then d (ix3 0 (i 0) ⟨(i 1).val, h⟩)
  else d (ix3 1 (i 0) ⟨(i 1).val - 2816, by have : (i 1).val < 5632 := (i 1).isLt; omega⟩)

theorem joined_lo (d : Stack 2 4096 2816) (r : Fin 4096) (q : Fin 5632) (h : q.val < 2816) :
    joined d (ix2 r q) = d (ix3 0 r ⟨q.val, h⟩) := dif_pos h

theorem joined_hi (d : Stack 2 4096 2816) (r : Fin 4096) (q : Fin 5632) (h : ¬ q.val < 2816) :
    joined d (ix2 r q) = d (ix3 1 r ⟨q.val - 2816, by omega⟩) := dif_neg h

theorem plus_at (a b : Mat m n) (i : (⟨2, ![m, n]⟩ : Shape).Idx) (p : Fin m) (q : Fin n)
    (h0 : (i 0).val = p.val) (h1 : (i 1).val = q.val) : plus a b i = a (ix2 p q) + b (ix2 p q) := by
  obtain rfl : i 0 = p := Fin.ext h0
  obtain rfl : i 1 = q := Fin.ext h1
  have e : i = ix2 (i 0) (i 1) := by funext a; match a with | ⟨0, _⟩ => rfl | ⟨1, _⟩ => rfl
  exact congrArg (plus a b) e

theorem prodTN_at (a : Mat k m) (b : Mat k n) (i : (⟨2, ![m, n]⟩ : Shape).Idx) (p : Fin m) (q : Fin n)
    (h0 : (i 0).val = p.val) (h1 : (i 1).val = q.val) : prodTN a b i = ∑ r : Fin k, a (ix2 r p) * b (ix2 r q) := by
  obtain rfl : i 0 = p := Fin.ext h0
  obtain rfl : i 1 = q := Fin.ext h1
  rfl

theorem prodNT_at (a : Mat m k) (b : Mat n k) (i : (⟨2, ![m, n]⟩ : Shape).Idx) (p : Fin m) (q : Fin n)
    (h0 : (i 0).val = p.val) (h1 : (i 1).val = q.val) : prodNT a b i = ∑ r : Fin k, a (ix2 p r) * b (ix2 q r) := by
  obtain rfl : i 0 = p := Fin.ext h0
  obtain rfl : i 1 = q := Fin.ext h1
  rfl

theorem prodNN_at (a : Mat m k) (b : Mat k n) (i : (⟨2, ![m, n]⟩ : Shape).Idx) (p : Fin m) (q : Fin n)
    (h0 : (i 0).val = p.val) (h1 : (i 1).val = q.val) : prodNN a b i = ∑ r : Fin k, a (ix2 p r) * b (ix2 r q) := by
  obtain rfl : i 0 = p := Fin.ext h0
  obtain rfl : i 1 = q := Fin.ext h1
  rfl

end Cert.Prod

end
-- ==== Proof.Norm.Row.lean ====
/-
  The pullback of root-mean-square normalisation, a row of 1024 numbers at a time, and its two results for whole matrices.

  For a row `x`, a gain `g` and a cotangent row `t` of `x · inv x · g`: `pull x g t` is the cotangent of `x`, and the
  cotangent of the gain adds `x · inv x · t` up over the rows.
-/
module

public import proofs.«01_k».proof.Proof.Prod.Spec

@[expose] public section

noncomputable section

namespace Cert.Norm

open Idealize.ShloMosaic Cert.Attn Cert.Prod

/-- The width 1024, the term added to the mean square, and minus one half, as the programs' literals. -/
abbrev width : EReal := Ideal.ofBits FTy.f32 0x44800000#32
abbrev eps : EReal := Ideal.ofBits FTy.f32 0x358637BD#32
abbrev minusHalf : EReal := Ideal.ofBits FTy.f32 0xBF000000#32

variable {d n : ℕ}

def meanSq (x : Fin d → EReal) : EReal := Ideal.div (∑ j, x j * x j) width + eps
def inv (x : Fin d → EReal) : EReal := Ideal.rsqrt (meanSq x)
/-- The factor of the row in the part of the cotangent that comes through the mean square. -/
def shift (x g t : Fin d → EReal) : EReal :=
  Ideal.div ((∑ j, x j * (t j * g j)) * (minusHalf * Ideal.div (inv x) (meanSq x))) width
def pull (x g t : Fin d → EReal) (j : Fin d) : EReal := t j * g j * inv x + x j * shift x g t + shift x g t * x j

/-- A row of a matrix. -/
def row (a : Mat n d) (r : Fin n) : Fin d → EReal := fun j => a (ix2 r j)

/-- The cotangent of the input, added to what came before. -/
def dInput (x : Mat n d) (g : Fin d → EReal) (t old : Mat n d) : Mat n d := fun i =>
  pull (row x (i 0)) g (row t (i 0)) (i 1) + old i
/-- The cotangent of the gain. -/
def dGain (x t : Mat n d) : Mat 1 d := fun i => ∑ r : Fin n, x (ix2 r (i 1)) * inv (row x r) * t (ix2 r (i 1))

theorem dInput_at (x : Mat n d) (g : Fin d → EReal) (t old : Mat n d) (i : (⟨2, ![n, d]⟩ : Shape).Idx) (p : Fin n) (q : Fin d)
    (h0 : (i 0).val = p.val) (h1 : (i 1).val = q.val) :
    dInput x g t old i = pull (row x p) g (row t p) q + old (ix2 p q) := by
  obtain rfl : i 0 = p := Fin.ext h0
  obtain rfl : i 1 = q := Fin.ext h1
  have e : i = ix2 (i 0) (i 1) := by funext a; match a with | ⟨0, _⟩ => rfl | ⟨1, _⟩ => rfl
  exact congrArg (dInput x g t old) e

theorem dGain_at (x t : Mat n d) (i : (⟨2, ![1, d]⟩ : Shape).Idx) (q : Fin d) (h1 : (i 1).val = q.val) :
    dGain x t i = ∑ r : Fin n, x (ix2 r q) * inv (row x r) * t (ix2 r q) := by
  obtain rfl : i 1 = q := Fin.ext h1
  rfl

/-- The cotangent of the input by itself. -/
def dNormed (x : Mat n d) (g : Fin d → EReal) (t : Mat n d) : Mat n d := fun i => pull (row x (i 0)) g (row t (i 0)) (i 1)

theorem dNormed_at (x : Mat n d) (g : Fin d → EReal) (t : Mat n d) (i : (⟨2, ![n, d]⟩ : Shape).Idx) (p : Fin n) (q : Fin d)
    (h0 : (i 0).val = p.val) (h1 : (i 1).val = q.val) : dNormed x g t i = pull (row x p) g (row t p) q := by
  obtain rfl : i 0 = p := Fin.ext h0
  obtain rfl : i 1 = q := Fin.ext h1
  rfl

/-- The normed matrix. -/
def normed (x : Mat n d) (g : Fin d → EReal) : Mat n d := fun i => x i * inv (row x (i 0)) * g (i 1)

theorem normed_at (x : Mat n d) (g : Fin d → EReal) (i : (⟨2, ![n, d]⟩ : Shape).Idx) (p : Fin n) (q : Fin d)
    (h0 : (i 0).val = p.val) (h1 : (i 1).val = q.val) : normed x g i = x (ix2 p q) * inv (row x p) * g q := by
  obtain rfl : i 0 = p := Fin.ext h0
  obtain rfl : i 1 = q := Fin.ext h1
  have e : i = ix2 (i 0) (i 1) := by funext a; match a with | ⟨0, _⟩ => rfl | ⟨1, _⟩ => rfl
  exact congrArg (normed x g) e

/-- A sum over all rows is the sum over the tiles of the sums over a tile's rows. -/
theorem sum_tiles (a b : ℕ) (f : Fin (a * b) → EReal) (hlt : ∀ (t : Fin a) (r : Fin b), t.val * b + r.val < a * b) :
    ∑ t : Fin a, ∑ r : Fin b, f ⟨t.val * b + r.val, hlt t r⟩ = ∑ i, f i := by
  rw [← Finset.sum_product', ← finProdFinEquiv.sum_comp, Finset.univ_product_univ]
  refine Finset.sum_congr rfl fun x _ => congrArg f (Fin.ext ?_)
  simp [Nat.mul_comm, Nat.add_comm]

end Cert.Norm

end
-- ==== Proof.Prod.Gathered.lean ====
/-
  The cotangents of the five column groups of the combined input projection, side by side as one matrix.
-/
module

public import proofs.«01_k».proof.Proof.Prod.Spec

@[expose] public section

noncomputable section

namespace Cert.Prod

open Idealize.ShloMosaic Cert.Attn

/-- A pair of matrices, one matrix, and another pair, side by side. -/
def gathered (a : Stack 2 4096 512) (b : Mat 4096 512) (d : Stack 2 4096 1024) : Mat 4096 3584 := fun i =>
  if h0 : (i 1).val < 512 then a (ix3 0 (i 0) ⟨(i 1).val, h0⟩)
  else if h1 : (i 1).val - 512 < 512 then a (ix3 1 (i 0) ⟨(i 1).val - 512, h1⟩)
  else if h2 : (i 1).val - 512 - 512 < 512 then b (ix2 (i 0) ⟨(i 1).val - 512 - 512, h2⟩)
  else if h3 : (i 1).val - 512 - 512 - 512 < 1024 then d (ix3 0 (i 0) ⟨(i 1).val - 512 - 512 - 512, h3⟩)
  else d (ix3 1 (i 0) ⟨(i 1).val - 512 - 512 - 512 - 1024, by have : (i 1).val < 3584 := (i 1).isLt; omega⟩)

variable (a : Stack 2 4096 512) (b : Mat 4096 512) (d : Stack 2 4096 1024) (p : Fin 4096)

theorem gathered_0 (r : Fin 512) : gathered a b d (ix2 p ⟨r.val, by omega⟩) = a (ix3 0 p r) := by
  show (if h0 : r.val < 512 then _ else _) = _
  rw [dif_pos r.isLt]
  rfl

theorem gathered_1 (r : Fin 512) : gathered a b d (ix2 p ⟨512 + r.val, by omega⟩) = a (ix3 1 p r) := by
  show (if h0 : 512 + r.val < 512 then _ else if h1 : 512 + r.val - 512 < 512 then _ else _) = _
  rw [dif_neg (by omega), dif_pos (by omega)]
  exact congrArg (fun q => a (ix3 1 p q)) (Fin.ext (show 512 + r.val - 512 = r.val by omega))

theorem gathered_2 (r : Fin 512) : gathered a b d (ix2 p ⟨1024 + r.val, by omega⟩) = b (ix2 p r) := by
  show (if h0 : 1024 + r.val < 512 then _ else if h1 : 1024 + r.val - 512 < 512 then _
    else if h2 : 1024 + r.val - 512 - 512 < 512 then _ else _) = _
  rw [dif_neg (by omega), dif_neg (by omega), dif_pos (by omega)]
  exact congrArg (fun q => b (ix2 p q)) (Fin.ext (show 1024 + r.val - 512 - 512 = r.val by omega))

theorem gathered_3 (r : Fin 1024) : gathered a b d (ix2 p ⟨1536 + r.val, by omega⟩) = d (ix3 0 p r) := by
  show (if h0 : 1536 + r.val < 512 then _ else if h1 : 1536 + r.val - 512 < 512 then _
    else if h2 : 1536 + r.val - 512 - 512 < 512 then _ else if h3 : 1536 + r.val - 512 - 512 - 512 < 1024 then _ else _) = _
  rw [dif_neg (by omega), dif_neg (by omega), dif_neg (by omega), dif_pos (by omega)]
  exact congrArg (fun q => d (ix3 0 p q)) (Fin.ext (show 1536 + r.val - 512 - 512 - 512 = r.val by omega))

theorem gathered_4 (r : Fin 1024) : gathered a b d (ix2 p ⟨2560 + r.val, by omega⟩) = d (ix3 1 p r) := by
  show (if h0 : 2560 + r.val < 512 then _ else if h1 : 2560 + r.val - 512 < 512 then _
    else if h2 : 2560 + r.val - 512 - 512 < 512 then _ else if h3 : 2560 + r.val - 512 - 512 - 512 < 1024 then _ else _) = _
  rw [dif_neg (by omega), dif_neg (by omega), dif_neg (by omega), dif_neg (by omega)]
  exact congrArg (fun q => d (ix3 1 p q)) (Fin.ext (show 2560 + r.val - 512 - 512 - 512 - 1024 = r.val by omega))

/-- A sum over the 3584 columns is the sum over the five groups. -/
theorem sum_gathered (f : Fin 3584 → EReal) : ∑ r, f r
    = ∑ r : Fin 512, f ⟨r.val, by omega⟩ + ∑ r : Fin 512, f ⟨512 + r.val, by omega⟩ + ∑ r : Fin 512, f ⟨1024 + r.val, by omega⟩
      + ∑ r : Fin 1024, f ⟨1536 + r.val, by omega⟩ + ∑ r : Fin 1024, f ⟨2560 + r.val, by omega⟩ := by
  show ∑ r : Fin (512 + 512 + 512 + 1024 + 1024), f r = _
  rw [Fin.sum_univ_add, Fin.sum_univ_add, Fin.sum_univ_add, Fin.sum_univ_add]
  rfl

/-- A sum over the 5632 columns is the sum over the two halves. -/
theorem sum_joined (f : Fin 5632 → EReal) : ∑ r, f r
    = ∑ r : Fin 2816, f ⟨r.val, by omega⟩ + ∑ r : Fin 2816, f ⟨2816 + r.val, by omega⟩ := by
  show ∑ r : Fin (2816 + 2816), f r = _
  rw [Fin.sum_univ_add]
  rfl

/-- A product with the two halves side by side is the sum of the halves' products. -/
theorem prodNT_joined {n : ℕ} (x : Stack 2 4096 2816) (w : Mat n 5632) (p : Fin 4096) (q : Fin n) :
    prodNT (joined x) w (ix2 p q) = ∑ r : Fin 2816, x (ix3 0 p r) * w (ix2 q ⟨r.val, by omega⟩)
      + ∑ r : Fin 2816, x (ix3 1 p r) * w (ix2 q ⟨2816 + r.val, by omega⟩) := by
  refine (sum_joined fun r => joined x (ix2 p r) * w (ix2 q r)).trans ?_
  refine congrArg₂ (· + ·) (Finset.sum_congr rfl fun r _ => ?_) (Finset.sum_congr rfl fun r _ => ?_)
  · rw [joined_lo _ _ _ r.isLt]
  · have e : (⟨2816 + r.val - 2816, by omega⟩ : Fin 2816) = r := Fin.ext (show 2816 + r.val - 2816 = r.val by omega)
    rw [joined_hi _ _ _ (show ¬ 2816 + r.val < 2816 by omega), e]

/-- A product with the five groups side by side is the sum of the groups' products. -/
theorem prodNT_gathered {n : ℕ} (w : Mat n 3584) (q : Fin n) : prodNT (gathered a b d) w (ix2 p q)
    = ∑ r : Fin 512, a (ix3 0 p r) * w (ix2 q ⟨r.val, by omega⟩) + ∑ r : Fin 512, a (ix3 1 p r) * w (ix2 q ⟨512 + r.val, by omega⟩)
      + ∑ r : Fin 512, b (ix2 p r) * w (ix2 q ⟨1024 + r.val, by omega⟩)
      + ∑ r : Fin 1024, d (ix3 0 p r) * w (ix2 q ⟨1536 + r.val, by omega⟩)
      + ∑ r : Fin 1024, d (ix3 1 p r) * w (ix2 q ⟨2560 + r.val, by omega⟩) := by
  refine (sum_gathered fun r => gathered a b d (ix2 p r) * w (ix2 q r)).trans ?_
  refine congrArg₂ (· + ·) (congrArg₂ (· + ·) (congrArg₂ (· + ·) (congrArg₂ (· + ·) ?_ ?_) ?_) ?_) ?_
  · exact Finset.sum_congr rfl fun r _ => by rw [gathered_0]
  · exact Finset.sum_congr rfl fun r _ => by rw [gathered_1]
  · exact Finset.sum_congr rfl fun r _ => by rw [gathered_2]
  · exact Finset.sum_congr rfl fun r _ => by rw [gathered_3]
  · exact Finset.sum_congr rfl fun r _ => by rw [gathered_4]

end Cert.Prod

end
-- ==== Proof.Norm.DHf.lean ====
/-
  The gradient of the gated block's normed input, pulled back through the up-projection and the normalisation.
-/
module

public import proofs.«01_k».proof.Defs
public import proofs.«01_k».proof.Proof.Norm.Row
public import proofs.«01_k».proof.Proof.Prod.Gathered
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Own

open Cert.Kernel2Ideal Cert.Kernel2Ideal.Gen Cert.Attn Cert.Prod Cert.Norm

section Payloads

variable (a0 a1 : Vec Ideal S1x512x2816 .bf16) (w0 w1 : Vec Ideal S1x1024x2816 .bf16) (x : Vec Ideal S512x1024 .f32)
  (g : Vec Ideal S1x1024 .f32) (old : Vec Ideal S512x1024 .f32) (acc : Vec Ideal S1x1024 .f32)

theorem meanSq_apply (p : Fin 512) : k0_pay6 x (ix2 p 0) = meanSq (fun j => x (ix2 p j)) := by
  pointwise [k0_pay6]
  rfl

theorem inv_apply (p : Fin 512) : k0_pay7 x (ix2 p 0) = inv (fun j => x (ix2 p j)) := by
  pointwise [k0_pay7, meanSq_apply]
  rfl

/-- The cotangent of the normed rows. -/
def ct (p : Fin 512) (q : Fin 1024) : EReal :=
  ∑ r : Fin 2816, a0 (ix3 0 p r) * w0 (ix3 0 q r) + ∑ r : Fin 2816, a1 (ix3 0 p r) * w1 (ix3 0 q r)

theorem ct_apply (p : Fin 512) (q : Fin 1024) : k0_pay5 a0 a1 w0 w1 (ix2 p q) = ct a0 a1 w0 w1 p q := by
  pointwise [k0_pay5]
  rfl

theorem half_apply (p : Fin 512) : k0_pay8 x (ix2 p 0)
    = minusHalf * Ideal.div (inv (fun j => x (ix2 p j))) (meanSq (fun j => x (ix2 p j))) := by
  pointwise [k0_pay8, inv_apply, meanSq_apply]

theorem scaled_apply (p : Fin 512) (q : Fin 1024) : k0_pay10 a0 a1 w0 w1 g (ix2 p q) = ct a0 a1 w0 w1 p q * g (ix2 0 q) := by
  pointwise [k0_pay10, ct_apply]

theorem dot_apply (p : Fin 512) : k0_pay11 a0 a1 w0 w1 x g (ix2 p 0)
    = ∑ j, x (ix2 p j) * (ct a0 a1 w0 w1 p j * g (ix2 0 j)) := by
  pointwise [k0_pay11, scaled_apply]

/-- What a tile writes of the cotangent of the input, and of the gain. -/
abbrev dx : FVec Ideal S512x1024 .f32 :=
  k0_pay1 x (k0_pay7 x) (k0_pay8 x) (k0_pay10 a0 a1 w0 w1 g) (k0_pay11 a0 a1 w0 w1 x g) old
abbrev dg : FVec Ideal S1x1024 .f32 := k0_pay4 (k0_pay9 a0 a1 w0 w1 x) acc

theorem dx_apply (p : Fin 512) (q : Fin 1024) : dx a0 a1 w0 w1 x g old (ix2 p q)
    = pull (fun j => x (ix2 p j)) (fun j => g (ix2 0 j)) (ct a0 a1 w0 w1 p) q + old (ix2 p q) := by
  pointwise [k0_pay1, scaled_apply, inv_apply]
  simp only [Fin.sum_univ_one, dot_apply, half_apply]
  rfl

theorem dg_apply (q : Fin 1024) : dg a0 a1 w0 w1 x acc (ix2 0 q)
    = acc (ix2 0 q) + ∑ p : Fin 512, x (ix2 p q) * inv (fun j => x (ix2 p j)) * ct a0 a1 w0 w1 p q := by
  pointwise [k0_pay4, k0_pay9, ct_apply, inv_apply]

theorem zero_apply (j : S1x1024.Idx) : k0_pay3 (F := Ideal) j = 0 := by pointwise [k0_pay3]

end Payloads

variable (m : (ℓ : Loc nD τ sig) → Buf (Elt Ideal) ℓ) (c : Dev nD)

abbrev arg0 : Stack 2 4096 2816 := m ((c.tc : Thread nD τ).loc main_arg0)
abbrev arg1 : Stack 1 1024 5632 := m ((c.tc : Thread nD τ).loc main_arg1)
abbrev arg2 : Mat 4096 1024 := m ((c.tc : Thread nD τ).loc main_arg2)
abbrev arg3 : (⟨1, ![1024]⟩ : Shape).Idx → EReal := m ((c.tc : Thread nD τ).loc main_arg3)
abbrev arg4 : Mat 4096 1024 := m ((c.tc : Thread nD τ).loc main_arg4)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel

theorem points (t : Fin cfg0.N) : t.val < 8 := by have := t.isLt; have : cfg0.N = 8 := N_0; omega

/-- The row of the whole matrix that a tile's row is. -/
abbrev at' (t : Fin cfg0.N) (p : Fin 512) : Fin 4096 := ⟨t.val * 512 + p.val, by have := points t; omega⟩

theorem blk0 (t : Fin cfg0.N) (s : Fin 2) (p : Fin 512) (r : Fin 2816) : iblk m c 0 t (ix3 s p r) = arg0 m c (ix3 s (at' t p) r) := by
  have e : iblk m c 0 t (ix3 s p r) = V m c main_arg0 (ix3 s (at' t p) r) := by blk_ext [iblk, idx0 t]
  exact e.trans (congrFun (V_main_arg0 m c) _)
theorem blk1 (t : Fin cfg0.N) (q : Fin 1024) (r : Fin 5632) : iblk m c 1 t (ix3 0 q r) = arg1 m c (ix3 0 q r) := by
  have e : iblk m c 1 t (ix3 0 q r) = V m c main_arg1 (ix3 0 q r) := by blk_ext [iblk, idx1 t]
  exact e.trans (congrFun (V_main_arg1 m c) _)
theorem blk2 (t : Fin cfg0.N) (p : Fin 512) (r : Fin 1024) : iblk m c 2 t (ix2 p r) = arg2 m c (ix2 (at' t p) r) := by
  have e : iblk m c 2 t (ix2 p r) = V m c main_arg2 (ix2 (at' t p) r) := by blk_ext [iblk, idx2 t]
  exact e.trans (congrFun (V_main_arg2 m c) _)
theorem gain (q : Fin 1024) : V m c main_v0 (ix2 0 q) = arg3 m c (ix1 q) := by
  unfold_abbrev_sides
  after_results
  pointwise []
theorem blk3 (t : Fin cfg0.N) (q : Fin 1024) : iblk m c 3 t (ix2 0 q) = arg3 m c (ix1 q) := by
  have e : iblk m c 3 t (ix2 0 q) = V m c main_v0 (ix2 0 q) := by blk_ext [iblk, idx3 t]
  exact e.trans (gain m c q)
theorem blk4 (t : Fin cfg0.N) (p : Fin 512) (r : Fin 1024) : iblk m c 4 t (ix2 p r) = arg4 m c (ix2 (at' t p) r) := by
  have e : iblk m c 4 t (ix2 p r) = V m c main_arg4 (ix2 (at' t p) r) := by blk_ext [iblk, idx4 t]
  exact e.trans (congrFun (V_main_arg4 m c) _)

/-- The loads of the parts of the blocks. -/
abbrev a0 (t : Fin cfg0.N) := View.ld (iblk m c 0 t) (Rect.unit ![0, 0, 0] ![1, 512, 2816] inb_S2x512x2816_S1x512x2816_0_0_0)
abbrev a1 (t : Fin cfg0.N) := View.ld (iblk m c 0 t) (Rect.unit ![1, 0, 0] ![1, 512, 2816] inb_S2x512x2816_S1x512x2816_1_0_0)
abbrev w0 (t : Fin cfg0.N) := View.ld (iblk m c 1 t) (Rect.unit ![0, 0, 0] ![1, 1024, 2816] inb_S1x1024x5632_S1x1024x2816_0_0_0)
abbrev w1 (t : Fin cfg0.N) := View.ld (iblk m c 1 t) (Rect.unit ![0, 0, 2816] ![1, 1024, 2816] inb_S1x1024x5632_S1x1024x2816_0_0_2816)

/-- The cotangent of the normed matrix. -/
abbrev ctAll : Mat 4096 1024 := prodNT (joined (arg0 m c)) (sheet (arg1 m c))
abbrev gainRow : Fin 1024 → EReal := fun j => arg3 m c (ix1 j)

theorem a0_at (t : Fin cfg0.N) (p : Fin 512) (r : Fin 2816) : a0 m c t (ix3 0 p r) = arg0 m c (ix3 0 (at' t p) r) := by
  pointwise [a0]
  rw [blk0]
theorem a1_at (t : Fin cfg0.N) (p : Fin 512) (r : Fin 2816) : a1 m c t (ix3 0 p r) = arg0 m c (ix3 1 (at' t p) r) := by
  pointwise [a1]
  rw [blk0]
theorem w0_at (t : Fin cfg0.N) (q : Fin 1024) (r : Fin 2816) : w0 m c t (ix3 0 q r) = arg1 m c (ix3 0 q ⟨r.val, by omega⟩) := by
  pointwise [w0]
  rw [blk1]
theorem w1_at (t : Fin cfg0.N) (q : Fin 1024) (r : Fin 2816) : w1 m c t (ix3 0 q r) = arg1 m c (ix3 0 q ⟨2816 + r.val, by omega⟩) := by
  pointwise [w1]
  rw [blk1]

theorem ct_blk (t : Fin cfg0.N) (p : Fin 512) (q : Fin 1024) :
    ct (a0 m c t) (a1 m c t) (w0 m c t) (w1 m c t) p q = ctAll m c (ix2 (at' t p) q) := by
  rw [ctAll, prodNT_joined]
  refine congrArg₂ (· + ·) (Finset.sum_congr rfl fun r _ => ?_) (Finset.sum_congr rfl fun r _ => ?_)
  · rw [a0_at, w0_at]; rfl
  · rw [a1_at, w1_at]; rfl

theorem dx_blk (t : Fin cfg0.N) (p : Fin 512) (q : Fin 1024) :
    dx (a0 m c t) (a1 m c t) (w0 m c t) (w1 m c t) (iblk m c 2 t) (iblk m c 3 t) (iblk m c 4 t) (ix2 p q)
      = pull (row (arg2 m c) (at' t p)) (gainRow m c) (row (ctAll m c) (at' t p)) q + arg4 m c (ix2 (at' t p) q) := by
  rw [dx_apply, blk4]
  have e2 : (fun j => iblk m c 2 t (ix2 p j)) = row (arg2 m c) (at' t p) := funext fun j => blk2 m c t p j
  have e3 : (fun j => iblk m c 3 t (ix2 0 j)) = gainRow m c := funext fun j => blk3 m c t j
  have e0 : ct (a0 m c t) (a1 m c t) (w0 m c t) (w1 m c t) p = row (ctAll m c) (at' t p) := funext fun j => ct_blk m c t p j
  rw [e2, e3, e0]

theorem array5 : (dats m 0 c).arrAt 5 cfg0.N = dInput (arg2 m c) (gainRow m c) (ctAll m c) (arg4 m c) := by
  refine (dats m 0 c).arrAt_eq_of_covers 5 _ (by decide +kernel) fun t hf y => ?_
  blk_simp
  rw [after0_5]
  have key : (outsAt0 m c t.val t.isLt).1 y
      = dx (a0 m c t) (a1 m c t) (w0 m c t) (w1 m c t) (iblk m c 2 t) (iblk m c 3 t) (iblk m c 4 t) y := by
    by_cases h : t.val % 8 = 0
    · rw [Gen.outsAt0_A m c t h]; frame_out <;> rfl
    · rw [Gen.outsAt0_B m c t h]; frame_out <;> rfl
  rw [key]
  idx_vars y
  rw [dx_blk, dInput_at _ _ _ _ _ (at' t y0) y1 (by blk_simp [idx5 t]) (by blk_simp [idx5 t])]

theorem array6 : (dats m 0 c).arrAt 6 cfg0.N = dInput (arg2 m c) (gainRow m c) (ctAll m c) (arg4 m c) := by
  refine (dats m 0 c).arrAt_eq_of_covers 6 _ (by decide +kernel) fun t hf y => ?_
  blk_simp
  rw [after0_6]
  have key : (outsAt0 m c t.val t.isLt).2.1 y
      = dx (a0 m c t) (a1 m c t) (w0 m c t) (w1 m c t) (iblk m c 2 t) (iblk m c 3 t) (iblk m c 4 t) y := by
    by_cases h : t.val % 8 = 0
    · rw [Gen.outsAt0_A m c t h]; frame_out <;> rfl
    · rw [Gen.outsAt0_B m c t h]; frame_out <;> rfl
  rw [key]
  idx_vars y
  rw [dx_blk, dInput_at _ _ _ _ _ (at' t y0) y1 (by blk_simp [idx6 t]) (by blk_simp [idx6 t])]

/-- A tile's part in the cotangent of the gain. -/
def dgPart (t : Fin cfg0.N) (j : S1x1024.Idx) : EReal :=
  ∑ p : Fin 512, arg2 m c (ix2 (at' t p) (j 1)) * inv (row (arg2 m c) (at' t p)) * ctAll m c (ix2 (at' t p) (j 1))

theorem dg_step (t : Fin cfg0.N) (acc : Vec Ideal S1x1024 .f32) (j : S1x1024.Idx) :
    dg (a0 m c t) (a1 m c t) (w0 m c t) (w1 m c t) (iblk m c 2 t) acc j = acc j + dgPart m c t j := by
  idx_vars j
  obtain rfl : j0 = 0 := Subsingleton.elim _ _
  rw [dg_apply]
  refine congrArg (acc _ + ·) (Finset.sum_congr rfl fun p _ => ?_)
  have e2 : (fun j => iblk m c 2 t (ix2 p j)) = row (arg2 m c) (at' t p) := funext fun j => blk2 m c t p j
  rw [e2, blk2, ct_blk]
  rfl

theorem array7 : (dats m 0 c).arrAt 7 cfg0.N = dGain (arg2 m c) (ctAll m c) := by
  refine (dats m 0 c).arrAt_eq_of_covers 7 _ (by decide +kernel) fun t hf y => ?_
  blk_simp
  rw [after0_7]
  have key := Pipeline.eq_sum_fin_of_reset_step_apply_of_flush (fun n h => (outsAt0 m c n h).2.2) 8 (fun _ => 0)
    (dgPart m c) (fun t h j => by rw [Gen.outsAt0_A m c t h]; frame_out; exact (dg_step m c t _ j).trans (by rw [zero_apply]))
    (fun t h j => by rw [Gen.outsAt0_B m c t h]; frame_out; exact dg_step m c t _ j) t ((flush0_7 t).mp hf) y
  rw [show (outsAt0 m c t.val t.isLt).2.2 y = _ from key, zero_add]
  idx_vars y
  rw [dGain_at _ _ _ y1 (by blk_simp [idx7 t])]
  rw [← sum_tiles 8 512 (fun r : Fin 4096 => arg2 m c (ix2 r y1) * inv (row (arg2 m c) r) * ctAll m c (ix2 r y1)) (fun t r => by omega)]
  show @Eq EReal _ _
  refine Finset.sum_congr rfl fun a _ => ?_
  have e : ∀ h p, at' ⟨8 * (t.val / 8) + a.val, h⟩ p = ⟨a.val * 512 + p.val, by omega⟩ :=
    fun h r => Fin.ext (by have := points t; dsimp only; omega)
  unfold dgPart
  simp only [e]
  rfl

end Cert.Kernel2Ideal.Own

namespace Cert.Reference2Ideal.Own

open Cert.Reference2Ideal Cert.Reference2Ideal.Gen Cert.Reference2Ideal.Read Cert.Attn Cert.Prod Cert.Norm

variable (x0 : Stack 2 4096 2816) (x1 : Stack 1 1024 5632) (x2 : Mat 4096 1024) (x3 : (⟨1, ![1024]⟩ : Shape).Idx → EReal) (x4 : Mat 4096 1024)

theorem ct_at (p : Fin 4096) (q : Fin 1024) : val_main_v25 (F := Ideal) x0 x1 (ix2 p q) = prodNT (joined x0) (sheet x1) (ix2 p q) := by
  pointwise [val_main_v25, val_main_v7, val_main_v6, val_main_v5, val_main_v4, val_main_v3, val_main_v2, val_main_v1, val_main_v0]
  exact (prodNT_joined x0 (sheet x1) p q).symm

theorem meanSq_at (p : Fin 4096) : val_main_v14 (F := Ideal) x2 (ix2 p 0) = meanSq (row x2 p) := by
  pointwise [val_main_v14, val_main_v13, val_main_v12, val_main_v11, val_main_v10, val_main_v9, val_main_v8, val_main_cst, val_main_cst_0, val_main_cst_1]
  rfl

theorem inv_at (p : Fin 4096) : val_main_v15 (F := Ideal) x2 (ix2 p 0) = inv (row x2 p) := by
  pointwise [val_main_v15, meanSq_at]
  rfl

theorem scaled_at (p : Fin 4096) (q : Fin 1024) : val_main_v30 (F := Ideal) x0 x1 x3 (ix2 p q)
    = row (prodNT (joined x0) (sheet x1)) p q * x3 (ix1 q) := by
  pointwise [val_main_v30, ct_at, val_main_v29, val_main_v21]
  rfl

theorem half_at (p : Fin 4096) : val_main_v18 (F := Ideal) x2 (ix2 p 0) = minusHalf * Ideal.div (inv (row x2 p)) (meanSq (row x2 p)) := by
  pointwise [val_main_v18, val_main_v17, val_main_v16, val_main_cst_2, inv_at, meanSq_at]

theorem dot_at (p : Fin 4096) : val_main_v34 (F := Ideal) x0 x1 x2 x3 (ix2 p 0)
    = ∑ j, row x2 p j * (row (prodNT (joined x0) (sheet x1)) p j * x3 (ix1 j)) := by
  pointwise [val_main_v34, val_main_v33, val_main_v32, val_main_cst_5, scaled_at]
  rfl

theorem shift_at (p : Fin 4096) (q : Fin 1024) : val_main_v42 (F := Ideal) x0 x1 x2 x3 (ix2 p q)
    = shift (row x2 p) (fun j => x3 (ix1 j)) (row (prodNT (joined x0) (sheet x1)) p) := by
  pointwise [val_main_v42, val_main_v41, val_main_v40, val_main_v39, val_main_v38, val_main_cst_6, val_main_cst_7, half_at, dot_at]
  simp only [Fin.sum_univ_one, half_at, dot_at]
  rfl

theorem v46_eq : val_main_v46 (F := Ideal) x0 x1 x2 x3 x4 = dInput x2 (fun j => x3 (ix1 j)) (prodNT (joined x0) (sheet x1)) x4 := by
  funext i
  idx_vars i
  pointwise [val_main_v46, val_main_v45, val_main_v44, val_main_v43, val_main_v37, val_main_v36, val_main_v35, shift_at, scaled_at, inv_at]
  rw [dInput_at _ _ _ _ _ i0 i1 rfl rfl]
  unfold pull
  show @Eq EReal _ _
  rw [add_assoc, add_assoc, add_comm, ← add_assoc]
  rfl

theorem v47_eq : val_main_v47 (F := Ideal) x0 x1 x2 x3 x4 = dInput x2 (fun j => x3 (ix1 j)) (prodNT (joined x0) (sheet x1)) x4 :=
  v46_eq x0 x1 x2 x3 x4

theorem v48_eq : val_main_v48 (F := Ideal) x0 x1 x2 = dGain x2 (prodNT (joined x0) (sheet x1)) := by
  funext i
  idx_vars i
  pointwise [val_main_v48, val_main_v31, val_main_v28, val_main_v27, val_main_v26, val_main_v20, val_main_v19, val_main_cst_3, val_main_cst_4, ct_at, inv_at]
  simp only [Fin.sum_univ_one]
  rfl

end Cert.Reference2Ideal.Own

namespace Cert.Claim2

open Cert.Attn Cert.Prod Cert.Norm

/-- The reference runs, keeps its arguments, and declares no semaphore. -/
theorem frame_reference : Cert.quiescent_Reference2Ideal (hReference2Ideal := Cert.Reference2Ideal.Gen.facts) :=
  fun m g _ => (θ_run _ _ _).mono
    (fun r h => ⟨fun c => (h c).2.2.2, Idealize.ShloMosaic.sem_eq_zero_of_no_sems (by decide) r.2⟩) (Cert.Reference2Ideal.Value.run m g)

/-- The call and its reference return the same arrays. -/
theorem algebraic : Cert.algebraic_Kernel2Ideal_Reference2Ideal
    (hKernel2Ideal := Cert.Kernel2Ideal.Gen.facts) (hReference2Ideal := Cert.Reference2Ideal.Gen.facts) := by
  intro m g m' g' hpre hag
  refine ⟨fun c => dInput (Cert.Kernel2Ideal.Own.arg2 m c) (fun j => (Cert.Kernel2Ideal.Own.arg3 m c) (ix1 j)) (prodNT (joined (Cert.Kernel2Ideal.Own.arg0 m c)) (sheet (Cert.Kernel2Ideal.Own.arg1 m c))) (Cert.Kernel2Ideal.Own.arg4 m c),
    fun c => dInput (Cert.Kernel2Ideal.Own.arg2 m c) (fun j => (Cert.Kernel2Ideal.Own.arg3 m c) (ix1 j)) (prodNT (joined (Cert.Kernel2Ideal.Own.arg0 m c)) (sheet (Cert.Kernel2Ideal.Own.arg1 m c))) (Cert.Kernel2Ideal.Own.arg4 m c),
    fun c => dGain (Cert.Kernel2Ideal.Own.arg2 m c) (prodNT (joined (Cert.Kernel2Ideal.Own.arg0 m c)) (sheet (Cert.Kernel2Ideal.Own.arg1 m c))),
    (θ_run _ _ _).mono (fun r h c => ?_) (Cert.Kernel2Ideal.Value.run_blocks m g),
    (θ_run _ _ _).mono (fun r h c => ?_) (Cert.Reference2Ideal.Value.run m' g')⟩
  · exact ⟨(h c).1.trans (Cert.Kernel2Ideal.Own.array5 m c), (h c).2.1.trans (Cert.Kernel2Ideal.Own.array6 m c), (h c).2.2.1.trans (Cert.Kernel2Ideal.Own.array7 m c), (h c).2.2.2.1, (h c).2.2.2.2.1, (h c).2.2.2.2.2.1, (h c).2.2.2.2.2.2.1, (h c).2.2.2.2.2.2.2⟩
  · obtain ⟨e0, e1, e2, e3, e4⟩ := hag c
    refine ⟨(h c).1.trans ?_, (h c).2.1.trans ?_, (h c).2.2.1.trans ?_, (h c).2.2.2.1, (h c).2.2.2.2.1, (h c).2.2.2.2.2.1, (h c).2.2.2.2.2.2.1, (h c).2.2.2.2.2.2.2⟩
    · rw [Cert.Reference2Ideal.Read.val_main_v46_eq, e0, e1, e2, e3, e4]
      exact Cert.Reference2Ideal.Own.v46_eq _ _ _ _ _
    · rw [Cert.Reference2Ideal.Read.val_main_v47_eq, e0, e1, e2, e3, e4]
      exact Cert.Reference2Ideal.Own.v47_eq _ _ _ _ _
    · rw [e0, e1, e2]
      exact (Cert.Reference2Ideal.Read.val_main_v48_eq (F := Ideal) (Cert.Kernel2Ideal.Own.arg0 m c) (Cert.Kernel2Ideal.Own.arg1 m c) (Cert.Kernel2Ideal.Own.arg2 m c)).trans (Cert.Reference2Ideal.Own.v48_eq (Cert.Kernel2Ideal.Own.arg0 m c) (Cert.Kernel2Ideal.Own.arg1 m c) (Cert.Kernel2Ideal.Own.arg2 m c))

end Cert.Claim2

end
-- ==== Proof.Norm.DH.lean ====
/-
  The gradient of a block's normed input, pulled back through the combined input projection and the normalisation.
-/
module

public import proofs.«01_k».proof.Defs
public import proofs.«01_k».proof.Proof.Norm.Row
public import proofs.«01_k».proof.Proof.Prod.Gathered
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Own

open Cert.Kernel3Ideal Cert.Kernel3Ideal.Gen Cert.Attn Cert.Prod Cert.Norm

section Payloads

variable (b0 b1 : Vec Ideal S1x512x512 .bf16) (b2 : Vec Ideal S512x512 .bf16) (b3 b4 : Vec Ideal S1x512x1024 .bf16)
  (v0 v1 v2 : Vec Ideal S1x1024x512 .bf16) (v3 v4 : Vec Ideal S1x1024x1024 .bf16) (x : Vec Ideal S512x1024 .f32)
  (g : Vec Ideal S1x1024 .f32) (old : Vec Ideal S512x1024 .f32) (acc : Vec Ideal S1x1024 .f32)

theorem meanSq_apply (p : Fin 512) : k0_pay7 x (ix2 p 0) = meanSq (fun j => x (ix2 p j)) := by
  pointwise [k0_pay7]
  rfl

theorem inv_apply (p : Fin 512) : k0_pay8 x (ix2 p 0) = inv (fun j => x (ix2 p j)) := by
  pointwise [k0_pay8, meanSq_apply]
  rfl

/-- The cotangent of the normed rows. -/
def ct (p : Fin 512) (q : Fin 1024) : EReal :=
  ∑ r : Fin 512, b0 (ix3 0 p r) * v0 (ix3 0 q r) + ∑ r : Fin 512, b1 (ix3 0 p r) * v1 (ix3 0 q r)
    + ∑ r : Fin 512, b2 (ix2 p r) * v2 (ix3 0 q r) + ∑ r : Fin 1024, b3 (ix3 0 p r) * v3 (ix3 0 q r)
    + ∑ r : Fin 1024, b4 (ix3 0 p r) * v4 (ix3 0 q r)

theorem ct_apply (p : Fin 512) (q : Fin 1024) : k0_pay6 (k0_pay3 b4) (k0_pay4 b0 b1 v0 v1 b2 v2 b3 v3) (k0_pay5 v4) (ix2 p q)
    = ct b0 b1 b2 b3 b4 v0 v1 v2 v3 v4 p q := by
  pointwise [k0_pay6, k0_pay4, k0_pay3, k0_pay5]
  rfl

/-- What a tile writes of the cotangent of the input, and of the gain. -/
abbrev dx : FVec Ideal S512x1024 .f32 := k0_pay10 (k0_pay3 b4) (k0_pay4 b0 b1 v0 v1 b2 v2 b3 v3) (k0_pay5 v4) x g old
abbrev dg : FVec Ideal S1x1024 .f32 := k0_pay2 (k0_pay9 (k0_pay3 b4) (k0_pay4 b0 b1 v0 v1 b2 v2 b3 v3) (k0_pay5 v4) x) acc

theorem dx_apply (p : Fin 512) (q : Fin 1024) : dx b0 b1 b2 b3 b4 v0 v1 v2 v3 v4 x g old (ix2 p q)
    = pull (fun j => x (ix2 p j)) (fun j => g (ix2 0 j)) (ct b0 b1 b2 b3 b4 v0 v1 v2 v3 v4 p) q + old (ix2 p q) := by
  pointwise [k0_pay10, ct_apply, inv_apply, meanSq_apply]
  simp only [Fin.sum_univ_one, inv_apply, meanSq_apply]
  rfl

theorem dg_apply (q : Fin 1024) : dg b0 b1 b2 b3 b4 v0 v1 v2 v3 v4 x acc (ix2 0 q)
    = acc (ix2 0 q) + ∑ p : Fin 512, x (ix2 p q) * inv (fun j => x (ix2 p j)) * ct b0 b1 b2 b3 b4 v0 v1 v2 v3 v4 p q := by
  pointwise [k0_pay2, k0_pay9, ct_apply, inv_apply]

theorem zero_apply (j : S1x1024.Idx) : k0_pay1 (F := Ideal) j = 0 := by pointwise [k0_pay1]

end Payloads

variable (m : (ℓ : Loc nD τ sig) → Buf (Elt Ideal) ℓ) (c : Dev nD)

abbrev arg0 : Stack 2 4096 512 := m ((c.tc : Thread nD τ).loc main_arg0)
abbrev arg1 : Mat 4096 512 := m ((c.tc : Thread nD τ).loc main_arg1)
abbrev arg2 : Stack 2 4096 1024 := m ((c.tc : Thread nD τ).loc main_arg2)
abbrev arg3 : Stack 1 1024 3584 := m ((c.tc : Thread nD τ).loc main_arg3)
abbrev arg4 : Mat 4096 1024 := m ((c.tc : Thread nD τ).loc main_arg4)
abbrev arg5 : (⟨1, ![1024]⟩ : Shape).Idx → EReal := m ((c.tc : Thread nD τ).loc main_arg5)
abbrev arg6 : Mat 4096 1024 := m ((c.tc : Thread nD τ).loc main_arg6)

theorem idx0 : ∀ t : Fin grid0.N, win0_0.index t = ![0, t.val, 0] := by decide +kernel
theorem idx1 : ∀ t : Fin grid0.N, win0_1.index t = ![t.val, 0] := by decide +kernel
theorem idx2 : ∀ t : Fin grid0.N, win0_2.index t = ![0, t.val, 0] := by decide +kernel
theorem idx3 : ∀ t : Fin grid0.N, win0_3.index t = ![0, 0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![0, 0] := by decide +kernel

theorem points (t : Fin cfg0.N) : t.val < 8 := by have := t.isLt; have : cfg0.N = 8 := N_0; omega

/-- The row of the whole matrix that a tile's row is. -/
abbrev at' (t : Fin cfg0.N) (p : Fin 512) : Fin 4096 := ⟨t.val * 512 + p.val, by have := points t; omega⟩

theorem blk0 (t : Fin cfg0.N) (s : Fin 2) (p : Fin 512) (r : Fin 512) : iblk m c 0 t (ix3 s p r) = arg0 m c (ix3 s (at' t p) r) := by
  have e : iblk m c 0 t (ix3 s p r) = V m c main_arg0 (ix3 s (at' t p) r) := by blk_ext [iblk, idx0 t]
  exact e.trans (congrFun (V_main_arg0 m c) _)
theorem blk1 (t : Fin cfg0.N) (p : Fin 512) (r : Fin 512) : iblk m c 1 t (ix2 p r) = arg1 m c (ix2 (at' t p) r) := by
  have e : iblk m c 1 t (ix2 p r) = V m c main_arg1 (ix2 (at' t p) r) := by blk_ext [iblk, idx1 t]
  exact e.trans (congrFun (V_main_arg1 m c) _)
theorem blk2 (t : Fin cfg0.N) (s : Fin 2) (p : Fin 512) (r : Fin 1024) : iblk m c 2 t (ix3 s p r) = arg2 m c (ix3 s (at' t p) r) := by
  have e : iblk m c 2 t (ix3 s p r) = V m c main_arg2 (ix3 s (at' t p) r) := by blk_ext [iblk, idx2 t]
  exact e.trans (congrFun (V_main_arg2 m c) _)
theorem blk3 (t : Fin cfg0.N) (q : Fin 1024) (r : Fin 3584) : iblk m c 3 t (ix3 0 q r) = arg3 m c (ix3 0 q r) := by
  have e : iblk m c 3 t (ix3 0 q r) = V m c main_arg3 (ix3 0 q r) := by blk_ext [iblk, idx3 t]
  exact e.trans (congrFun (V_main_arg3 m c) _)
theorem blk4 (t : Fin cfg0.N) (p : Fin 512) (r : Fin 1024) : iblk m c 4 t (ix2 p r) = arg4 m c (ix2 (at' t p) r) := by
  have e : iblk m c 4 t (ix2 p r) = V m c main_arg4 (ix2 (at' t p) r) := by blk_ext [iblk, idx4 t]
  exact e.trans (congrFun (V_main_arg4 m c) _)
theorem gain (q : Fin 1024) : V m c main_v0 (ix2 0 q) = arg5 m c (ix1 q) := by
  unfold_abbrev_sides
  after_results
  pointwise []
theorem blk5 (t : Fin cfg0.N) (q : Fin 1024) : iblk m c 5 t (ix2 0 q) = arg5 m c (ix1 q) := by
  have e : iblk m c 5 t (ix2 0 q) = V m c main_v0 (ix2 0 q) := by blk_ext [iblk, idx5 t]
  exact e.trans (gain m c q)
theorem blk6 (t : Fin cfg0.N) (p : Fin 512) (r : Fin 1024) : iblk m c 6 t (ix2 p r) = arg6 m c (ix2 (at' t p) r) := by
  have e : iblk m c 6 t (ix2 p r) = V m c main_arg6 (ix2 (at' t p) r) := by blk_ext [iblk, idx6 t]
  exact e.trans (congrFun (V_main_arg6 m c) _)

/-- The loads of the parts of the blocks. -/
abbrev b0 (t : Fin cfg0.N) := View.ld (iblk m c 0 t) (Rect.unit ![0, 0, 0] ![1, 512, 512] inb_S2x512x512_S1x512x512_0_0_0)
abbrev b1 (t : Fin cfg0.N) := View.ld (iblk m c 0 t) (Rect.unit ![1, 0, 0] ![1, 512, 512] inb_S2x512x512_S1x512x512_1_0_0)
abbrev b3 (t : Fin cfg0.N) := View.ld (iblk m c 2 t) (Rect.unit ![0, 0, 0] ![1, 512, 1024] inb_S2x512x1024_S1x512x1024_0_0_0)
abbrev b4 (t : Fin cfg0.N) := View.ld (iblk m c 2 t) (Rect.unit ![1, 0, 0] ![1, 512, 1024] inb_S2x512x1024_S1x512x1024_1_0_0)
abbrev v0 (t : Fin cfg0.N) := View.ld (iblk m c 3 t) (Rect.unit ![0, 0, 0] ![1, 1024, 512] inb_S1x1024x3584_S1x1024x512_0_0_0)
abbrev v1 (t : Fin cfg0.N) := View.ld (iblk m c 3 t) (Rect.unit ![0, 0, 512] ![1, 1024, 512] inb_S1x1024x3584_S1x1024x512_0_0_512)
abbrev v2 (t : Fin cfg0.N) := View.ld (iblk m c 3 t) (Rect.unit ![0, 0, 1024] ![1, 1024, 512] inb_S1x1024x3584_S1x1024x512_0_0_1024)
abbrev v3 (t : Fin cfg0.N) := View.ld (iblk m c 3 t) (Rect.unit ![0, 0, 1536] ![1, 1024, 1024] inb_S1x1024x3584_S1x1024x1024_0_0_1536)
abbrev v4 (t : Fin cfg0.N) := View.ld (iblk m c 3 t) (Rect.unit ![0, 0, 2560] ![1, 1024, 1024] inb_S1x1024x3584_S1x1024x1024_0_0_2560)

/-- The cotangent of the normed matrix. -/
abbrev ctAll : Mat 4096 1024 := prodNT (gathered (arg0 m c) (arg1 m c) (arg2 m c)) (sheet (arg3 m c))
abbrev gainRow : Fin 1024 → EReal := fun j => arg5 m c (ix1 j)

theorem b0_at (t : Fin cfg0.N) (p : Fin 512) (r : Fin 512) : b0 m c t (ix3 0 p r) = arg0 m c (ix3 0 (at' t p) r) := by
  pointwise [b0]
  rw [blk0]
theorem b1_at (t : Fin cfg0.N) (p : Fin 512) (r : Fin 512) : b1 m c t (ix3 0 p r) = arg0 m c (ix3 1 (at' t p) r) := by
  pointwise [b1]
  rw [blk0]
theorem b3_at (t : Fin cfg0.N) (p : Fin 512) (r : Fin 1024) : b3 m c t (ix3 0 p r) = arg2 m c (ix3 0 (at' t p) r) := by
  pointwise [b3]
  rw [blk2]
theorem b4_at (t : Fin cfg0.N) (p : Fin 512) (r : Fin 1024) : b4 m c t (ix3 0 p r) = arg2 m c (ix3 1 (at' t p) r) := by
  pointwise [b4]
  rw [blk2]
theorem v0_at (t : Fin cfg0.N) (q : Fin 1024) (r : Fin 512) : v0 m c t (ix3 0 q r) = arg3 m c (ix3 0 q ⟨r.val, by omega⟩) := by
  pointwise [v0]
  rw [blk3]
theorem v1_at (t : Fin cfg0.N) (q : Fin 1024) (r : Fin 512) : v1 m c t (ix3 0 q r) = arg3 m c (ix3 0 q ⟨512 + r.val, by omega⟩) := by
  pointwise [v1]
  rw [blk3]
theorem v2_at (t : Fin cfg0.N) (q : Fin 1024) (r : Fin 512) : v2 m c t (ix3 0 q r) = arg3 m c (ix3 0 q ⟨1024 + r.val, by omega⟩) := by
  pointwise [v2]
  rw [blk3]
theorem v3_at (t : Fin cfg0.N) (q : Fin 1024) (r : Fin 1024) : v3 m c t (ix3 0 q r) = arg3 m c (ix3 0 q ⟨1536 + r.val, by omega⟩) := by
  pointwise [v3]
  rw [blk3]
theorem v4_at (t : Fin cfg0.N) (q : Fin 1024) (r : Fin 1024) : v4 m c t (ix3 0 q r) = arg3 m c (ix3 0 q ⟨2560 + r.val, by omega⟩) := by
  pointwise [v4]
  rw [blk3]

theorem ct_blk (t : Fin cfg0.N) (p : Fin 512) (q : Fin 1024) :
    ct (b0 m c t) (b1 m c t) (iblk m c 1 t) (b3 m c t) (b4 m c t) (v0 m c t) (v1 m c t) (v2 m c t) (v3 m c t) (v4 m c t) p q = ctAll m c (ix2 (at' t p) q) := by
  rw [ctAll, prodNT_gathered]
  refine congrArg₂ (· + ·) (congrArg₂ (· + ·) (congrArg₂ (· + ·) (congrArg₂ (· + ·) ?_ ?_) ?_) ?_) ?_
  · exact Finset.sum_congr rfl fun r _ => by rw [b0_at, v0_at]; rfl
  · exact Finset.sum_congr rfl fun r _ => by rw [b1_at, v1_at]; rfl
  · exact Finset.sum_congr rfl fun r _ => by rw [blk1, v2_at]; rfl
  · exact Finset.sum_congr rfl fun r _ => by rw [b3_at, v3_at]; rfl
  · exact Finset.sum_congr rfl fun r _ => by rw [b4_at, v4_at]; rfl

theorem dx_blk (t : Fin cfg0.N) (p : Fin 512) (q : Fin 1024) :
    dx (b0 m c t) (b1 m c t) (iblk m c 1 t) (b3 m c t) (b4 m c t) (v0 m c t) (v1 m c t) (v2 m c t) (v3 m c t) (v4 m c t) (iblk m c 4 t) (iblk m c 5 t) (iblk m c 6 t) (ix2 p q)
      = pull (row (arg4 m c) (at' t p)) (gainRow m c) (row (ctAll m c) (at' t p)) q + arg6 m c (ix2 (at' t p) q) := by
  rw [dx_apply, blk6]
  have e2 : (fun j => iblk m c 4 t (ix2 p j)) = row (arg4 m c) (at' t p) := funext fun j => blk4 m c t p j
  have e3 : (fun j => iblk m c 5 t (ix2 0 j)) = gainRow m c := funext fun j => blk5 m c t j
  have e0 : ct (b0 m c t) (b1 m c t) (iblk m c 1 t) (b3 m c t) (b4 m c t) (v0 m c t) (v1 m c t) (v2 m c t) (v3 m c t) (v4 m c t) p = row (ctAll m c) (at' t p) := funext fun j => ct_blk m c t p j
  rw [e2, e3, e0]

theorem array7 : (dats m 0 c).arrAt 7 cfg0.N = dInput (arg4 m c) (gainRow m c) (ctAll m c) (arg6 m c) := by
  refine (dats m 0 c).arrAt_eq_of_covers 7 _ (by decide +kernel) fun t hf y => ?_
  blk_simp
  rw [after0_7]
  have key : (outsAt0 m c t.val t.isLt).1 y
      = dx (b0 m c t) (b1 m c t) (iblk m c 1 t) (b3 m c t) (b4 m c t) (v0 m c t) (v1 m c t) (v2 m c t) (v3 m c t) (v4 m c t) (iblk m c 4 t) (iblk m c 5 t) (iblk m c 6 t) y := by
    by_cases h : t.val % 8 = 0
    · rw [Gen.outsAt0_A m c t h]; frame_out <;> rfl
    · rw [Gen.outsAt0_B m c t h]; frame_out <;> rfl
  rw [key]
  idx_vars y
  rw [dx_blk, dInput_at _ _ _ _ _ (at' t y0) y1 (by blk_simp [idx7 t]) (by blk_simp [idx7 t])]

theorem array8 : (dats m 0 c).arrAt 8 cfg0.N = dInput (arg4 m c) (gainRow m c) (ctAll m c) (arg6 m c) := by
  refine (dats m 0 c).arrAt_eq_of_covers 8 _ (by decide +kernel) fun t hf y => ?_
  blk_simp
  rw [after0_8]
  have key : (outsAt0 m c t.val t.isLt).2.1 y
      = dx (b0 m c t) (b1 m c t) (iblk m c 1 t) (b3 m c t) (b4 m c t) (v0 m c t) (v1 m c t) (v2 m c t) (v3 m c t) (v4 m c t) (iblk m c 4 t) (iblk m c 5 t) (iblk m c 6 t) y := by
    by_cases h : t.val % 8 = 0
    · rw [Gen.outsAt0_A m c t h]; frame_out <;> rfl
    · rw [Gen.outsAt0_B m c t h]; frame_out <;> rfl
  rw [key]
  idx_vars y
  rw [dx_blk, dInput_at _ _ _ _ _ (at' t y0) y1 (by blk_simp [idx8 t]) (by blk_simp [idx8 t])]

/-- A tile's part in the cotangent of the gain. -/
def dgPart (t : Fin cfg0.N) (j : S1x1024.Idx) : EReal :=
  ∑ p : Fin 512, arg4 m c (ix2 (at' t p) (j 1)) * inv (row (arg4 m c) (at' t p)) * ctAll m c (ix2 (at' t p) (j 1))

theorem dg_step (t : Fin cfg0.N) (acc : Vec Ideal S1x1024 .f32) (j : S1x1024.Idx) :
    dg (b0 m c t) (b1 m c t) (iblk m c 1 t) (b3 m c t) (b4 m c t) (v0 m c t) (v1 m c t) (v2 m c t) (v3 m c t) (v4 m c t) (iblk m c 4 t) acc j = acc j + dgPart m c t j := by
  idx_vars j
  obtain rfl : j0 = 0 := Subsingleton.elim _ _
  rw [dg_apply]
  refine congrArg (acc _ + ·) (Finset.sum_congr rfl fun p _ => ?_)
  have e2 : (fun j => iblk m c 4 t (ix2 p j)) = row (arg4 m c) (at' t p) := funext fun j => blk4 m c t p j
  rw [e2, blk4, ct_blk]
  rfl

theorem array9 : (dats m 0 c).arrAt 9 cfg0.N = dGain (arg4 m c) (ctAll m c) := by
  refine (dats m 0 c).arrAt_eq_of_covers 9 _ (by decide +kernel) fun t hf y => ?_
  blk_simp
  rw [after0_9]
  have key := Pipeline.eq_sum_fin_of_reset_step_apply_of_flush (fun n h => (outsAt0 m c n h).2.2) 8 (fun _ => 0)
    (dgPart m c) (fun t h j => by rw [Gen.outsAt0_A m c t h]; frame_out; exact (dg_step m c t _ j).trans (by rw [zero_apply]))
    (fun t h j => by rw [Gen.outsAt0_B m c t h]; frame_out; exact dg_step m c t _ j) t ((flush0_9 t).mp hf) y
  rw [show (outsAt0 m c t.val t.isLt).2.2 y = _ from key, zero_add]
  idx_vars y
  rw [dGain_at _ _ _ y1 (by blk_simp [idx9 t])]
  rw [← sum_tiles 8 512 (fun r : Fin 4096 => arg4 m c (ix2 r y1) * inv (row (arg4 m c) r) * ctAll m c (ix2 r y1)) (fun t r => by omega)]
  show @Eq EReal _ _
  refine Finset.sum_congr rfl fun a _ => ?_
  have e : ∀ h p, at' ⟨8 * (t.val / 8) + a.val, h⟩ p = ⟨a.val * 512 + p.val, by omega⟩ :=
    fun h r => Fin.ext (by have := points t; dsimp only; omega)
  unfold dgPart
  simp only [e]
  rfl

end Cert.Kernel3Ideal.Own

namespace Cert.Reference3Ideal.Own

open Cert.Reference3Ideal Cert.Reference3Ideal.Gen Cert.Reference3Ideal.Read Cert.Attn Cert.Prod Cert.Norm

variable (x0 : Stack 2 4096 512) (x1 : Mat 4096 512) (x2 : Stack 2 4096 1024) (x3 : Stack 1 1024 3584) (x4 : Mat 4096 1024) (x5 : (⟨1, ![1024]⟩ : Shape).Idx → EReal) (x6 : Mat 4096 1024)

theorem ct_at (p : Fin 4096) (q : Fin 1024) : val_main_v29 (F := Ideal) x0 x1 x2 x3 (ix2 p q)
    = prodNT (gathered x0 x1 x2) (sheet x3) (ix2 p q) := by
  pointwise [val_main_v29, val_main_v11, val_main_v10, val_main_v9, val_main_v8, val_main_v7, val_main_v6, val_main_v5, val_main_v4, val_main_v3, val_main_v2, val_main_v1, val_main_v0]
  rfl

theorem meanSq_at (p : Fin 4096) : val_main_v18 (F := Ideal) x4 (ix2 p 0) = meanSq (row x4 p) := by
  pointwise [val_main_v18, val_main_v17, val_main_v16, val_main_v15, val_main_v14, val_main_v13, val_main_v12, val_main_cst, val_main_cst_0, val_main_cst_1]
  rfl

theorem inv_at (p : Fin 4096) : val_main_v19 (F := Ideal) x4 (ix2 p 0) = inv (row x4 p) := by
  pointwise [val_main_v19, meanSq_at]
  rfl

theorem scaled_at (p : Fin 4096) (q : Fin 1024) : val_main_v34 (F := Ideal) x0 x1 x2 x3 x5 (ix2 p q)
    = row (prodNT (gathered x0 x1 x2) (sheet x3)) p q * x5 (ix1 q) := by
  pointwise [val_main_v34, ct_at, val_main_v33, val_main_v25]
  rfl

theorem half_at (p : Fin 4096) : val_main_v22 (F := Ideal) x4 (ix2 p 0) = minusHalf * Ideal.div (inv (row x4 p)) (meanSq (row x4 p)) := by
  pointwise [val_main_v22, val_main_v21, val_main_v20, val_main_cst_2, inv_at, meanSq_at]

theorem dot_at (p : Fin 4096) : val_main_v38 (F := Ideal) x0 x1 x2 x3 x4 x5 (ix2 p 0)
    = ∑ j, row x4 p j * (row (prodNT (gathered x0 x1 x2) (sheet x3)) p j * x5 (ix1 j)) := by
  pointwise [val_main_v38, val_main_v37, val_main_v36, val_main_cst_5, scaled_at]
  rfl

theorem shift_at (p : Fin 4096) (q : Fin 1024) : val_main_v46 (F := Ideal) x0 x1 x2 x3 x4 x5 (ix2 p q)
    = shift (row x4 p) (fun j => x5 (ix1 j)) (row (prodNT (gathered x0 x1 x2) (sheet x3)) p) := by
  pointwise [val_main_v46, val_main_v45, val_main_v44, val_main_v43, val_main_v42, val_main_cst_6, val_main_cst_7, half_at, dot_at]
  simp only [Fin.sum_univ_one, half_at, dot_at]
  rfl

theorem v50_eq : val_main_v50 (F := Ideal) x0 x1 x2 x3 x4 x5 x6 = dInput x4 (fun j => x5 (ix1 j)) (prodNT (gathered x0 x1 x2) (sheet x3)) x6 := by
  funext i
  idx_vars i
  pointwise [val_main_v50, val_main_v49, val_main_v48, val_main_v47, val_main_v41, val_main_v40, val_main_v39, shift_at, scaled_at, inv_at]
  rw [dInput_at _ _ _ _ _ i0 i1 rfl rfl]
  unfold pull
  show @Eq EReal _ _
  rw [add_assoc, add_assoc, add_comm, ← add_assoc]
  rfl

theorem v51_eq : val_main_v51 (F := Ideal) x0 x1 x2 x3 x4 x5 x6 = dInput x4 (fun j => x5 (ix1 j)) (prodNT (gathered x0 x1 x2) (sheet x3)) x6 :=
  v50_eq x0 x1 x2 x3 x4 x5 x6

theorem v52_eq : val_main_v52 (F := Ideal) x0 x1 x2 x3 x4 = dGain x4 (prodNT (gathered x0 x1 x2) (sheet x3)) := by
  funext i
  idx_vars i
  pointwise [val_main_v52, val_main_v35, val_main_v32, val_main_v31, val_main_v30, val_main_v24, val_main_v23, val_main_cst_3, val_main_cst_4, ct_at, inv_at]
  simp only [Fin.sum_univ_one]
  rfl

end Cert.Reference3Ideal.Own

namespace Cert.Claim3

open Cert.Attn Cert.Prod Cert.Norm

/-- The reference runs, keeps its arguments, and declares no semaphore. -/
theorem frame_reference : Cert.quiescent_Reference3Ideal (hReference3Ideal := Cert.Reference3Ideal.Gen.facts) :=
  fun m g _ => (θ_run _ _ _).mono
    (fun r h => ⟨fun c => (h c).2.2.2, Idealize.ShloMosaic.sem_eq_zero_of_no_sems (by decide) r.2⟩) (Cert.Reference3Ideal.Value.run m g)

/-- The call and its reference return the same arrays. -/
theorem algebraic : Cert.algebraic_Kernel3Ideal_Reference3Ideal
    (hKernel3Ideal := Cert.Kernel3Ideal.Gen.facts) (hReference3Ideal := Cert.Reference3Ideal.Gen.facts) := by
  intro m g m' g' hpre hag
  refine ⟨fun c => dInput (Cert.Kernel3Ideal.Own.arg4 m c) (fun j => (Cert.Kernel3Ideal.Own.arg5 m c) (ix1 j)) (prodNT (gathered (Cert.Kernel3Ideal.Own.arg0 m c) (Cert.Kernel3Ideal.Own.arg1 m c) (Cert.Kernel3Ideal.Own.arg2 m c)) (sheet (Cert.Kernel3Ideal.Own.arg3 m c))) (Cert.Kernel3Ideal.Own.arg6 m c),
    fun c => dInput (Cert.Kernel3Ideal.Own.arg4 m c) (fun j => (Cert.Kernel3Ideal.Own.arg5 m c) (ix1 j)) (prodNT (gathered (Cert.Kernel3Ideal.Own.arg0 m c) (Cert.Kernel3Ideal.Own.arg1 m c) (Cert.Kernel3Ideal.Own.arg2 m c)) (sheet (Cert.Kernel3Ideal.Own.arg3 m c))) (Cert.Kernel3Ideal.Own.arg6 m c),
    fun c => dGain (Cert.Kernel3Ideal.Own.arg4 m c) (prodNT (gathered (Cert.Kernel3Ideal.Own.arg0 m c) (Cert.Kernel3Ideal.Own.arg1 m c) (Cert.Kernel3Ideal.Own.arg2 m c)) (sheet (Cert.Kernel3Ideal.Own.arg3 m c))),
    (θ_run _ _ _).mono (fun r h c => ?_) (Cert.Kernel3Ideal.Value.run_blocks m g),
    (θ_run _ _ _).mono (fun r h c => ?_) (Cert.Reference3Ideal.Value.run m' g')⟩
  · exact ⟨(h c).1.trans (Cert.Kernel3Ideal.Own.array7 m c), (h c).2.1.trans (Cert.Kernel3Ideal.Own.array8 m c), (h c).2.2.1.trans (Cert.Kernel3Ideal.Own.array9 m c), (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩
  · obtain ⟨e0, e1, e2, e3, e4, e5, e6⟩ := hag c
    refine ⟨(h c).1.trans ?_, (h c).2.1.trans ?_, (h c).2.2.1.trans ?_, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩
    · rw [Cert.Reference3Ideal.Read.val_main_v50_eq, e0, e1, e2, e3, e4, e5, e6]
      exact Cert.Reference3Ideal.Own.v50_eq _ _ _ _ _ _ _
    · rw [Cert.Reference3Ideal.Read.val_main_v51_eq, e0, e1, e2, e3, e4, e5, e6]
      exact Cert.Reference3Ideal.Own.v51_eq _ _ _ _ _ _ _
    · rw [e0, e1, e2, e3, e4]
      exact (Cert.Reference3Ideal.Read.val_main_v52_eq (F := Ideal) (Cert.Kernel3Ideal.Own.arg0 m c) (Cert.Kernel3Ideal.Own.arg1 m c) (Cert.Kernel3Ideal.Own.arg2 m c) (Cert.Kernel3Ideal.Own.arg3 m c) (Cert.Kernel3Ideal.Own.arg4 m c)).trans (Cert.Reference3Ideal.Own.v52_eq (Cert.Kernel3Ideal.Own.arg0 m c) (Cert.Kernel3Ideal.Own.arg1 m c) (Cert.Kernel3Ideal.Own.arg2 m c) (Cert.Kernel3Ideal.Own.arg3 m c) (Cert.Kernel3Ideal.Own.arg4 m c))

end Cert.Claim3

end
-- ==== Proof.Norm.DHq.lean ====
/-
  The gradient of the queries' normed input, pulled back through the projection and the normalisation.
-/
module

public import proofs.«01_k».proof.Defs
public import proofs.«01_k».proof.Proof.Norm.Row
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Own

open Cert.Kernel4Ideal Cert.Kernel4Ideal.Gen Cert.Attn Cert.Prod Cert.Norm

section Payloads

variable (u0 : Vec Ideal S1024x1024 .bf16) (u1 : Vec Ideal S1x1024x1024 .bf16) (u2 u4 : Vec Ideal S1024x1024 .f32)
  (u3 acc : Vec Ideal S1x1024 .f32)

theorem meanSq_apply (p : Fin 1024) : k0_pay6 u2 (ix2 p 0) = meanSq (fun j => u2 (ix2 p j)) := by
  pointwise [k0_pay6]
  rfl

theorem inv_apply (p : Fin 1024) : k0_pay7 u2 (ix2 p 0) = inv (fun j => u2 (ix2 p j)) := by
  pointwise [k0_pay7, meanSq_apply]
  rfl

/-- The cotangent of the normed rows. -/
def ct (p q : Fin 1024) : EReal := ∑ r : Fin 1024, u0 (ix2 p r) * u1 (ix3 0 q r)

theorem ct_apply (p q : Fin 1024) : k0_pay5 u0 u1 (ix2 p q) = ct u0 u1 p q := by
  pointwise [k0_pay5]
  rfl

theorem dx_apply (p q : Fin 1024) : k0_pay1 (k0_pay9 u0 u1 u2 u3) u4 (ix2 p q)
    = pull (fun j => u2 (ix2 p j)) (fun j => u3 (ix2 0 j)) (ct u0 u1 p) q + u4 (ix2 p q) := by
  pointwise [k0_pay1, k0_pay9, ct_apply, inv_apply, meanSq_apply]
  simp only [Fin.sum_univ_one, inv_apply, meanSq_apply]
  rfl

theorem dg_apply (q : Fin 1024) : k0_pay4 (k0_pay8 u0 u1 u2) acc (ix2 0 q)
    = acc (ix2 0 q) + ∑ p : Fin 1024, u2 (ix2 p q) * inv (fun j => u2 (ix2 p j)) * ct u0 u1 p q := by
  pointwise [k0_pay4, k0_pay8, ct_apply, inv_apply]

theorem zero_apply (j : S1x1024.Idx) : k0_pay3 (F := Ideal) j = 0 := by pointwise [k0_pay3]

end Payloads

variable (m : (ℓ : Loc nD τ sig) → Buf (Elt Ideal) ℓ) (c : Dev nD)

abbrev arg0 : Mat 4096 1024 := m ((c.tc : Thread nD τ).loc main_arg0)
abbrev arg1 : Stack 1 1024 1024 := m ((c.tc : Thread nD τ).loc main_arg1)
abbrev arg2 : Mat 4096 1024 := m ((c.tc : Thread nD τ).loc main_arg2)
abbrev arg3 : (⟨1, ![1024]⟩ : Shape).Idx → EReal := m ((c.tc : Thread nD τ).loc main_arg3)
abbrev arg4 : Mat 4096 1024 := m ((c.tc : Thread nD τ).loc main_arg4)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel

theorem points (t : Fin cfg0.N) : t.val < 4 := by have := t.isLt; have : cfg0.N = 4 := N_0; omega

/-- The row of the whole matrix that a tile's row is. -/
abbrev at' (t : Fin cfg0.N) (p : Fin 1024) : Fin 4096 := ⟨t.val * 1024 + p.val, by have := points t; omega⟩

theorem blk0 (t : Fin cfg0.N) (p r : Fin 1024) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem blk1 (t : Fin cfg0.N) (q r : Fin 1024) : iblk m c 1 t (ix3 0 q r) = arg1 m c (ix3 0 q r) := by
  have e : iblk m c 1 t (ix3 0 q r) = V m c main_arg1 (ix3 0 q r) := by blk_ext [iblk, idx1 t]
  exact e.trans (congrFun (V_main_arg1 m c) _)
theorem blk2 (t : Fin cfg0.N) (p r : Fin 1024) : iblk m c 2 t (ix2 p r) = arg2 m c (ix2 (at' t p) r) := by
  have e : iblk m c 2 t (ix2 p r) = V m c main_arg2 (ix2 (at' t p) r) := by blk_ext [iblk, idx2 t]
  exact e.trans (congrFun (V_main_arg2 m c) _)
theorem gain (q : Fin 1024) : V m c main_v0 (ix2 0 q) = arg3 m c (ix1 q) := by
  unfold_abbrev_sides
  after_results
  pointwise []
theorem blk3 (t : Fin cfg0.N) (q : Fin 1024) : iblk m c 3 t (ix2 0 q) = arg3 m c (ix1 q) := by
  have e : iblk m c 3 t (ix2 0 q) = V m c main_v0 (ix2 0 q) := by blk_ext [iblk, idx3 t]
  exact e.trans (gain m c q)
theorem blk4 (t : Fin cfg0.N) (p r : Fin 1024) : iblk m c 4 t (ix2 p r) = arg4 m c (ix2 (at' t p) r) := by
  have e : iblk m c 4 t (ix2 p r) = V m c main_arg4 (ix2 (at' t p) r) := by blk_ext [iblk, idx4 t]
  exact e.trans (congrFun (V_main_arg4 m c) _)

/-- The cotangent of the normed matrix. -/
abbrev ctAll : Mat 4096 1024 := prodNT (arg0 m c) (sheet (arg1 m c))
abbrev gainRow : Fin 1024 → EReal := fun j => arg3 m c (ix1 j)

theorem ct_blk (t : Fin cfg0.N) (p q : Fin 1024) :
    ct (iblk m c 0 t) (iblk m c 1 t) p q = ctAll m c (ix2 (at' t p) q) :=
  Finset.sum_congr rfl fun r _ => by rw [blk0, blk1]; rfl

theorem dx_blk (t : Fin cfg0.N) (p q : Fin 1024) :
    k0_pay1 (k0_pay9 (iblk m c 0 t) (iblk m c 1 t) (iblk m c 2 t) (iblk m c 3 t)) (iblk m c 4 t) (ix2 p q)
      = pull (row (arg2 m c) (at' t p)) (gainRow m c) (row (ctAll m c) (at' t p)) q + arg4 m c (ix2 (at' t p) q) := by
  rw [dx_apply, blk4]
  have e2 : (fun j => iblk m c 2 t (ix2 p j)) = row (arg2 m c) (at' t p) := funext fun j => blk2 m c t p j
  have e3 : (fun j => iblk m c 3 t (ix2 0 j)) = gainRow m c := funext fun j => blk3 m c t j
  have e0 : ct (iblk m c 0 t) (iblk m c 1 t) p = row (ctAll m c) (at' t p) := funext fun j => ct_blk m c t p j
  rw [e2, e3, e0]

theorem array5 : (dats m 0 c).arrAt 5 cfg0.N = dInput (arg2 m c) (gainRow m c) (ctAll m c) (arg4 m c) := by
  refine (dats m 0 c).arrAt_eq_of_covers 5 _ (by decide +kernel) fun t hf y => ?_
  blk_simp
  rw [after0_5]
  have key : (outsAt0 m c t.val t.isLt).1 y
      = k0_pay1 (k0_pay9 (iblk m c 0 t) (iblk m c 1 t) (iblk m c 2 t) (iblk m c 3 t)) (iblk m c 4 t) y := by
    by_cases h : t.val % 4 = 0
    · rw [Gen.outsAt0_A m c t h]; frame_out
    · rw [Gen.outsAt0_B m c t h]; frame_out
  rw [key]
  idx_vars y
  rw [dx_blk, dInput_at _ _ _ _ _ (at' t y0) y1 (by blk_simp [idx5 t]) (by blk_simp [idx5 t])]

theorem array6 : (dats m 0 c).arrAt 6 cfg0.N = dInput (arg2 m c) (gainRow m c) (ctAll m c) (arg4 m c) := by
  refine (dats m 0 c).arrAt_eq_of_covers 6 _ (by decide +kernel) fun t hf y => ?_
  blk_simp
  rw [after0_6]
  have key : (outsAt0 m c t.val t.isLt).2.1 y
      = k0_pay1 (k0_pay9 (iblk m c 0 t) (iblk m c 1 t) (iblk m c 2 t) (iblk m c 3 t)) (iblk m c 4 t) y := by
    by_cases h : t.val % 4 = 0
    · rw [Gen.outsAt0_A m c t h]; frame_out; rfl
    · rw [Gen.outsAt0_B m c t h]; frame_out; rfl
  rw [key]
  idx_vars y
  rw [dx_blk, dInput_at _ _ _ _ _ (at' t y0) y1 (by blk_simp [idx6 t]) (by blk_simp [idx6 t])]

/-- A tile's part in the cotangent of the gain. -/
def dgPart (t : Fin cfg0.N) (j : S1x1024.Idx) : EReal :=
  ∑ p : Fin 1024, arg2 m c (ix2 (at' t p) (j 1)) * inv (row (arg2 m c) (at' t p)) * ctAll m c (ix2 (at' t p) (j 1))

theorem dg_step (t : Fin cfg0.N) (acc : Vec Ideal S1x1024 .f32) (j : S1x1024.Idx) :
    k0_pay4 (k0_pay8 (iblk m c 0 t) (iblk m c 1 t) (iblk m c 2 t)) acc j = acc j + dgPart m c t j := by
  idx_vars j
  obtain rfl : j0 = 0 := Subsingleton.elim _ _
  rw [dg_apply]
  refine congrArg (acc _ + ·) (Finset.sum_congr rfl fun p _ => ?_)
  have e2 : (fun j => iblk m c 2 t (ix2 p j)) = row (arg2 m c) (at' t p) := funext fun j => blk2 m c t p j
  rw [e2, blk2, ct_blk]
  rfl

theorem array7 : (dats m 0 c).arrAt 7 cfg0.N = dGain (arg2 m c) (ctAll m c) := by
  refine (dats m 0 c).arrAt_eq_of_covers 7 _ (by decide +kernel) fun t hf y => ?_
  blk_simp
  rw [after0_7]
  have key := Pipeline.eq_sum_fin_of_reset_step_apply_of_flush (fun n h => (outsAt0 m c n h).2.2) 4 (fun _ => 0)
    (dgPart m c) (fun t h j => by rw [Gen.outsAt0_A m c t h]; frame_out; rw [dg_step, zero_apply])
    (fun t h j => by rw [Gen.outsAt0_B m c t h]; frame_out; rw [dg_step]) t ((flush0_7 t).mp hf) y
  rw [show (outsAt0 m c t.val t.isLt).2.2 y = _ from key, zero_add]
  idx_vars y
  rw [dGain_at _ _ _ y1 (by blk_simp [idx7 t])]
  rw [← sum_tiles 4 1024 (fun r : Fin 4096 => arg2 m c (ix2 r y1) * inv (row (arg2 m c) r) * ctAll m c (ix2 r y1)) (fun t r => by omega)]
  show @Eq EReal _ _
  refine Finset.sum_congr rfl fun a _ => ?_
  have e : ∀ h p, at' ⟨4 * (t.val / 4) + a.val, h⟩ p = ⟨a.val * 1024 + p.val, by omega⟩ :=
    fun h r => Fin.ext (by have := points t; dsimp only; omega)
  unfold dgPart
  simp only [e]
  rfl

end Cert.Kernel4Ideal.Own

namespace Cert.Reference4Ideal.Own

open Cert.Reference4Ideal Cert.Reference4Ideal.Gen Cert.Reference4Ideal.Read Cert.Attn Cert.Prod Cert.Norm

variable (x0 : Mat 4096 1024) (x1 : Stack 1 1024 1024) (x2 : Mat 4096 1024) (x3 : (⟨1, ![1024]⟩ : Shape).Idx → EReal) (x4 : Mat 4096 1024)

theorem ct_at (p : Fin 4096) (q : Fin 1024) : val_main_v20 (F := Ideal) x0 x1 (ix2 p q) = prodNT x0 (sheet x1) (ix2 p q) := by
  pointwise [val_main_v20, val_main_v19, val_main_v1, val_main_v0]
  rfl

theorem meanSq_at (p : Fin 4096) : val_main_v8 (F := Ideal) x2 (ix2 p 0) = meanSq (row x2 p) := by
  pointwise [val_main_v8, val_main_v7, val_main_v6, val_main_v5, val_main_v4, val_main_v3, val_main_v2, val_main_cst, val_main_cst_0, val_main_cst_1]
  rfl

theorem inv_at (p : Fin 4096) : val_main_v9 (F := Ideal) x2 (ix2 p 0) = inv (row x2 p) := by
  pointwise [val_main_v9, meanSq_at]
  rfl

theorem scaled_at (p : Fin 4096) (q : Fin 1024) : val_main_v25 (F := Ideal) x0 x1 x3 (ix2 p q)
    = row (prodNT x0 (sheet x1)) p q * x3 (ix1 q) := by
  pointwise [val_main_v25, ct_at, val_main_v24, val_main_v15]
  rfl

theorem half_at (p : Fin 4096) : val_main_v12 (F := Ideal) x2 (ix2 p 0) = minusHalf * Ideal.div (inv (row x2 p)) (meanSq (row x2 p)) := by
  pointwise [val_main_v12, val_main_v11, val_main_v10, val_main_cst_2, inv_at, meanSq_at]

theorem dot_at (p : Fin 4096) : val_main_v29 (F := Ideal) x0 x1 x2 x3 (ix2 p 0)
    = ∑ j, row x2 p j * (row (prodNT x0 (sheet x1)) p j * x3 (ix1 j)) := by
  pointwise [val_main_v29, val_main_v28, val_main_v27, val_main_cst_5, scaled_at]
  rfl

theorem shift_at (p : Fin 4096) (q : Fin 1024) : val_main_v37 (F := Ideal) x0 x1 x2 x3 (ix2 p q)
    = shift (row x2 p) (fun j => x3 (ix1 j)) (row (prodNT x0 (sheet x1)) p) := by
  pointwise [val_main_v37, val_main_v36, val_main_v35, val_main_v34, val_main_v33, val_main_cst_6, val_main_cst_7, half_at, dot_at]
  simp only [Fin.sum_univ_one, half_at, dot_at]
  rfl

theorem v41_eq : val_main_v41 (F := Ideal) x0 x1 x2 x3 x4 = dInput x2 (fun j => x3 (ix1 j)) (prodNT x0 (sheet x1)) x4 := by
  funext i
  idx_vars i
  pointwise [val_main_v41, val_main_v40, val_main_v39, val_main_v38, val_main_v32, val_main_v31, val_main_v30, shift_at, scaled_at, inv_at]
  rw [dInput_at _ _ _ _ _ i0 i1 rfl rfl]
  unfold pull
  show @Eq EReal _ _
  rw [add_assoc, add_assoc, add_comm, ← add_assoc]
  rfl

theorem v42_eq : val_main_v42 (F := Ideal) x0 x1 x2 x3 x4 = dInput x2 (fun j => x3 (ix1 j)) (prodNT x0 (sheet x1)) x4 :=
  v41_eq x0 x1 x2 x3 x4

theorem v43_eq : val_main_v43 (F := Ideal) x0 x1 x2 = dGain x2 (prodNT x0 (sheet x1)) := by
  funext i
  idx_vars i
  pointwise [val_main_v43, val_main_v26, val_main_v23, val_main_v22, val_main_v21, val_main_v14, val_main_v13, val_main_cst_3, val_main_cst_4, ct_at, inv_at]
  simp only [Fin.sum_univ_one]
  rfl

end Cert.Reference4Ideal.Own

namespace Cert.Claim4

open Cert.Attn Cert.Prod Cert.Norm

/-- The reference runs, keeps its arguments, and declares no semaphore. -/
theorem frame_reference : Cert.quiescent_Reference4Ideal (hReference4Ideal := Cert.Reference4Ideal.Gen.facts) :=
  fun m g _ => (θ_run _ _ _).mono
    (fun r h => ⟨fun c => (h c).2.2.2, Idealize.ShloMosaic.sem_eq_zero_of_no_sems (by decide) r.2⟩) (Cert.Reference4Ideal.Value.run m g)

/-- The call and its reference return the same arrays. -/
theorem algebraic : Cert.algebraic_Kernel4Ideal_Reference4Ideal
    (hKernel4Ideal := Cert.Kernel4Ideal.Gen.facts) (hReference4Ideal := Cert.Reference4Ideal.Gen.facts) := by
  intro m g m' g' hpre hag
  refine ⟨fun c => dInput (Cert.Kernel4Ideal.Own.arg2 m c) (fun j => (Cert.Kernel4Ideal.Own.arg3 m c) (ix1 j)) (prodNT (Cert.Kernel4Ideal.Own.arg0 m c) (sheet (Cert.Kernel4Ideal.Own.arg1 m c))) (Cert.Kernel4Ideal.Own.arg4 m c),
    fun c => dInput (Cert.Kernel4Ideal.Own.arg2 m c) (fun j => (Cert.Kernel4Ideal.Own.arg3 m c) (ix1 j)) (prodNT (Cert.Kernel4Ideal.Own.arg0 m c) (sheet (Cert.Kernel4Ideal.Own.arg1 m c))) (Cert.Kernel4Ideal.Own.arg4 m c),
    fun c => dGain (Cert.Kernel4Ideal.Own.arg2 m c) (prodNT (Cert.Kernel4Ideal.Own.arg0 m c) (sheet (Cert.Kernel4Ideal.Own.arg1 m c))),
    (θ_run _ _ _).mono (fun r h c => ?_) (Cert.Kernel4Ideal.Value.run_blocks m g),
    (θ_run _ _ _).mono (fun r h c => ?_) (Cert.Reference4Ideal.Value.run m' g')⟩
  · exact ⟨(h c).1.trans (Cert.Kernel4Ideal.Own.array5 m c), (h c).2.1.trans (Cert.Kernel4Ideal.Own.array6 m c), (h c).2.2.1.trans (Cert.Kernel4Ideal.Own.array7 m c), (h c).2.2.2.1, (h c).2.2.2.2.1, (h c).2.2.2.2.2.1, (h c).2.2.2.2.2.2.1, (h c).2.2.2.2.2.2.2⟩
  · obtain ⟨e0, e1, e2, e3, e4⟩ := hag c
    refine ⟨(h c).1.trans ?_, (h c).2.1.trans ?_, (h c).2.2.1.trans ?_, (h c).2.2.2.1, (h c).2.2.2.2.1, (h c).2.2.2.2.2.1, (h c).2.2.2.2.2.2.1, (h c).2.2.2.2.2.2.2⟩
    · rw [Cert.Reference4Ideal.Read.val_main_v41_eq, e0, e1, e2, e3, e4]
      exact Cert.Reference4Ideal.Own.v41_eq _ _ _ _ _
    · rw [Cert.Reference4Ideal.Read.val_main_v42_eq, e0, e1, e2, e3, e4]
      exact Cert.Reference4Ideal.Own.v42_eq _ _ _ _ _
    · rw [e0, e1, e2]
      exact (Cert.Reference4Ideal.Read.val_main_v43_eq (F := Ideal) (Cert.Kernel4Ideal.Own.arg0 m c) (Cert.Kernel4Ideal.Own.arg1 m c) (Cert.Kernel4Ideal.Own.arg2 m c)).trans (Cert.Reference4Ideal.Own.v43_eq (Cert.Kernel4Ideal.Own.arg0 m c) (Cert.Kernel4Ideal.Own.arg1 m c) (Cert.Kernel4Ideal.Own.arg2 m c))

end Cert.Claim4

end
-- ==== Proof.Norm.Layer.lean ====
/-
  Layer normalisation of a row of 512 numbers followed by the gate `y · σ(y)`, forward and backward.

  For a row `x`, a gain `g` and a bias `b`: `lnorm x g b` is the normed row and `silu` the gate. `dsilu` is the cotangent of
  the gate's argument, and `lpull` the cotangent of the row.
-/
module

public import proofs.«01_k».proof.Proof.Norm.Row

@[expose] public section

noncomputable section

namespace Cert.Norm

open Idealize.ShloMosaic Cert.Attn Cert.Prod

/-- The width 512. -/
abbrev half : EReal := Ideal.ofBits FTy.f32 0x44000000#32

/-- The literal one of the programs. -/
theorem one_eq : Ideal.ofBits FTy.f32 0x3F800000#32 = 1 := by
  simp [Ideal.ofBits, Ideal.ieee]
  rw [← EReal.coe_mul, ← EReal.coe_one]
  congr 1
  norm_num

variable {d n : ℕ}

def silu (y : EReal) : EReal := y * Ideal.logistic y
def dsilu (y t : EReal) : EReal := t * Ideal.logistic y + y * t * (Ideal.logistic y * (1 - Ideal.logistic y))

def centre (x : Fin d → EReal) (j : Fin d) : EReal := x j - Ideal.div (∑ j, x j) half
def var (x : Fin d → EReal) : EReal := Ideal.div (∑ j, centre x j * centre x j) half + eps
def linv (x : Fin d → EReal) : EReal := Ideal.rsqrt (var x)
def lnorm (x g b : Fin d → EReal) (j : Fin d) : EReal := centre x j * linv x * g j + b j

def lshift (x g t : Fin d → EReal) : EReal :=
  Ideal.div ((∑ j, centre x j * (t j * g j)) * (minusHalf * Ideal.div (linv x) (var x))) half
/-- The cotangent of the centred row. -/
def lcentre (x g t : Fin d → EReal) (j : Fin d) : EReal :=
  t j * g j * linv x + centre x j * lshift x g t + lshift x g t * centre x j
def lpull (x g t : Fin d → EReal) (j : Fin d) : EReal := lcentre x g t j + Ideal.div (∑ k, -lcentre x g t k) half

/-- The gated normed matrix. -/
def gated (x : Mat n d) (g b : Fin d → EReal) : Mat n d := fun i => silu (lnorm (row x (i 0)) g b (i 1))
/-- The cotangent of the normed matrix, from that of the gated one. -/
def dGated (x : Mat n d) (g b : Fin d → EReal) (t : Mat n d) : Mat n d := fun i => dsilu (lnorm (row x (i 0)) g b (i 1)) (t i)
/-- The cotangents of the input, the gain and the bias, from that of the normed matrix. -/
def dLayer (x : Mat n d) (g : Fin d → EReal) (t : Mat n d) : Mat n d := fun i => lpull (row x (i 0)) g (row t (i 0)) (i 1)
def dLayerGain (x t : Mat n d) : Mat 1 d := fun i => ∑ r : Fin n, centre (row x r) (i 1) * linv (row x r) * t (ix2 r (i 1))
def dLayerBias (t : Mat n d) : Mat 1 d := fun i => ∑ r : Fin n, t (ix2 r (i 1))

theorem eq_ix2 {a b : ℕ} (i : (⟨2, ![a, b]⟩ : Shape).Idx) (p : Fin a) (q : Fin b) (h0 : (i 0).val = p.val) (h1 : (i 1).val = q.val) :
    i = ix2 p q := by
  funext a
  match a with
  | ⟨0, _⟩ => exact Fin.ext h0
  | ⟨1, _⟩ => exact Fin.ext h1

theorem dLayer_at (x : Mat n d) (g : Fin d → EReal) (t : Mat n d) (i : (⟨2, ![n, d]⟩ : Shape).Idx) (p : Fin n) (q : Fin d)
    (h0 : (i 0).val = p.val) (h1 : (i 1).val = q.val) : dLayer x g t i = lpull (row x p) g (row t p) q := by
  obtain rfl : i 0 = p := Fin.ext h0
  obtain rfl : i 1 = q := Fin.ext h1
  rfl

theorem dLayerGain_at (x t : Mat n d) (i : (⟨2, ![1, d]⟩ : Shape).Idx) (q : Fin d) (h1 : (i 1).val = q.val) :
    dLayerGain x t i = ∑ r : Fin n, centre (row x r) q * linv (row x r) * t (ix2 r q) := by
  obtain rfl : i 1 = q := Fin.ext h1
  rfl

theorem dLayerBias_at (t : Mat n d) (i : (⟨2, ![1, d]⟩ : Shape).Idx) (q : Fin d) (h1 : (i 1).val = q.val) :
    dLayerBias t i = ∑ r : Fin n, t (ix2 r q) := by
  obtain rfl : i 1 = q := Fin.ext h1
  rfl

end Cert.Norm

end
-- ==== Proof.Norm.DConvOut.lean ====
/-
  The gradient of the convolution branch's output projection, gate and layer normalisation.
-/
module

public import proofs.«01_k».proof.Defs
public import proofs.«01_k».proof.Proof.Prod.Spec
public import proofs.«01_k».proof.Proof.Norm.Layer
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Own

open Cert.Kernel5Ideal Cert.Kernel5Ideal.Gen Cert.Attn Cert.Prod Cert.Norm

section Payloads

variable (u0 : Vec Ideal S1024x1024 .bf16) (u1 : Vec Ideal S1x512x1024 .bf16) (x : Vec Ideal S1024x512 .f32) (g b : Vec Ideal S1x512 .f32)
  (acc : Vec Ideal S1x512 .f32)

theorem centre_apply (p : Fin 1024) (q : Fin 512) : k0_pay3 x (ix2 p q) = centre (fun j => x (ix2 p j)) q := by
  pointwise [k0_pay3]
  rfl

theorem var_apply (p : Fin 1024) : k0_pay4 x (ix2 p 0) = var (fun j => x (ix2 p j)) := by
  pointwise [k0_pay4, centre_apply]
  rfl

theorem inv_apply (p : Fin 1024) : k0_pay5 x (ix2 p 0) = linv (fun j => x (ix2 p j)) := by
  pointwise [k0_pay5, var_apply]
  rfl

theorem half_apply (p : Fin 1024) : k0_pay6 x (ix2 p 0)
    = minusHalf * Ideal.div (linv (fun j => x (ix2 p j))) (var (fun j => x (ix2 p j))) := by
  pointwise [k0_pay6, var_apply, inv_apply]

theorem unit_apply (p : Fin 1024) (q : Fin 512) : k0_pay7 x (ix2 p q) = centre (fun j => x (ix2 p j)) q * linv (fun j => x (ix2 p j)) := by
  pointwise [k0_pay7, centre_apply, inv_apply]

def prodT (p : Fin 1024) (q : Fin 512) : EReal := ∑ r : Fin 1024, u0 (ix2 p r) * u1 (ix3 0 q r)

/-- The cotangent of the normed rows. -/
def ct (p : Fin 1024) (q : Fin 512) : EReal :=
  dsilu (lnorm (fun j => x (ix2 p j)) (fun j => g (ix2 0 j)) (fun j => b (ix2 0 j)) q) (prodT u0 u1 p q)

theorem ct_apply (p : Fin 1024) (q : Fin 512) : k0_pay8 u0 u1 x g b (ix2 p q) = ct u0 u1 x g b p q := by
  pointwise [k0_pay8, k0_pay2, unit_apply]
  rfl

abbrev dx : FVec Ideal S1024x512 .f32 := k0_pay10 (k0_pay2 g) (k0_pay3 x) (k0_pay5 x) (k0_pay6 x) (k0_pay8 u0 u1 x g b)
abbrev dg : FVec Ideal S1x512 .f32 := k0_pay13 (k0_pay7 x) (k0_pay8 u0 u1 x g b) acc
abbrev db : FVec Ideal S1x512 .f32 := k0_pay1 (k0_pay9 (k0_pay8 u0 u1 x g b)) acc

theorem dx_apply (p : Fin 1024) (q : Fin 512) : dx u0 u1 x g b (ix2 p q)
    = lpull (fun j => x (ix2 p j)) (fun j => g (ix2 0 j)) (ct u0 u1 x g b p) q := by
  pointwise [k0_pay10, k0_pay2, ct_apply, centre_apply, inv_apply, half_apply]
  simp only [Fin.sum_univ_one, ct_apply, centre_apply, inv_apply, half_apply, zero_sub]
  rfl

theorem dg_apply (q : Fin 512) : dg u0 u1 x g b acc (ix2 0 q)
    = acc (ix2 0 q) + ∑ p : Fin 1024, centre (fun j => x (ix2 p j)) q * linv (fun j => x (ix2 p j)) * ct u0 u1 x g b p q := by
  pointwise [k0_pay13, unit_apply, ct_apply]

theorem db_apply (q : Fin 512) : db u0 u1 x g b acc (ix2 0 q) = acc (ix2 0 q) + ∑ p : Fin 1024, ct u0 u1 x g b p q := by
  pointwise [k0_pay1, k0_pay9, ct_apply]

theorem zero_apply (j : S1x512.Idx) : k0_pay11 (F := Ideal) j = 0 := by pointwise [k0_pay11]
theorem zero_apply' (j : S1x512.Idx) : k0_pay12 (F := Ideal) j = 0 := by pointwise [k0_pay12]

end Payloads

variable (m : (ℓ : Loc nD τ sig) → Buf (Elt Ideal) ℓ) (c : Dev nD)

abbrev arg0 : Mat 4096 1024 := m ((c.tc : Thread nD τ).loc main_arg0)
abbrev arg1 : Stack 1 512 1024 := m ((c.tc : Thread nD τ).loc main_arg1)
abbrev arg2 : Mat 4096 512 := m ((c.tc : Thread nD τ).loc main_arg2)
abbrev arg3 : (⟨1, ![512]⟩ : Shape).Idx → EReal := m ((c.tc : Thread nD τ).loc main_arg3)
abbrev arg4 : (⟨1, ![512]⟩ : Shape).Idx → EReal := m ((c.tc : Thread nD τ).loc main_arg4)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel

theorem points (t : Fin cfg0.N) : t.val < 4 := by have := t.isLt; have : cfg0.N = 4 := N_0; omega

/-- The row of the whole matrix that a tile's row is. -/
abbrev at' (t : Fin cfg0.N) (p : Fin 1024) : Fin 4096 := ⟨t.val * 1024 + p.val, by have := points t; omega⟩

theorem blk0 (t : Fin cfg0.N) (p : Fin 1024) (r : Fin 1024) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem blk1 (t : Fin cfg0.N) (q : Fin 512) (r : Fin 1024) : iblk m c 1 t (ix3 0 q r) = arg1 m c (ix3 0 q r) := by
  have e : iblk m c 1 t (ix3 0 q r) = V m c main_arg1 (ix3 0 q r) := by blk_ext [iblk, idx1 t]
  exact e.trans (congrFun (V_main_arg1 m c) _)
theorem blk2 (t : Fin cfg0.N) (p : Fin 1024) (r : Fin 512) : iblk m c 2 t (ix2 p r) = arg2 m c (ix2 (at' t p) r) := by
  have e : iblk m c 2 t (ix2 p r) = V m c main_arg2 (ix2 (at' t p) r) := by blk_ext [iblk, idx2 t]
  exact e.trans (congrFun (V_main_arg2 m c) _)
theorem host3 (q : Fin 512) : V m c main_v0 (ix2 0 q) = arg3 m c (ix1 q) := by
  unfold_abbrev_sides
  after_results
  pointwise []
theorem blk3 (t : Fin cfg0.N) (q : Fin 512) : iblk m c 3 t (ix2 0 q) = arg3 m c (ix1 q) := by
  have e : iblk m c 3 t (ix2 0 q) = V m c main_v0 (ix2 0 q) := by blk_ext [iblk, idx3 t]
  exact e.trans (host3 m c q)
theorem host4 (q : Fin 512) : V m c main_v1 (ix2 0 q) = arg4 m c (ix1 q) := by
  unfold_abbrev_sides
  after_results
  pointwise []
theorem blk4 (t : Fin cfg0.N) (q : Fin 512) : iblk m c 4 t (ix2 0 q) = arg4 m c (ix1 q) := by
  have e : iblk m c 4 t (ix2 0 q) = V m c main_v1 (ix2 0 q) := by blk_ext [iblk, idx4 t]
  exact e.trans (host4 m c q)

abbrev gain : Fin 512 → EReal := fun j => arg3 m c (ix1 j)
abbrev bias : Fin 512 → EReal := fun j => arg4 m c (ix1 j)
/-- The cotangent of the normed matrix. -/
abbrev ctAll : Mat 4096 512 := dGated (arg2 m c) (gain m c) (bias m c) (prodNT (arg0 m c) (sheet (arg1 m c)))

theorem row_blk (t : Fin cfg0.N) (p : Fin 1024) : (fun j => iblk m c 2 t (ix2 p j)) = row (arg2 m c) (at' t p) := funext fun j => blk2 m c t p j

theorem ct_blk (t : Fin cfg0.N) (p : Fin 1024) (q : Fin 512) :
    ct (iblk m c 0 t) (iblk m c 1 t) (iblk m c 2 t) (iblk m c 3 t) (iblk m c 4 t) p q = ctAll m c (ix2 (at' t p) q) := by
  have e1 : (fun j => iblk m c 3 t (ix2 0 j)) = gain m c := funext fun j => blk3 m c t j
  have e2 : (fun j => iblk m c 4 t (ix2 0 j)) = bias m c := funext fun j => blk4 m c t j
  have e3 : prodT (iblk m c 0 t) (iblk m c 1 t) p q
      = prodNT (arg0 m c) (sheet (arg1 m c)) (ix2 (at' t p) q) :=
    Finset.sum_congr rfl fun r _ => by rw [blk0, blk1]; rfl
  rw [ct, row_blk, e1, e2, e3]
  rfl

theorem array5 : (dats m 0 c).arrAt 5 cfg0.N = dLayer (arg2 m c) (gain m c) (ctAll m c) := by
  refine (dats m 0 c).arrAt_eq_of_covers 5 _ (by decide +kernel) fun t hf y => ?_
  blk_simp
  rw [after0_5]
  have key : (outsAt0 m c t.val t.isLt).1 y = dx (iblk m c 0 t) (iblk m c 1 t) (iblk m c 2 t) (iblk m c 3 t) (iblk m c 4 t) y := by
    by_cases h : t.val % 4 = 0
    · rw [Gen.outsAt0_A m c t h]; frame_out <;> rfl
    · rw [Gen.outsAt0_B m c t h]; frame_out <;> rfl
  rw [key]
  idx_vars y
  have e1 : (fun j => iblk m c 3 t (ix2 0 j)) = gain m c := funext fun j => blk3 m c t j
  have e0 : ct (iblk m c 0 t) (iblk m c 1 t) (iblk m c 2 t) (iblk m c 3 t) (iblk m c 4 t) y0 = row (ctAll m c) (at' t y0) := funext fun j => ct_blk m c t y0 j
  rw [dx_apply, row_blk, e1, e0, dLayer_at _ _ _ _ (at' t y0) y1 (by blk_simp [idx5 t]) (by blk_simp [idx5 t])]

/-- A tile's part in the cotangent of the gain. -/
def part6 (t : Fin cfg0.N) (j : S1x512.Idx) : EReal := ∑ p : Fin 1024, centre (row (arg2 m c) (at' t p)) (j 1) * linv (row (arg2 m c) (at' t p)) * ctAll m c (ix2 (at' t p) (j 1))

theorem step6 (t : Fin cfg0.N) (acc : Vec Ideal S1x512 .f32) (j : S1x512.Idx) :
    dg (iblk m c 0 t) (iblk m c 1 t) (iblk m c 2 t) (iblk m c 3 t) (iblk m c 4 t) acc j = acc j + part6 m c t j := by
  idx_vars j
  obtain rfl : j0 = 0 := Subsingleton.elim _ _
  rw [dg_apply]
  refine congrArg (acc _ + ·) (Finset.sum_congr rfl fun p _ => ?_)
  rw [row_blk, ct_blk]
  rfl

theorem array6 : (dats m 0 c).arrAt 6 cfg0.N = dLayerGain (arg2 m c) (ctAll m c) := by
  refine (dats m 0 c).arrAt_eq_of_covers 6 _ (by decide +kernel) fun t hf y => ?_
  blk_simp
  rw [after0_6]
  have key := Pipeline.eq_sum_fin_of_reset_step_apply_of_flush (fun n h => (outsAt0 m c n h).2.1) 4 (fun _ => 0)
    (part6 m c) (fun t h j => by rw [Gen.outsAt0_A m c t h]; frame_out; exact (step6 m c t _ j).trans (by rw [zero_apply]))
    (fun t h j => by rw [Gen.outsAt0_B m c t h]; frame_out; exact step6 m c t _ j) t ((flush0_6 t).mp hf) y
  rw [show (outsAt0 m c t.val t.isLt).2.1 y = _ from key, zero_add]
  idx_vars y
  rw [dLayerGain_at _ _ _ y1 (by blk_simp [idx6 t])]
  refine Eq.trans ?_ (sum_tiles 4 1024 (fun r : Fin 4096 => centre (row (arg2 m c) (r)) y1 * linv (row (arg2 m c) (r)) * ctAll m c (ix2 (r) y1)) (fun t r => by omega))
  show @Eq EReal _ _
  refine Finset.sum_congr rfl fun a _ => ?_
  have e : ∀ h p, at' ⟨4 * (t.val / 4) + a.val, h⟩ p = ⟨a.val * 1024 + p.val, by omega⟩ :=
    fun h r => Fin.ext (by have := points t; dsimp only; omega)
  unfold part6
  simp only [e]
  rfl

/-- A tile's part in the cotangent of the bias. -/
def part7 (t : Fin cfg0.N) (j : S1x512.Idx) : EReal := ∑ p : Fin 1024, ctAll m c (ix2 (at' t p) (j 1))

theorem step7 (t : Fin cfg0.N) (acc : Vec Ideal S1x512 .f32) (j : S1x512.Idx) :
    db (iblk m c 0 t) (iblk m c 1 t) (iblk m c 2 t) (iblk m c 3 t) (iblk m c 4 t) acc j = acc j + part7 m c t j := by
  idx_vars j
  obtain rfl : j0 = 0 := Subsingleton.elim _ _
  rw [db_apply]
  refine congrArg (acc _ + ·) (Finset.sum_congr rfl fun p _ => ?_)
  rw [ct_blk]
  rfl

theorem array7 : (dats m 0 c).arrAt 7 cfg0.N = dLayerBias (ctAll m c) := by
  refine (dats m 0 c).arrAt_eq_of_covers 7 _ (by decide +kernel) fun t hf y => ?_
  blk_simp
  rw [after0_7]
  have key := Pipeline.eq_sum_fin_of_reset_step_apply_of_flush (fun n h => (outsAt0 m c n h).2.2) 4 (fun _ => 0)
    (part7 m c) (fun t h j => by rw [Gen.outsAt0_A m c t h]; frame_out; exact (step7 m c t _ j).trans (by rw [zero_apply']))
    (fun t h j => by rw [Gen.outsAt0_B m c t h]; frame_out; exact step7 m c t _ j) t ((flush0_7 t).mp hf) y
  rw [show (outsAt0 m c t.val t.isLt).2.2 y = _ from key, zero_add]
  idx_vars y
  rw [dLayerBias_at _ _ y1 (by blk_simp [idx7 t])]
  refine Eq.trans ?_ (sum_tiles 4 1024 (fun r : Fin 4096 => ctAll m c (ix2 (r) y1)) (fun t r => by omega))
  show @Eq EReal _ _
  refine Finset.sum_congr rfl fun a _ => ?_
  have e : ∀ h p, at' ⟨4 * (t.val / 4) + a.val, h⟩ p = ⟨a.val * 1024 + p.val, by omega⟩ :=
    fun h r => Fin.ext (by have := points t; dsimp only; omega)
  unfold part7
  simp only [e]
  rfl

end Cert.Kernel5Ideal.Own

namespace Cert.Reference5Ideal.Own

open Cert.Reference5Ideal Cert.Reference5Ideal.Gen Cert.Reference5Ideal.Read Cert.Attn Cert.Prod Cert.Norm

variable (x0 : Mat 4096 1024) (x1 : Stack 1 512 1024) (x2 : Mat 4096 512) (x3 : (⟨1, ![512]⟩ : Shape).Idx → EReal) (x4 : (⟨1, ![512]⟩ : Shape).Idx → EReal)

theorem centre_at (p : Fin 4096) (q : Fin 512) : val_main_v7 (F := Ideal) x2 (ix2 p q) = centre (row x2 p) q := by
  pointwise [val_main_v7, val_main_v6, val_main_v5, val_main_v4, val_main_v3, val_main_v2, val_main_cst, val_main_cst_0]
  rfl

theorem var_at (p : Fin 4096) : val_main_v14 (F := Ideal) x2 (ix2 p 0) = var (row x2 p) := by
  pointwise [val_main_v14, val_main_v13, val_main_v12, val_main_v11, val_main_v10, val_main_v9, val_main_v8, val_main_cst_1, val_main_cst_2, val_main_cst_3, centre_at]
  rfl

theorem inv_at (p : Fin 4096) : val_main_v15 (F := Ideal) x2 (ix2 p 0) = linv (row x2 p) := by
  pointwise [val_main_v15, var_at]
  rfl

theorem half_at (p : Fin 4096) : val_main_v18 (F := Ideal) x2 (ix2 p 0) = minusHalf * Ideal.div (linv (row x2 p)) (var (row x2 p)) := by
  pointwise [val_main_v18, val_main_v17, val_main_v16, val_main_cst_4, inv_at, var_at]

theorem unit_at (p : Fin 4096) (q : Fin 512) : val_main_v20 (F := Ideal) x2 (ix2 p q) = centre (row x2 p) q * linv (row x2 p) := by
  pointwise [val_main_v20, val_main_v19, inv_at, centre_at]

theorem lnorm_at (p : Fin 4096) (q : Fin 512) : val_main_v26 (F := Ideal) x2 x3 x4 (ix2 p q)
    = lnorm (row x2 p) (fun j => x3 (ix1 j)) (fun j => x4 (ix1 j)) q := by
  pointwise [val_main_v26, val_main_v25, val_main_v24, val_main_v23, val_main_v22, val_main_v21, unit_at]
  rfl

theorem gate_at (p : Fin 4096) (q : Fin 512) : val_main_v27_2 (F := Ideal) x2 x3 x4 (ix2 p q)
    = Ideal.logistic (lnorm (row x2 p) (fun j => x3 (ix1 j)) (fun j => x4 (ix1 j)) q) := by
  pointwise [val_main_v27_2, val_main_call0_v4, val_main_call0_v3, val_main_call0_v2, val_main_call0_v1, val_main_call0_v0, val_main_call0_cst, val_main_call0_cst_0, lnorm_at]
  rfl

theorem prod_at (p : Fin 4096) (q : Fin 512) : val_main_v30 (F := Ideal) x0 x1 (ix2 p q) = prodNT x0 (sheet x1) (ix2 p q) := by
  pointwise [val_main_v30, val_main_v29, val_main_v1, val_main_v0]
  rfl

theorem ct_at (p : Fin 4096) (q : Fin 512) : val_main_v31 (F := Ideal) x0 x1 x2 x3 x4 (ix2 p q) = dGated x2 (fun j => x3 (ix1 j)) (fun j => x4 (ix1 j)) (prodNT x0 (sheet x1)) (ix2 p q) := by
  pointwise [val_main_v31, val_main_call1_v2, val_main_call1_v1, val_main_call1_v0, val_main_v27_1, val_main_call0_v7, val_main_call0_v6, val_main_call0_cst_1, gate_at, lnorm_at, prod_at]
  rfl

theorem scaled_at (p : Fin 4096) (q : Fin 512) : val_main_v39 (F := Ideal) x0 x1 x2 x3 x4 (ix2 p q) = row (dGated x2 (fun j => x3 (ix1 j)) (fun j => x4 (ix1 j)) (prodNT x0 (sheet x1))) p q * x3 (ix1 q) := by
  pointwise [val_main_v39, val_main_v38, val_main_v21, ct_at]
  rfl

theorem dot_at (p : Fin 4096) : val_main_v43 (F := Ideal) x0 x1 x2 x3 x4 (ix2 p 0)
    = ∑ j, centre (row x2 p) j * (row (dGated x2 (fun j => x3 (ix1 j)) (fun j => x4 (ix1 j)) (prodNT x0 (sheet x1))) p j * x3 (ix1 j)) := by
  pointwise [val_main_v43, val_main_v42, val_main_v41, val_main_cst_9, centre_at, scaled_at]

theorem shift_at (p : Fin 4096) (q : Fin 512) : val_main_v50 (F := Ideal) x0 x1 x2 x3 x4 (ix2 p q)
    = lshift (row x2 p) (fun j => x3 (ix1 j)) (row (dGated x2 (fun j => x3 (ix1 j)) (fun j => x4 (ix1 j)) (prodNT x0 (sheet x1))) p) := by
  pointwise [val_main_v50, val_main_v49, val_main_v48, val_main_v47, val_main_v46, val_main_cst_10, val_main_cst_11, half_at, dot_at]
  simp only [Fin.sum_univ_one, half_at, dot_at]
  rfl

theorem dcentre_at (p : Fin 4096) (q : Fin 512) : val_main_v54 (F := Ideal) x0 x1 x2 x3 x4 (ix2 p q)
    = lcentre (row x2 p) (fun j => x3 (ix1 j)) (row (dGated x2 (fun j => x3 (ix1 j)) (fun j => x4 (ix1 j)) (prodNT x0 (sheet x1))) p) q := by
  pointwise [val_main_v54, val_main_v53, val_main_v52, val_main_v51, val_main_v45, val_main_v44, shift_at, scaled_at, inv_at, centre_at]
  rfl

theorem v62_eq : val_main_v62 (F := Ideal) x0 x1 x2 x3 x4 = dLayer x2 (fun j => x3 (ix1 j)) (dGated x2 (fun j => x3 (ix1 j)) (fun j => x4 (ix1 j)) (prodNT x0 (sheet x1))) := by
  funext i
  idx_vars i
  pointwise [val_main_v62, val_main_v61, val_main_v60, val_main_v59, val_main_v58, val_main_v57, val_main_v56, val_main_v55, val_main_cst_12, val_main_cst_13, val_main_cst_14, dcentre_at]
  simp only [Fin.sum_univ_one, dcentre_at]
  rfl

theorem v63_eq : val_main_v63 (F := Ideal) x0 x1 x2 x3 x4 = dLayerGain x2 (dGated x2 (fun j => x3 (ix1 j)) (fun j => x4 (ix1 j)) (prodNT x0 (sheet x1))) := by
  funext i
  idx_vars i
  pointwise [val_main_v63, val_main_v40, val_main_v37, val_main_v36, val_main_v35, val_main_cst_7, val_main_cst_8, ct_at, unit_at]
  simp only [Fin.sum_univ_one]
  rfl

theorem v64_eq : val_main_v64 (F := Ideal) x0 x1 x2 x3 x4 = dLayerBias (dGated x2 (fun j => x3 (ix1 j)) (fun j => x4 (ix1 j)) (prodNT x0 (sheet x1))) := by
  funext i
  idx_vars i
  pointwise [val_main_v64, val_main_v34, val_main_v33, val_main_v32, val_main_cst_5, val_main_cst_6, ct_at]
  simp only [Fin.sum_univ_one]
  rfl

end Cert.Reference5Ideal.Own

namespace Cert.Claim5

open Cert.Attn Cert.Prod Cert.Norm

/-- The reference runs, keeps its arguments, and declares no semaphore. -/
theorem frame_reference : Cert.quiescent_Reference5Ideal (hReference5Ideal := Cert.Reference5Ideal.Gen.facts) :=
  fun m g _ => (θ_run _ _ _).mono
    (fun r h => ⟨fun c => (h c).2.2.2, Idealize.ShloMosaic.sem_eq_zero_of_no_sems (by decide) r.2⟩) (Cert.Reference5Ideal.Value.run m g)

/-- The call and its reference return the same arrays. -/
theorem algebraic : Cert.algebraic_Kernel5Ideal_Reference5Ideal
    (hKernel5Ideal := Cert.Kernel5Ideal.Gen.facts) (hReference5Ideal := Cert.Reference5Ideal.Gen.facts) := by
  intro m g m' g' hpre hag
  refine ⟨fun c => dLayer (Cert.Kernel5Ideal.Own.arg2 m c) (fun j => (Cert.Kernel5Ideal.Own.arg3 m c) (ix1 j)) (dGated (Cert.Kernel5Ideal.Own.arg2 m c) (fun j => (Cert.Kernel5Ideal.Own.arg3 m c) (ix1 j)) (fun j => (Cert.Kernel5Ideal.Own.arg4 m c) (ix1 j)) (prodNT (Cert.Kernel5Ideal.Own.arg0 m c) (sheet (Cert.Kernel5Ideal.Own.arg1 m c)))),
    fun c => dLayerGain (Cert.Kernel5Ideal.Own.arg2 m c) (dGated (Cert.Kernel5Ideal.Own.arg2 m c) (fun j => (Cert.Kernel5Ideal.Own.arg3 m c) (ix1 j)) (fun j => (Cert.Kernel5Ideal.Own.arg4 m c) (ix1 j)) (prodNT (Cert.Kernel5Ideal.Own.arg0 m c) (sheet (Cert.Kernel5Ideal.Own.arg1 m c)))),
    fun c => dLayerBias (dGated (Cert.Kernel5Ideal.Own.arg2 m c) (fun j => (Cert.Kernel5Ideal.Own.arg3 m c) (ix1 j)) (fun j => (Cert.Kernel5Ideal.Own.arg4 m c) (ix1 j)) (prodNT (Cert.Kernel5Ideal.Own.arg0 m c) (sheet (Cert.Kernel5Ideal.Own.arg1 m c)))),
    (θ_run _ _ _).mono (fun r h c => ?_) (Cert.Kernel5Ideal.Value.run_blocks m g),
    (θ_run _ _ _).mono (fun r h c => ?_) (Cert.Reference5Ideal.Value.run m' g')⟩
  · exact ⟨(h c).1.trans (Cert.Kernel5Ideal.Own.array5 m c), (h c).2.1.trans (Cert.Kernel5Ideal.Own.array6 m c), (h c).2.2.1.trans (Cert.Kernel5Ideal.Own.array7 m c), (h c).2.2.2.1, (h c).2.2.2.2.1, (h c).2.2.2.2.2.1, (h c).2.2.2.2.2.2.1, (h c).2.2.2.2.2.2.2⟩
  · obtain ⟨e0, e1, e2, e3, e4⟩ := hag c
    refine ⟨(h c).1.trans ?_, (h c).2.1.trans ?_, (h c).2.2.1.trans ?_, (h c).2.2.2.1, (h c).2.2.2.2.1, (h c).2.2.2.2.2.1, (h c).2.2.2.2.2.2.1, (h c).2.2.2.2.2.2.2⟩
    · rw [Cert.Reference5Ideal.Read.val_main_v62_eq, e0, e1, e2, e3, e4]
      exact Cert.Reference5Ideal.Own.v62_eq _ _ _ _ _
    · rw [Cert.Reference5Ideal.Read.val_main_v63_eq, e0, e1, e2, e3, e4]
      exact Cert.Reference5Ideal.Own.v63_eq _ _ _ _ _
    · rw [Cert.Reference5Ideal.Read.val_main_v64_eq, e0, e1, e2, e3, e4]
      exact Cert.Reference5Ideal.Own.v64_eq _ _ _ _ _

end Cert.Claim5

end
-- ==== Proof.Gate.Spec.lean ====
/-
  The two gates that merge the attention and the convolution branch, forward and backward.

  `P` is the combined input projection: its columns 1536 … 2559 are the arguments of the gate of the attention branch and
  its columns 2560 … 3583 those of the gate of the convolution branch. The convolution branch carries a gain `g`.
-/
module

public import proofs.«01_k».proof.Proof.Norm.Layer

@[expose] public section

noncomputable section

namespace Cert.Gate

open Idealize.ShloMosaic Cert.Attn Cert.Prod

variable (P : Mat 4096 3584) (a b t : Mat 4096 1024) (g : Fin 1024 → EReal)

def gateA (p : Fin 4096) (q : Fin 1024) : EReal := Ideal.logistic (P (ix2 p ⟨1536 + q.val, by omega⟩))
def gateB (p : Fin 4096) (q : Fin 1024) : EReal := Ideal.logistic (P (ix2 p ⟨2560 + q.val, by omega⟩))

/-- The merged branches. -/
def merge : Mat 4096 1024 := fun i => gateA P (i 0) (i 1) * a i + gateB P (i 0) (i 1) * (b i * g (i 1))
/-- The cotangents of the attention branch, the convolution branch, the gates' arguments and the gain. -/
def dAttn : Mat 4096 1024 := fun i => gateA P (i 0) (i 1) * t i
def dConv : Mat 4096 1024 := fun i => gateB P (i 0) (i 1) * t i * g (i 1)
def dGateA (p : Fin 4096) (q : Fin 1024) : EReal := t (ix2 p q) * a (ix2 p q) * (gateA P p q * (1 - gateA P p q))
def dGateB (p : Fin 4096) (q : Fin 1024) : EReal := t (ix2 p q) * (b (ix2 p q) * g q) * (gateB P p q * (1 - gateB P p q))
def dGates : Stack 2 4096 1024 := fun i => if (i 0).val = 0 then dGateA P a t (i 1) (i 2) else dGateB P b t g (i 1) (i 2)
def dBranchGain : Mat 1 1024 := fun i => ∑ r : Fin 4096, b (ix2 r (i 1)) * (gateB P r (i 1) * t (ix2 r (i 1)))

section At

variable (i : (⟨2, ![4096, 1024]⟩ : Shape).Idx) (p : Fin 4096) (q : Fin 1024) (h0 : (i 0).val = p.val) (h1 : (i 1).val = q.val)

include h0 h1

theorem merge_at : merge P a b g i = gateA P p q * a (ix2 p q) + gateB P p q * (b (ix2 p q) * g q) := by
  rw [Cert.Norm.eq_ix2 i p q h0 h1]; rfl
theorem dAttn_at : dAttn P t i = gateA P p q * t (ix2 p q) := by
  rw [Cert.Norm.eq_ix2 i p q h0 h1]; rfl
theorem dConv_at : dConv P t g i = gateB P p q * t (ix2 p q) * g q := by
  rw [Cert.Norm.eq_ix2 i p q h0 h1]; rfl

end At

theorem dGates_at_zero (i : (⟨3, ![2, 4096, 1024]⟩ : Shape).Idx) (p : Fin 4096) (q : Fin 1024) (h : (i 0).val = 0)
    (h0 : (i 1).val = p.val) (h1 : (i 2).val = q.val) : dGates P a b t g i = dGateA P a t p q := by
  obtain rfl : i 1 = p := Fin.ext h0
  obtain rfl : i 2 = q := Fin.ext h1
  exact if_pos h

theorem dGates_at_one (i : (⟨3, ![2, 4096, 1024]⟩ : Shape).Idx) (p : Fin 4096) (q : Fin 1024) (h : (i 0).val = 1)
    (h0 : (i 1).val = p.val) (h1 : (i 2).val = q.val) : dGates P a b t g i = dGateB P b t g p q := by
  obtain rfl : i 1 = p := Fin.ext h0
  obtain rfl : i 2 = q := Fin.ext h1
  exact if_neg (by rw [h]; decide)

theorem dBranchGain_at (i : (⟨2, ![1, 1024]⟩ : Shape).Idx) (q : Fin 1024) (h1 : (i 1).val = q.val) :
    dBranchGain P b t i = ∑ r : Fin 4096, b (ix2 r q) * (gateB P r q * t (ix2 r q)) := by
  obtain rfl : i 1 = q := Fin.ext h1
  rfl

end Cert.Gate

end
-- ==== Proof.Gate.MergeBwd.lean ====
/-
  The gradient of the merge of the two branches.
-/
module

public import proofs.«01_k».proof.Defs
public import proofs.«01_k».proof.Proof.Prod.Spec
public import proofs.«01_k».proof.Proof.Gate.Spec
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Own

open Cert.Kernel6Ideal Cert.Kernel6Ideal.Gen Cert.Attn Cert.Prod Cert.Gate

section Payloads

variable (u0 u1 : Vec Ideal S512x512 .f32) (u2 u3 : Vec Ideal S512x512 .bf16) (u4 : Vec Ideal S1x512 .f32) (u5 : Vec Ideal S512x512 .bf16)
  (acc : Vec Ideal S1x512 .f32) (p q : Fin 512)

theorem gateA_apply : k0_pay8 u0 (ix2 p q) = Ideal.logistic (u0 (ix2 p q)) := by pointwise [k0_pay8]
theorem gateB_apply : k0_pay9 u1 (ix2 p q) = Ideal.logistic (u1 (ix2 p q)) := by pointwise [k0_pay9]
theorem dAttn_apply : k0_pay2 (k0_pay14 u0 u5) (ix2 p q) = Ideal.logistic (u0 (ix2 p q)) * u5 (ix2 p q) := by
  pointwise [k0_pay2, k0_pay14, k0_pay10, gateA_apply]
theorem dConv_apply : k0_pay3 (k0_pay13 u1 u4 u5) (ix2 p q) = Ideal.logistic (u1 (ix2 p q)) * u5 (ix2 p q) * u4 (ix2 0 q) := by
  pointwise [k0_pay3, k0_pay13, k0_pay11, k0_pay10, k0_pay7, gateB_apply]
theorem dGateA_apply : k0_pay15 u0 u2 u5 (ix3 0 p q)
    = u5 (ix2 p q) * u2 (ix2 p q) * (Ideal.logistic (u0 (ix2 p q)) * (1 - Ideal.logistic (u0 (ix2 p q)))) := by
  pointwise [k0_pay15, k0_pay10, gateA_apply]
theorem dGateB_apply : k0_pay1 (k0_pay16 u1 u3 u4 u5) (ix3 0 p q)
    = u5 (ix2 p q) * (u3 (ix2 p q) * u4 (ix2 0 q)) * (Ideal.logistic (u1 (ix2 p q)) * (1 - Ideal.logistic (u1 (ix2 p q)))) := by
  pointwise [k0_pay1, k0_pay16, k0_pay10, k0_pay6, k0_pay7, gateB_apply]
theorem dg_apply : k0_pay5 (k0_pay12 u1 u3 u5) acc (ix2 0 q)
    = acc (ix2 0 q) + ∑ p : Fin 512, u3 (ix2 p q) * (Ideal.logistic (u1 (ix2 p q)) * u5 (ix2 p q)) := by
  pointwise [k0_pay5, k0_pay12, k0_pay11, k0_pay10, k0_pay6, gateB_apply]
theorem zero_apply (j : S1x512.Idx) : k0_pay4 (F := Ideal) j = 0 := by pointwise [k0_pay4]

end Payloads

variable (m : (ℓ : Loc nD τ sig) → Buf (Elt Ideal) ℓ) (c : Dev nD)

abbrev arg0 : Mat 4096 3584 := m ((c.tc : Thread nD τ).loc main_arg0)
abbrev arg1 : Mat 4096 1024 := m ((c.tc : Thread nD τ).loc main_arg1)
abbrev arg2 : Mat 4096 1024 := m ((c.tc : Thread nD τ).loc main_arg2)
abbrev arg3 : (⟨1, ![1024]⟩ : Shape).Idx → EReal := m ((c.tc : Thread nD τ).loc main_arg3)
abbrev arg4 : Mat 4096 1024 := m ((c.tc : Thread nD τ).loc main_arg4)

theorem idx0 : ∀ t : Fin grid0.N, win0_0.index t = ![t.val % 8, 3 + t.val / 8] := by decide +kernel
theorem idx1 : ∀ t : Fin grid0.N, win0_1.index t = ![t.val % 8, 5 + t.val / 8] := by decide +kernel
theorem idx2 : ∀ t : Fin grid0.N, win0_2.index t = ![t.val % 8, t.val / 8] := by decide +kernel
theorem idx3 : ∀ t : Fin grid0.N, win0_3.index t = ![t.val % 8, t.val / 8] := by decide +kernel
theorem idx4 : ∀ t : Fin grid0.N, win0_4.index t = ![0, t.val / 8] := by decide +kernel
theorem idx5 : ∀ t : Fin grid0.N, win0_5.index t = ![t.val % 8, t.val / 8] := by decide +kernel
theorem idx6 : ∀ t : Fin grid0.N, win0_6.index t = ![0, t.val % 8, t.val / 8] := by decide +kernel
theorem idx7 : ∀ t : Fin grid0.N, win0_7.index t = ![t.val % 8, t.val / 8] := by decide +kernel
theorem idx8 : ∀ t : Fin grid0.N, win0_8.index t = ![t.val % 8, t.val / 8] := by decide +kernel
theorem idx9 : ∀ t : Fin grid0.N, win0_9.index t = ![0, t.val / 8] := by decide +kernel

theorem points (t : Fin cfg0.N) : t.val < 16 := by have := t.isLt; have : cfg0.N = 16 := N_0; omega

/-- The row and the column of the whole matrices that a tile's row and column are. -/
abbrev at' (t : Fin cfg0.N) (p : Fin 512) : Fin 4096 := ⟨t.val % 8 * 512 + p.val, by have := points t; omega⟩
abbrev col (t : Fin cfg0.N) (q : Fin 512) : Fin 1024 := ⟨t.val / 8 * 512 + q.val, by have := points t; omega⟩

theorem blk0 (t : Fin cfg0.N) (p q : Fin 512) : iblk m c 0 t (ix2 p q) = arg0 m c (ix2 (at' t p) ⟨(3 + t.val / 8) * 512 + q.val, by have := points t; omega⟩) := by
  have e : iblk m c 0 t (ix2 p q) = V m c main_arg0 (ix2 (at' t p) ⟨(3 + t.val / 8) * 512 + q.val, by have := points t; omega⟩) := by blk_ext [iblk, idx0 t]
  exact e.trans (congrFun (V_main_arg0 m c) _)
theorem blk1 (t : Fin cfg0.N) (p q : Fin 512) : iblk m c 1 t (ix2 p q) = arg0 m c (ix2 (at' t p) ⟨(5 + t.val / 8) * 512 + q.val, by have := points t; omega⟩) := by
  have e : iblk m c 1 t (ix2 p q) = V m c main_arg0 (ix2 (at' t p) ⟨(5 + t.val / 8) * 512 + q.val, by have := points t; omega⟩) := by blk_ext [iblk, idx1 t]
  exact e.trans (congrFun (V_main_arg0 m c) _)
theorem blk2 (t : Fin cfg0.N) (p q : Fin 512) : iblk m c 2 t (ix2 p q) = arg1 m c (ix2 (at' t p) (col t q)) := by
  have e : iblk m c 2 t (ix2 p q) = V m c main_arg1 (ix2 (at' t p) (col t q)) := by blk_ext [iblk, idx2 t]
  exact e.trans (congrFun (V_main_arg1 m c) _)
theorem blk3 (t : Fin cfg0.N) (p q : Fin 512) : iblk m c 3 t (ix2 p q) = arg2 m c (ix2 (at' t p) (col t q)) := by
  have e : iblk m c 3 t (ix2 p q) = V m c main_arg2 (ix2 (at' t p) (col t q)) := by blk_ext [iblk, idx3 t]
  exact e.trans (congrFun (V_main_arg2 m c) _)
theorem gain (q : Fin 1024) : V m c main_v0 (ix2 0 q) = arg3 m c (ix1 q) := by
  unfold_abbrev_sides
  after_results
  pointwise []
theorem blk4 (t : Fin cfg0.N) (q : Fin 512) : iblk m c 4 t (ix2 0 q) = arg3 m c (ix1 (col t q)) := by
  have e : iblk m c 4 t (ix2 0 q) = V m c main_v0 (ix2 0 (col t q)) := by blk_ext [iblk, idx4 t]
  exact e.trans (gain m c _)
theorem blk5 (t : Fin cfg0.N) (p q : Fin 512) : iblk m c 5 t (ix2 p q) = arg4 m c (ix2 (at' t p) (col t q)) := by
  have e : iblk m c 5 t (ix2 p q) = V m c main_arg4 (ix2 (at' t p) (col t q)) := by blk_ext [iblk, idx5 t]
  exact e.trans (congrFun (V_main_arg4 m c) _)

theorem gateA_blk (t : Fin cfg0.N) (p q : Fin 512) : Ideal.logistic (iblk m c 0 t (ix2 p q)) = gateA (arg0 m c) (at' t p) (col t q) := by
  rw [blk0]
  exact congrArg (fun j => Ideal.logistic (arg0 m c (ix2 (at' t p) j))) (Fin.ext (by have := points t; dsimp only; omega))
theorem gateB_blk (t : Fin cfg0.N) (p q : Fin 512) : Ideal.logistic (iblk m c 1 t (ix2 p q)) = gateB (arg0 m c) (at' t p) (col t q) := by
  rw [blk1]
  exact congrArg (fun j => Ideal.logistic (arg0 m c (ix2 (at' t p) j))) (Fin.ext (by have := points t; dsimp only; omega))

theorem array7 : (dats m 0 c).arrAt 7 cfg0.N = dAttn (arg0 m c) (arg4 m c) := by
  refine (dats m 0 c).arrAt_eq_of_covers 7 _ (by decide +kernel) fun t hf y => ?_
  blk_simp
  rw [after0_7]
  have key : (outsAt0 m c t.val t.isLt).2.1 y = k0_pay2 (k0_pay14 (iblk m c 0 t) (iblk m c 5 t)) y := by
    by_cases h : t.val % 8 = 0
    · rw [Gen.outsAt0_A m c t h]; frame_out <;> rfl
    · rw [Gen.outsAt0_B m c t h]; frame_out <;> rfl
  rw [key]
  idx_vars y
  rw [dAttn_apply, gateA_blk, blk5, dAttn_at _ _ _ (at' t y0) (col t y1) (by blk_simp [idx7 t]) (by blk_simp [idx7 t])]

theorem array8 : (dats m 0 c).arrAt 8 cfg0.N = dConv (arg0 m c) (arg4 m c) (fun j => arg3 m c (ix1 j)) := by
  refine (dats m 0 c).arrAt_eq_of_covers 8 _ (by decide +kernel) fun t hf y => ?_
  blk_simp
  rw [after0_8]
  have key : (outsAt0 m c t.val t.isLt).2.2.1 y = k0_pay3 (k0_pay13 (iblk m c 1 t) (iblk m c 4 t) (iblk m c 5 t)) y := by
    by_cases h : t.val % 8 = 0
    · rw [Gen.outsAt0_A m c t h]; frame_out <;> rfl
    · rw [Gen.outsAt0_B m c t h]; frame_out <;> rfl
  rw [key]
  idx_vars y
  rw [dConv_apply, gateB_blk, blk5, blk4, dConv_at _ _ _ _ (at' t y0) (col t y1) (by blk_simp [idx8 t]) (by blk_simp [idx8 t])]

/-- A tile's part in the cotangent of the gain. -/
def part (t : Fin cfg0.N) (j : S1x512.Idx) : EReal := ∑ p : Fin 512, arg2 m c (ix2 (at' t p) (col t (j 1))) * (gateB (arg0 m c) (at' t p) (col t (j 1)) * arg4 m c (ix2 (at' t p) (col t (j 1))))

theorem step (t : Fin cfg0.N) (acc : Vec Ideal S1x512 .f32) (j : S1x512.Idx) :
    k0_pay5 (k0_pay12 (iblk m c 1 t) (iblk m c 3 t) (iblk m c 5 t)) acc j = acc j + part m c t j := by
  idx_vars j
  obtain rfl : j0 = 0 := Subsingleton.elim _ _
  rw [dg_apply]
  refine congrArg (acc _ + ·) (Finset.sum_congr rfl fun p _ => ?_)
  rw [gateB_blk, blk3, blk5]
  rfl

theorem array9 : (dats m 0 c).arrAt 9 cfg0.N = dBranchGain (arg0 m c) (arg2 m c) (arg4 m c) := by
  refine (dats m 0 c).arrAt_eq_of_covers 9 _ (by decide +kernel) fun t hf y => ?_
  blk_simp
  rw [after0_9]
  have key := Pipeline.eq_sum_fin_of_reset_step_apply_of_flush (fun n h => (outsAt0 m c n h).2.2.2) 8 (fun _ => 0)
    (part m c) (fun t h j => by rw [Gen.outsAt0_A m c t h]; frame_out; exact (step m c t _ j).trans (by rw [zero_apply]))
    (fun t h j => by rw [Gen.outsAt0_B m c t h]; frame_out; exact step m c t _ j) t ((flush0_9 t).mp hf) y
  rw [show (outsAt0 m c t.val t.isLt).2.2.2 y = _ from key, zero_add]
  have hp := points t
  idx_vars y
  rw [dBranchGain_at _ _ _ _ (col t y1) (by blk_simp [idx9 t])]
  refine Eq.trans ?_ (Cert.Norm.sum_tiles 8 512 (fun r : Fin 4096 => arg2 m c (ix2 (r) (col t y1)) * (gateB (arg0 m c) (r) (col t y1) * arg4 m c (ix2 (r) (col t y1)))) (fun t r => by omega))
  show @Eq EReal _ _
  refine Finset.sum_congr rfl fun a _ => ?_
  have e : ∀ h p, at' ⟨8 * (t.val / 8) + a.val, h⟩ p = ⟨a.val * 512 + p.val, by omega⟩ :=
    fun h r => Fin.ext (by dsimp only; omega)
  have e' : ∀ h, col ⟨8 * (t.val / 8) + a.val, h⟩ y1 = col t y1 :=
    fun h => Fin.ext (by dsimp only; omega)
  show (∑ p : Fin 512, arg2 m c (ix2 (at' _ p) (col _ y1)) * (gateB (arg0 m c) (at' _ p) (col _ y1) * arg4 m c (ix2 (at' _ p) (col _ y1)))) = _
  simp only [e, e']

/-- A block of two sheets written one after the other holds at each index what its sheet holds there. -/
theorem sheets (q p : Vec Ideal S1x512x512 .bf16) (y : S2x512x512.Idx) (v : EReal)
    (e0 : (y 0).val = 0 → p (ix3 0 (y 1) (y 2)) = v) (e1 : (y 0).val = 1 → q (ix3 0 (y 1) (y 2)) = v) :
    View.canon [⟨Rect.unit ![1, 0, 0] ![1, 512, 512] inb_S2x512x512_S1x512x512_1_0_0, q⟩,
      ⟨Rect.unit ![0, 0, 0] ![1, 512, 512] inb_S2x512x512_S1x512x512_0_0_0, p⟩] y = v := by
  canon_tiles x h
  · idx_vars x
    refine Eq.trans (congrArg q ?_) (e1 (by omega))
    funext a; fin_cases a <;> apply Fin.ext <;> simp <;> omega
  · idx_vars x
    refine Eq.trans (congrArg p ?_) (e0 (by omega))
    funext a; fin_cases a <;> apply Fin.ext <;> simp <;> omega

theorem array6_sheets (t : Fin grid0.N) (y : S2x512x512.Idx) (v : EReal)
    (h0 : (y 0).val = 0 → k0_pay15 (F := Ideal) (iblk m c 0 t) (iblk m c 2 t) (iblk m c 5 t) (ix3 0 (y 1) (y 2)) = v)
    (h1 : (y 0).val = 1 → k0_pay1 (F := Ideal) (k0_pay16 (iblk m c 1 t) (iblk m c 3 t) (iblk m c 4 t) (iblk m c 5 t)) (ix3 0 (y 1) (y 2)) = v) :
    (outsAt0 m c t.val t.isLt).1 y = v := by
  by_cases h : t.val % 8 = 0
  · rw [Gen.outsAt0_A m c t h]
    frame_out
    exact sheets _ _ y v h0 h1
  · rw [Gen.outsAt0_B m c t h]
    frame_out
    exact sheets _ _ y v h0 h1

theorem array6 : (dats m 0 c).arrAt 6 cfg0.N = dGates (arg0 m c) (arg1 m c) (arg2 m c) (arg4 m c) (fun j => arg3 m c (ix1 j)) := by
  refine (dats m 0 c).arrAt_eq_of_covers 6 _ (by decide +kernel) fun t hf y => ?_
  blk_simp
  rw [after0_6]
  idx_vars y
  refine array6_sheets m c t _ _ (fun hy => ?_) (fun hy => ?_)
  · rw [dGates_at_zero _ _ _ _ _ _ (at' t y1) (col t y2) (by blk_simp [idx6 t]; exact hy) (by blk_simp [idx6 t]) (by blk_simp [idx6 t])]
    refine (dGateA_apply _ _ _ y1 y2).trans ?_
    rw [gateA_blk, blk5, blk2]
    rfl
  · rw [dGates_at_one _ _ _ _ _ _ (at' t y1) (col t y2) (by blk_simp [idx6 t]; exact hy) (by blk_simp [idx6 t]) (by blk_simp [idx6 t])]
    refine (dGateB_apply _ _ _ _ y1 y2).trans ?_
    rw [gateB_blk, blk5, blk3, blk4]
    rfl

end Cert.Kernel6Ideal.Own

namespace Cert.Reference6Ideal.Own

open Cert.Reference6Ideal Cert.Reference6Ideal.Gen Cert.Reference6Ideal.Read Cert.Attn Cert.Prod Cert.Gate

variable (x0 : Mat 4096 3584) (x1 : Mat 4096 1024) (x2 : Mat 4096 1024) (x3 : (⟨1, ![1024]⟩ : Shape).Idx → EReal) (x4 : Mat 4096 1024)

theorem gateA_at (p : Fin 4096) (q : Fin 1024) : val_main_v12 (F := Ideal) x0 (ix2 p q) = gateA x0 p q := by
  pointwise [val_main_v12, val_main_v11, val_main_v10, val_main_v9, val_main_v8, val_main_v7, val_main_v3, val_main_cst, val_main_cst_0]
  rfl
theorem gateB_at (p : Fin 4096) (q : Fin 1024) : val_main_v22 (F := Ideal) x0 (ix2 p q) = gateB x0 p q := by
  pointwise [val_main_v22, val_main_v21, val_main_v20, val_main_v19, val_main_v18, val_main_v17, val_main_v4, val_main_cst_2, val_main_cst_3]
  rfl
theorem dGateA_at (p : Fin 4096) (q : Fin 1024) : val_main_v43 (F := Ideal) x0 x1 x4 (ix2 p q) = dGateA x0 x1 x4 p q := by
  pointwise [val_main_v43, val_main_v42, val_main_v31, val_main_v15, val_main_v14, val_main_v13, val_main_v5, val_main_cst_1, gateA_at]
  rfl
theorem dGateB_at (p : Fin 4096) (q : Fin 1024) : val_main_v40 (F := Ideal) x0 x2 x3 x4 (ix2 p q) = dGateB x0 x2 x4 (fun j => x3 (ix1 j)) p q := by
  pointwise [val_main_v40, val_main_v33, val_main_v31, val_main_v28, val_main_v27, val_main_v26, val_main_v25, val_main_v24, val_main_v23, val_main_v6, val_main_cst_4, gateB_at]
  rfl

theorem v47_eq : val_main_v47 (F := Ideal) x0 x1 x2 x3 x4 = dGates x0 x1 x2 x4 (fun j => x3 (ix1 j)) := by
  funext i
  idx_vars i
  by_cases h : i0.val = 0
  · rw [dGates_at_zero _ _ _ _ _ _ i1 i2 h rfl rfl]
    pointwise [val_main_v47, val_main_v46, val_main_v45, val_main_v44, dGateA_at, dGateB_at]
    exact dif_pos (by omega)
  · rw [dGates_at_one _ _ _ _ _ _ i1 i2 (by show i0.val = 1; omega) rfl rfl]
    pointwise [val_main_v47, val_main_v46, val_main_v45, val_main_v44, dGateA_at, dGateB_at]
    exact dif_neg (by omega)

theorem v48_eq : val_main_v48 (F := Ideal) x0 x4 = dAttn x0 x4 := by
  funext i
  idx_vars i
  pointwise [val_main_v48, val_main_v41, val_main_v31, gateA_at]
  rfl

theorem v49_eq : val_main_v49 (F := Ideal) x0 x3 x4 = dConv x0 x4 (fun j => x3 (ix1 j)) := by
  funext i
  idx_vars i
  pointwise [val_main_v49, val_main_v38, val_main_v37, val_main_v32, val_main_v31, val_main_v26, gateB_at]
  rfl

theorem v50_eq : val_main_v50 (F := Ideal) x0 x2 x4 = dBranchGain x0 x2 x4 := by
  funext i
  idx_vars i
  pointwise [val_main_v50, val_main_v39, val_main_v36, val_main_v35, val_main_v34, val_main_v32, val_main_v31, val_main_v6, val_main_cst_5, val_main_cst_6, gateB_at]
  simp only [Fin.sum_univ_one]
  rfl

end Cert.Reference6Ideal.Own

namespace Cert.Claim6

open Cert.Attn Cert.Prod Cert.Gate

/-- The reference runs, keeps its arguments, and declares no semaphore. -/
theorem frame_reference : Cert.quiescent_Reference6Ideal (hReference6Ideal := Cert.Reference6Ideal.Gen.facts) :=
  fun m g _ => (θ_run _ _ _).mono
    (fun r h => ⟨fun c => (h c).2.2.2.2, Idealize.ShloMosaic.sem_eq_zero_of_no_sems (by decide) r.2⟩) (Cert.Reference6Ideal.Value.run m g)

/-- The call and its reference return the same arrays. -/
theorem algebraic : Cert.algebraic_Kernel6Ideal_Reference6Ideal
    (hKernel6Ideal := Cert.Kernel6Ideal.Gen.facts) (hReference6Ideal := Cert.Reference6Ideal.Gen.facts) := by
  intro m g m' g' hpre hag
  refine ⟨fun c => dGates (Cert.Kernel6Ideal.Own.arg0 m c) (Cert.Kernel6Ideal.Own.arg1 m c) (Cert.Kernel6Ideal.Own.arg2 m c) (Cert.Kernel6Ideal.Own.arg4 m c) (fun j => (Cert.Kernel6Ideal.Own.arg3 m c) (ix1 j)),
    fun c => dAttn (Cert.Kernel6Ideal.Own.arg0 m c) (Cert.Kernel6Ideal.Own.arg4 m c),
    fun c => dConv (Cert.Kernel6Ideal.Own.arg0 m c) (Cert.Kernel6Ideal.Own.arg4 m c) (fun j => (Cert.Kernel6Ideal.Own.arg3 m c) (ix1 j)),
    fun c => dBranchGain (Cert.Kernel6Ideal.Own.arg0 m c) (Cert.Kernel6Ideal.Own.arg2 m c) (Cert.Kernel6Ideal.Own.arg4 m c),
    (θ_run _ _ _).mono (fun r h c => ?_) (Cert.Kernel6Ideal.Value.run_blocks m g),
    (θ_run _ _ _).mono (fun r h c => ?_) (Cert.Reference6Ideal.Value.run m' g')⟩
  · exact ⟨(h c).1.trans (Cert.Kernel6Ideal.Own.array6 m c), (h c).2.1.trans (Cert.Kernel6Ideal.Own.array7 m c), (h c).2.2.1.trans (Cert.Kernel6Ideal.Own.array8 m c), (h c).2.2.2.1.trans (Cert.Kernel6Ideal.Own.array9 m c), (h c).2.2.2.2.1, (h c).2.2.2.2.2.1, (h c).2.2.2.2.2.2.1, (h c).2.2.2.2.2.2.2.1, (h c).2.2.2.2.2.2.2.2⟩
  · obtain ⟨e0, e1, e2, e3, e4⟩ := hag c
    refine ⟨(h c).1.trans ?_, (h c).2.1.trans ?_, (h c).2.2.1.trans ?_, (h c).2.2.2.1.trans ?_, (h c).2.2.2.2.1, (h c).2.2.2.2.2.1, (h c).2.2.2.2.2.2.1, (h c).2.2.2.2.2.2.2.1, (h c).2.2.2.2.2.2.2.2⟩
    · rw [e0, e1, e2, e3, e4]
      exact (Cert.Reference6Ideal.Read.val_main_v47_eq (F := Ideal) (Cert.Kernel6Ideal.Own.arg0 m c) (Cert.Kernel6Ideal.Own.arg1 m c) (Cert.Kernel6Ideal.Own.arg2 m c) (Cert.Kernel6Ideal.Own.arg3 m c) (Cert.Kernel6Ideal.Own.arg4 m c)).trans (Cert.Reference6Ideal.Own.v47_eq (Cert.Kernel6Ideal.Own.arg0 m c) (Cert.Kernel6Ideal.Own.arg1 m c) (Cert.Kernel6Ideal.Own.arg2 m c) (Cert.Kernel6Ideal.Own.arg3 m c) (Cert.Kernel6Ideal.Own.arg4 m c))
    · rw [e0, e4]
      exact (Cert.Reference6Ideal.Read.val_main_v48_eq (F := Ideal) (Cert.Kernel6Ideal.Own.arg0 m c) (Cert.Kernel6Ideal.Own.arg4 m c)).trans (Cert.Reference6Ideal.Own.v48_eq (Cert.Kernel6Ideal.Own.arg0 m c) (Cert.Kernel6Ideal.Own.arg4 m c))
    · rw [e0, e3, e4]
      exact (Cert.Reference6Ideal.Read.val_main_v49_eq (F := Ideal) (Cert.Kernel6Ideal.Own.arg0 m c) (Cert.Kernel6Ideal.Own.arg3 m c) (Cert.Kernel6Ideal.Own.arg4 m c)).trans (Cert.Reference6Ideal.Own.v49_eq (Cert.Kernel6Ideal.Own.arg0 m c) (Cert.Kernel6Ideal.Own.arg3 m c) (Cert.Kernel6Ideal.Own.arg4 m c))
    · rw [e0, e2, e4]
      exact (Cert.Reference6Ideal.Read.val_main_v50_eq (F := Ideal) (Cert.Kernel6Ideal.Own.arg0 m c) (Cert.Kernel6Ideal.Own.arg2 m c) (Cert.Kernel6Ideal.Own.arg4 m c)).trans (Cert.Reference6Ideal.Own.v50_eq (Cert.Kernel6Ideal.Own.arg0 m c) (Cert.Kernel6Ideal.Own.arg2 m c) (Cert.Kernel6Ideal.Own.arg4 m c))

end Cert.Claim6

end
-- ==== Proof.Prod.DwUp.lean ====
/-
  The gradient of the up projection's weight: inputs transposed times the two halves of the cotangent side by side.
-/
module

public import proofs.«01_k».proof.Defs
public import proofs.«01_k».proof.Proof.Prod.Spec
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Own

open Cert.Kernel8Ideal Cert.Kernel8Ideal.Gen Cert.Attn Cert.Prod

theorem pay_apply (u : Vec Ideal S4096x1024 .bf16) (v : Vec Ideal S1x4096x256 .bf16) (p : Fin 1024) (q : Fin 256) :
    k0_pay1 u v (ix2 p q) = (∑ r : Fin 4096, u (ix2 r p) * v (ix3 0 r q)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 2 4096 2816 := m ((c.tc : Thread nD τ).loc main_arg1)

theorem idx0 : ∀ t : Fin grid0.N, win0_0.index t = ![0, 0] := by decide +kernel
theorem idx1 : ∀ t : Fin grid0.N, win0_1.index t = ![t.val / 11, 0, t.val % 11] := by decide +kernel
theorem idx2 : ∀ t : Fin grid0.N, win0_2.index t = ![0, t.val] := by decide +kernel
theorem idx3 : ∀ t : Fin grid0.N, win0_3.index t = ![0, t.val] := by decide +kernel

theorem points (t : Fin cfg0.N) : t.val < 22 := by have := t.isLt; have : cfg0.N = 22 := N_0; omega

theorem blk0 (t : Fin cfg0.N) (r : Fin 4096) (p : Fin 1024) :
    iblk m c 0 t (ix2 r p) = arg0 m c (ix2 r p) := by
  blk_ext [iblk, V, idx0 t]

theorem blk1 (t : Fin cfg0.N) (r : Fin 4096) (q : Fin 256) :
    iblk m c 1 t (ix3 0 r q) = joined (arg1 m c) (ix2 r ⟨t.val * 256 + q.val, by have := points t; omega⟩) := by
  have := points t
  by_cases h : t.val * 256 + q.val < 2816
  · rw [joined_lo _ _ _ h]
    blk_ext [iblk, V, idx1 t] <;> omega
  · rw [joined_hi _ _ _ h]
    blk_ext [iblk, V, idx1 t] <;> omega

theorem array2 : (dats m 0 c).arrAt 2 cfg0.N = prodTN (arg0 m c) (joined (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodTN_at _ _ _ y0 ⟨t.val * 256 + y1.val, by have := points t; omega⟩ (by blk_simp [idx2 t]) (by blk_simp [idx2 t])]
  show @Eq EReal _ _
  exact Finset.sum_congr rfl fun r _ => by rw [blk0, blk1]

theorem array3 : (dats m 0 c).arrAt 3 cfg0.N = prodTN (arg0 m c) (joined (arg1 m c)) := by
  refine (dats m 0 c).arrAt_eq_of_covers 3 _ (by decide +kernel) fun t hf y => ?_
  blk_simp
  rw [after0_3, show out0_3 (iblk m c 0 t) (iblk m c 1 t) y = k0_pay1 (iblk m c 0 t) (iblk m c 1 t) y by frame_out; rfl]
  idx_vars y
  rw [pay_apply, prodTN_at _ _ _ y0 ⟨t.val * 256 + y1.val, by have := points t; omega⟩ (by blk_simp [idx3 t]) (by blk_simp [idx3 t])]
  show @Eq EReal _ _
  exact Finset.sum_congr rfl fun r _ => by rw [blk0, blk1]

end Cert.Kernel8Ideal.Own

namespace Cert.Reference8Ideal.Own

open Cert.Reference8Ideal Cert.Reference8Ideal.Gen Cert.Reference8Ideal.Read Cert.Attn Cert.Prod

variable (x0 : Mat 4096 1024) (x1 : Stack 2 4096 2816)

theorem v10_eq : val_main_v10 (F := Ideal) x0 x1 = prodTN x0 (joined x1) := by
  funext i
  idx_vars i
  pointwise [val_main_v10, val_main_v9, val_main_v7, val_main_v5, val_main_v4, val_main_v3, val_main_v2, val_main_v1, val_main_v0]
  exact Finset.sum_congr rfl fun r _ => mul_comm _ _

theorem v11_eq : val_main_v11 (F := Ideal) x0 x1 = prodTN x0 (joined x1) := v10_eq x0 x1

end Cert.Reference8Ideal.Own

namespace Cert.Claim8

open Cert.Attn Cert.Prod

/-- The reference runs, keeps its arguments, and declares no semaphore. -/
theorem frame_reference : Cert.quiescent_Reference8Ideal (hReference8Ideal := Cert.Reference8Ideal.Gen.facts) :=
  fun m g _ => (θ_run _ _ _).mono
    (fun r h => ⟨fun c => (h c).2.2, Idealize.ShloMosaic.sem_eq_zero_of_no_sems (by decide) r.2⟩) (Cert.Reference8Ideal.Value.run m g)

/-- The call and its reference return the same arrays. -/
theorem algebraic : Cert.algebraic_Kernel8Ideal_Reference8Ideal
    (hKernel8Ideal := Cert.Kernel8Ideal.Gen.facts) (hReference8Ideal := Cert.Reference8Ideal.Gen.facts) := by
  intro m g m' g' hpre hag
  refine ⟨fun c => prodTN (Cert.Kernel8Ideal.Own.arg0 m c) (joined (Cert.Kernel8Ideal.Own.arg1 m c)),
    fun c => prodTN (Cert.Kernel8Ideal.Own.arg0 m c) (joined (Cert.Kernel8Ideal.Own.arg1 m c)),
    (θ_run _ _ _).mono (fun r h c => ?_) (Cert.Kernel8Ideal.Value.run_blocks m g),
    (θ_run _ _ _).mono (fun r h c => ?_) (Cert.Reference8Ideal.Value.run m' g')⟩
  · exact ⟨(h c).1.trans (Cert.Kernel8Ideal.Own.array2 m c), (h c).2.1.trans (Cert.Kernel8Ideal.Own.array3 m c), (h c).2.2.1, (h c).2.2.2⟩
  · obtain ⟨e0, e1⟩ := hag c
    refine ⟨(h c).1.trans ?_, (h c).2.1.trans ?_, (h c).2.2.1, (h c).2.2.2⟩
    · rw [e0, e1]
      exact (Cert.Reference8Ideal.Read.val_main_v10_eq (F := Ideal) (Cert.Kernel8Ideal.Own.arg0 m c) (Cert.Kernel8Ideal.Own.arg1 m c)).trans (Cert.Reference8Ideal.Own.v10_eq (Cert.Kernel8Ideal.Own.arg0 m c) (Cert.Kernel8Ideal.Own.arg1 m c))
    · rw [e0, e1]
      exact (Cert.Reference8Ideal.Read.val_main_v11_eq (F := Ideal) (Cert.Kernel8Ideal.Own.arg0 m c) (Cert.Kernel8Ideal.Own.arg1 m c)).trans (Cert.Reference8Ideal.Own.v11_eq (Cert.Kernel8Ideal.Own.arg0 m c) (Cert.Kernel8Ideal.Own.arg1 m c))

end Cert.Claim8

end
-- ==== Proof.Prod.DwDown.lean ====
/-
  The gradient of the down projection's weight: activations transposed times cotangent.
-/
module

public import proofs.«01_k».proof.Defs
public import proofs.«01_k».proof.Proof.Prod.Spec
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.Own

open Cert.Kernel9Ideal Cert.Kernel9Ideal.Gen Cert.Attn Cert.Prod

theorem pay_apply (u : Vec Ideal S4096x1408 .bf16) (v : Vec Ideal S4096x256 .bf16) (p : Fin 1408) (q : Fin 256) :
    k0_pay1 u v (ix2 p q) = (∑ r : Fin 4096, u (ix2 r p) * v (ix2 r q)) := by
  pointwise [k0_pay1]

variable (m : (ℓ : Loc nD τ sig) → Buf (Elt Ideal) ℓ) (c : Dev nD)

abbrev arg0 : Mat 4096 2816 := m ((c.tc : Thread nD τ).loc main_arg0)
abbrev arg1 : Mat 4096 1024 := m ((c.tc : Thread nD τ).loc main_arg1)

theorem idx0 : ∀ t : Fin grid0.N, win0_0.index t = ![0, (t.val / 4)] := by decide +kernel
theorem idx1 : ∀ t : Fin grid0.N, win0_1.index t = ![0, (t.val % 4)] := by decide +kernel
theorem idx2 : ∀ t : Fin grid0.N, win0_2.index t = ![(t.val / 4), (t.val % 4)] := by decide +kernel
theorem idx3 : ∀ t : Fin grid0.N, win0_3.index t = ![(t.val / 4), (t.val % 4)] := by decide +kernel

theorem points (t : Fin cfg0.N) : t.val < 8 := by have := t.isLt; have : cfg0.N = 8 := N_0; omega

theorem blk0 (t : Fin cfg0.N) (r : Fin 4096) (p : Fin 1408) :
    iblk m c 0 t (ix2 r p) = arg0 m c (ix2 r ⟨(t.val / 4) * 1408 + p.val, by have := points t; omega⟩) := by
  blk_ext [iblk, V, idx0 t]

theorem blk1 (t : Fin cfg0.N) (r : Fin 4096) (q : Fin 256) :
    iblk m c 1 t (ix2 r q) = (arg1 m c) (ix2 r ⟨(t.val % 4) * 256 + q.val, by have := points t; omega⟩) := by

  blk_ext [iblk, V, idx1 t]

theorem array2 : (dats m 0 c).arrAt 2 cfg0.N = prodTN (arg0 m c) (arg1 m c) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodTN_at _ _ _ ⟨(t.val / 4) * 1408 + y0.val, by have := points t; omega⟩ ⟨(t.val % 4) * 256 + y1.val, by have := points t; omega⟩ (by blk_simp [idx2 t]) (by blk_simp [idx2 t])]
  show @Eq EReal _ _
  exact Finset.sum_congr rfl fun r _ => by rw [blk0, blk1]

theorem array3 : (dats m 0 c).arrAt 3 cfg0.N = prodTN (arg0 m c) (arg1 m c) := by
  refine (dats m 0 c).arrAt_eq_of_covers 3 _ (by decide +kernel) fun t hf y => ?_
  blk_simp
  rw [after0_3, show out0_3 (iblk m c 0 t) (iblk m c 1 t) y = k0_pay1 (iblk m c 0 t) (iblk m c 1 t) y by frame_out; rfl]
  idx_vars y
  rw [pay_apply, prodTN_at _ _ _ ⟨(t.val / 4) * 1408 + y0.val, by have := points t; omega⟩ ⟨(t.val % 4) * 256 + y1.val, by have := points t; omega⟩ (by blk_simp [idx3 t]) (by blk_simp [idx3 t])]
  show @Eq EReal _ _
  exact Finset.sum_congr rfl fun r _ => by rw [blk0, blk1]

end Cert.Kernel9Ideal.Own

namespace Cert.Reference9Ideal.Own

open Cert.Reference9Ideal Cert.Reference9Ideal.Gen Cert.Reference9Ideal.Read Cert.Attn Cert.Prod

variable (x0 : Mat 4096 2816) (x1 : Mat 4096 1024)

theorem v5_eq : val_main_v5 (F := Ideal) x0 x1 = prodTN x0 x1 := by
  funext i
  idx_vars i
  pointwise [val_main_v5, val_main_v4, val_main_v3, val_main_v1]
  exact Finset.sum_congr rfl fun r _ => mul_comm _ _

theorem v6_eq : val_main_v6 (F := Ideal) x0 x1 = prodTN x0 x1 := v5_eq x0 x1

end Cert.Reference9Ideal.Own

namespace Cert.Claim9

open Cert.Attn Cert.Prod

/-- The reference runs, keeps its arguments, and declares no semaphore. -/
theorem frame_reference : Cert.quiescent_Reference9Ideal (hReference9Ideal := Cert.Reference9Ideal.Gen.facts) :=
  fun m g _ => (θ_run _ _ _).mono
    (fun r h => ⟨fun c => (h c).2.2, Idealize.ShloMosaic.sem_eq_zero_of_no_sems (by decide) r.2⟩) (Cert.Reference9Ideal.Value.run m g)

/-- The call and its reference return the same arrays. -/
theorem algebraic : Cert.algebraic_Kernel9Ideal_Reference9Ideal
    (hKernel9Ideal := Cert.Kernel9Ideal.Gen.facts) (hReference9Ideal := Cert.Reference9Ideal.Gen.facts) := by
  intro m g m' g' hpre hag
  refine ⟨fun c => prodTN (Cert.Kernel9Ideal.Own.arg0 m c) (Cert.Kernel9Ideal.Own.arg1 m c),
    fun c => prodTN (Cert.Kernel9Ideal.Own.arg0 m c) (Cert.Kernel9Ideal.Own.arg1 m c),
    (θ_run _ _ _).mono (fun r h c => ?_) (Cert.Kernel9Ideal.Value.run_blocks m g),
    (θ_run _ _ _).mono (fun r h c => ?_) (Cert.Reference9Ideal.Value.run m' g')⟩
  · exact ⟨(h c).1.trans (Cert.Kernel9Ideal.Own.array2 m c), (h c).2.1.trans (Cert.Kernel9Ideal.Own.array3 m c), (h c).2.2.1, (h c).2.2.2⟩
  · obtain ⟨e0, e1⟩ := hag c
    refine ⟨(h c).1.trans ?_, (h c).2.1.trans ?_, (h c).2.2.1, (h c).2.2.2⟩
    · rw [e0, e1]
      exact (Cert.Reference9Ideal.Read.val_main_v5_eq (F := Ideal) (Cert.Kernel9Ideal.Own.arg0 m c) (Cert.Kernel9Ideal.Own.arg1 m c)).trans (Cert.Reference9Ideal.Own.v5_eq (Cert.Kernel9Ideal.Own.arg0 m c) (Cert.Kernel9Ideal.Own.arg1 m c))
    · rw [e0, e1]
      exact (Cert.Reference9Ideal.Read.val_main_v6_eq (F := Ideal) (Cert.Kernel9Ideal.Own.arg0 m c) (Cert.Kernel9Ideal.Own.arg1 m c)).trans (Cert.Reference9Ideal.Own.v6_eq (Cert.Kernel9Ideal.Own.arg0 m c) (Cert.Kernel9Ideal.Own.arg1 m c))

end Cert.Claim9

end
-- ==== Proof.Prod.DwSquare.lean ====
/-
  The gradient of a square projection's weight: inputs transposed times cotangent.
-/
module

public import proofs.«01_k».proof.Defs
public import proofs.«01_k».proof.Proof.Prod.Spec
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Own

open Cert.Kernel10Ideal Cert.Kernel10Ideal.Gen Cert.Attn Cert.Prod

theorem pay_apply (u : Vec Ideal S4096x1024 .bf16) (v : Vec Ideal S4096x256 .bf16) (p : Fin 1024) (q : Fin 256) :
    k0_pay1 u v (ix2 p q) = (∑ r : Fin 4096, u (ix2 r p) * v (ix2 r q)) := by
  pointwise [k0_pay1]

variable (m : (ℓ : Loc nD τ sig) → Buf (Elt Ideal) ℓ) (c : Dev nD)

abbrev arg0 : Mat 4096 1024 := m ((c.tc : Thread nD τ).loc main_arg0)
abbrev arg1 : Mat 4096 1024 := m ((c.tc : Thread nD τ).loc main_arg1)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel

theorem points (t : Fin cfg0.N) : t.val < 4 := by have := t.isLt; have : cfg0.N = 4 := N_0; omega

theorem blk0 (t : Fin cfg0.N) (r : Fin 4096) (p : Fin 1024) :
    iblk m c 0 t (ix2 r p) = arg0 m c (ix2 r p) := by
  blk_ext [iblk, V, idx0 t]

theorem blk1 (t : Fin cfg0.N) (r : Fin 4096) (q : Fin 256) :
    iblk m c 1 t (ix2 r q) = (arg1 m c) (ix2 r ⟨t.val * 256 + q.val, by have := points t; omega⟩) := by

  blk_ext [iblk, V, idx1 t]

theorem array2 : (dats m 0 c).arrAt 2 cfg0.N = prodTN (arg0 m c) (arg1 m c) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodTN_at _ _ _ y0 ⟨t.val * 256 + y1.val, by have := points t; omega⟩ (by blk_simp [idx2 t]) (by blk_simp [idx2 t])]
  show @Eq EReal _ _
  exact Finset.sum_congr rfl fun r _ => by rw [blk0, blk1]

theorem array3 : (dats m 0 c).arrAt 3 cfg0.N = prodTN (arg0 m c) (arg1 m c) := by
  refine (dats m 0 c).arrAt_eq_of_covers 3 _ (by decide +kernel) fun t hf y => ?_
  blk_simp
  rw [after0_3, show out0_3 (iblk m c 0 t) (iblk m c 1 t) y = k0_pay1 (iblk m c 0 t) (iblk m c 1 t) y by frame_out; rfl]
  idx_vars y
  rw [pay_apply, prodTN_at _ _ _ y0 ⟨t.val * 256 + y1.val, by have := points t; omega⟩ (by blk_simp [idx3 t]) (by blk_simp [idx3 t])]
  show @Eq EReal _ _
  exact Finset.sum_congr rfl fun r _ => by rw [blk0, blk1]

end Cert.Kernel10Ideal.Own

namespace Cert.Reference10Ideal.Own

open Cert.Reference10Ideal Cert.Reference10Ideal.Gen Cert.Reference10Ideal.Read Cert.Attn Cert.Prod

variable (x0 : Mat 4096 1024) (x1 : Mat 4096 1024)

theorem v5_eq : val_main_v5 (F := Ideal) x0 x1 = prodTN x0 x1 := by
  funext i
  idx_vars i
  pointwise [val_main_v5, val_main_v4, val_main_v3, val_main_v1]
  exact Finset.sum_congr rfl fun r _ => mul_comm _ _

theorem v6_eq : val_main_v6 (F := Ideal) x0 x1 = prodTN x0 x1 := v5_eq x0 x1

end Cert.Reference10Ideal.Own

namespace Cert.Claim10

open Cert.Attn Cert.Prod

/-- The reference runs, keeps its arguments, and declares no semaphore. -/
theorem frame_reference : Cert.quiescent_Reference10Ideal (hReference10Ideal := Cert.Reference10Ideal.Gen.facts) :=
  fun m g _ => (θ_run _ _ _).mono
    (fun r h => ⟨fun c => (h c).2.2, Idealize.ShloMosaic.sem_eq_zero_of_no_sems (by decide) r.2⟩) (Cert.Reference10Ideal.Value.run m g)

/-- The call and its reference return the same arrays. -/
theorem algebraic : Cert.algebraic_Kernel10Ideal_Reference10Ideal
    (hKernel10Ideal := Cert.Kernel10Ideal.Gen.facts) (hReference10Ideal := Cert.Reference10Ideal.Gen.facts) := by
  intro m g m' g' hpre hag
  refine ⟨fun c => prodTN (Cert.Kernel10Ideal.Own.arg0 m c) (Cert.Kernel10Ideal.Own.arg1 m c),
    fun c => prodTN (Cert.Kernel10Ideal.Own.arg0 m c) (Cert.Kernel10Ideal.Own.arg1 m c),
    (θ_run _ _ _).mono (fun r h c => ?_) (Cert.Kernel10Ideal.Value.run_blocks m g),
    (θ_run _ _ _).mono (fun r h c => ?_) (Cert.Reference10Ideal.Value.run m' g')⟩
  · exact ⟨(h c).1.trans (Cert.Kernel10Ideal.Own.array2 m c), (h c).2.1.trans (Cert.Kernel10Ideal.Own.array3 m c), (h c).2.2.1, (h c).2.2.2⟩
  · obtain ⟨e0, e1⟩ := hag c
    refine ⟨(h c).1.trans ?_, (h c).2.1.trans ?_, (h c).2.2.1, (h c).2.2.2⟩
    · rw [e0, e1]
      exact (Cert.Reference10Ideal.Read.val_main_v5_eq (F := Ideal) (Cert.Kernel10Ideal.Own.arg0 m c) (Cert.Kernel10Ideal.Own.arg1 m c)).trans (Cert.Reference10Ideal.Own.v5_eq (Cert.Kernel10Ideal.Own.arg0 m c) (Cert.Kernel10Ideal.Own.arg1 m c))
    · rw [e0, e1]
      exact (Cert.Reference10Ideal.Read.val_main_v6_eq (F := Ideal) (Cert.Kernel10Ideal.Own.arg0 m c) (Cert.Kernel10Ideal.Own.arg1 m c)).trans (Cert.Reference10Ideal.Own.v6_eq (Cert.Kernel10Ideal.Own.arg0 m c) (Cert.Kernel10Ideal.Own.arg1 m c))

end Cert.Claim10

end
-- ==== Proof.Prod.DwConvOut.lean ====
/-
  The gradient of the convolution branch's output weight: inputs transposed times cotangent.
-/
module

public import proofs.«01_k».proof.Defs
public import proofs.«01_k».proof.Proof.Prod.Spec
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel11Ideal.Own

open Cert.Kernel11Ideal Cert.Kernel11Ideal.Gen Cert.Attn Cert.Prod

theorem pay_apply (u : Vec Ideal S4096x512 .bf16) (v : Vec Ideal S4096x256 .bf16) (p : Fin 512) (q : Fin 256) :
    k0_pay1 u v (ix2 p q) = (∑ r : Fin 4096, u (ix2 r p) * v (ix2 r q)) := by
  pointwise [k0_pay1]

variable (m : (ℓ : Loc nD τ sig) → Buf (Elt Ideal) ℓ) (c : Dev nD)

abbrev arg0 : Mat 4096 512 := m ((c.tc : Thread nD τ).loc main_arg0)
abbrev arg1 : Mat 4096 1024 := m ((c.tc : Thread nD τ).loc main_arg1)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel

theorem points (t : Fin cfg0.N) : t.val < 4 := by have := t.isLt; have : cfg0.N = 4 := N_0; omega

theorem blk0 (t : Fin cfg0.N) (r : Fin 4096) (p : Fin 512) :
    iblk m c 0 t (ix2 r p) = arg0 m c (ix2 r p) := by
  blk_ext [iblk, V, idx0 t]

theorem blk1 (t : Fin cfg0.N) (r : Fin 4096) (q : Fin 256) :
    iblk m c 1 t (ix2 r q) = (arg1 m c) (ix2 r ⟨t.val * 256 + q.val, by have := points t; omega⟩) := by

  blk_ext [iblk, V, idx1 t]

theorem array2 : (dats m 0 c).arrAt 2 cfg0.N = prodTN (arg0 m c) (arg1 m c) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodTN_at _ _ _ y0 ⟨t.val * 256 + y1.val, by have := points t; omega⟩ (by blk_simp [idx2 t]) (by blk_simp [idx2 t])]
  show @Eq EReal _ _
  exact Finset.sum_congr rfl fun r _ => by rw [blk0, blk1]

theorem array3 : (dats m 0 c).arrAt 3 cfg0.N = prodTN (arg0 m c) (arg1 m c) := by
  refine (dats m 0 c).arrAt_eq_of_covers 3 _ (by decide +kernel) fun t hf y => ?_
  blk_simp
  rw [after0_3, show out0_3 (iblk m c 0 t) (iblk m c 1 t) y = k0_pay1 (iblk m c 0 t) (iblk m c 1 t) y by frame_out; rfl]
  idx_vars y
  rw [pay_apply, prodTN_at _ _ _ y0 ⟨t.val * 256 + y1.val, by have := points t; omega⟩ (by blk_simp [idx3 t]) (by blk_simp [idx3 t])]
  show @Eq EReal _ _
  exact Finset.sum_congr rfl fun r _ => by rw [blk0, blk1]

end Cert.Kernel11Ideal.Own

namespace Cert.Reference11Ideal.Own

open Cert.Reference11Ideal Cert.Reference11Ideal.Gen Cert.Reference11Ideal.Read Cert.Attn Cert.Prod

variable (x0 : Mat 4096 512) (x1 : Mat 4096 1024)

theorem v5_eq : val_main_v5 (F := Ideal) x0 x1 = prodTN x0 x1 := by
  funext i
  idx_vars i
  pointwise [val_main_v5, val_main_v4, val_main_v3, val_main_v1]
  exact Finset.sum_congr rfl fun r _ => mul_comm _ _

theorem v6_eq : val_main_v6 (F := Ideal) x0 x1 = prodTN x0 x1 := v5_eq x0 x1

end Cert.Reference11Ideal.Own

namespace Cert.Claim11

open Cert.Attn Cert.Prod

/-- The reference runs, keeps its arguments, and declares no semaphore. -/
theorem frame_reference : Cert.quiescent_Reference11Ideal (hReference11Ideal := Cert.Reference11Ideal.Gen.facts) :=
  fun m g _ => (θ_run _ _ _).mono
    (fun r h => ⟨fun c => (h c).2.2, Idealize.ShloMosaic.sem_eq_zero_of_no_sems (by decide) r.2⟩) (Cert.Reference11Ideal.Value.run m g)

/-- The call and its reference return the same arrays. -/
theorem algebraic : Cert.algebraic_Kernel11Ideal_Reference11Ideal
    (hKernel11Ideal := Cert.Kernel11Ideal.Gen.facts) (hReference11Ideal := Cert.Reference11Ideal.Gen.facts) := by
  intro m g m' g' hpre hag
  refine ⟨fun c => prodTN (Cert.Kernel11Ideal.Own.arg0 m c) (Cert.Kernel11Ideal.Own.arg1 m c),
    fun c => prodTN (Cert.Kernel11Ideal.Own.arg0 m c) (Cert.Kernel11Ideal.Own.arg1 m c),
    (θ_run _ _ _).mono (fun r h c => ?_) (Cert.Kernel11Ideal.Value.run_blocks m g),
    (θ_run _ _ _).mono (fun r h c => ?_) (Cert.Reference11Ideal.Value.run m' g')⟩
  · exact ⟨(h c).1.trans (Cert.Kernel11Ideal.Own.array2 m c), (h c).2.1.trans (Cert.Kernel11Ideal.Own.array3 m c), (h c).2.2.1, (h c).2.2.2⟩
  · obtain ⟨e0, e1⟩ := hag c
    refine ⟨(h c).1.trans ?_, (h c).2.1.trans ?_, (h c).2.2.1, (h c).2.2.2⟩
    · rw [e0, e1]
      exact (Cert.Reference11Ideal.Read.val_main_v5_eq (F := Ideal) (Cert.Kernel11Ideal.Own.arg0 m c) (Cert.Kernel11Ideal.Own.arg1 m c)).trans (Cert.Reference11Ideal.Own.v5_eq (Cert.Kernel11Ideal.Own.arg0 m c) (Cert.Kernel11Ideal.Own.arg1 m c))
    · rw [e0, e1]
      exact (Cert.Reference11Ideal.Read.val_main_v6_eq (F := Ideal) (Cert.Kernel11Ideal.Own.arg0 m c) (Cert.Kernel11Ideal.Own.arg1 m c)).trans (Cert.Reference11Ideal.Own.v6_eq (Cert.Kernel11Ideal.Own.arg0 m c) (Cert.Kernel11Ideal.Own.arg1 m c))

end Cert.Claim11

end
-- ==== Proof.Prod.DwKv.lean ====
/-
  The gradient of the memory projection's weight: normed memory transposed times cotangent.
-/
module

public import proofs.«01_k».proof.Defs
public import proofs.«01_k».proof.Proof.Prod.Spec
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel12Ideal.Own

open Cert.Kernel12Ideal Cert.Kernel12Ideal.Gen Cert.Attn Cert.Prod

theorem pay_apply (u : Vec Ideal S512x1024 .bf16) (v : Vec Ideal S512x512 .f32) (p : Fin 1024) (q : Fin 512) :
    k0_pay1 u v (ix2 p q) = (∑ r : Fin 512, u (ix2 r p) * v (ix2 r q)) := by
  pointwise [k0_pay1]

variable (m : (ℓ : Loc nD τ sig) → Buf (Elt Ideal) ℓ) (c : Dev nD)

abbrev arg0 : Mat 512 1024 := m ((c.tc : Thread nD τ).loc main_arg0)
abbrev arg1 : Mat 512 2048 := m ((c.tc : Thread nD τ).loc main_arg1)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel

theorem points (t : Fin cfg0.N) : t.val < 4 := by have := t.isLt; have : cfg0.N = 4 := N_0; omega

theorem blk0 (t : Fin cfg0.N) (r : Fin 512) (p : Fin 1024) :
    iblk m c 0 t (ix2 r p) = arg0 m c (ix2 r p) := by
  blk_ext [iblk, V, idx0 t]

theorem blk1 (t : Fin cfg0.N) (r : Fin 512) (q : Fin 512) :
    iblk m c 1 t (ix2 r q) = (arg1 m c) (ix2 r ⟨t.val * 512 + q.val, by have := points t; omega⟩) := by

  blk_ext [iblk, V, idx1 t]

theorem array2 : (dats m 0 c).arrAt 2 cfg0.N = prodTN (arg0 m c) (arg1 m c) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodTN_at _ _ _ y0 ⟨t.val * 512 + y1.val, by have := points t; omega⟩ (by blk_simp [idx2 t]) (by blk_simp [idx2 t])]
  show @Eq EReal _ _
  exact Finset.sum_congr rfl fun r _ => by rw [blk0, blk1]

theorem array3 : (dats m 0 c).arrAt 3 cfg0.N = prodTN (arg0 m c) (arg1 m c) := by
  refine (dats m 0 c).arrAt_eq_of_covers 3 _ (by decide +kernel) fun t hf y => ?_
  blk_simp
  rw [after0_3, show out0_3 (iblk m c 0 t) (iblk m c 1 t) y = k0_pay1 (iblk m c 0 t) (iblk m c 1 t) y by frame_out; rfl]
  idx_vars y
  rw [pay_apply, prodTN_at _ _ _ y0 ⟨t.val * 512 + y1.val, by have := points t; omega⟩ (by blk_simp [idx3 t]) (by blk_simp [idx3 t])]
  show @Eq EReal _ _
  exact Finset.sum_congr rfl fun r _ => by rw [blk0, blk1]

end Cert.Kernel12Ideal.Own

namespace Cert.Reference12Ideal.Own

open Cert.Reference12Ideal Cert.Reference12Ideal.Gen Cert.Reference12Ideal.Read Cert.Attn Cert.Prod

variable (x0 : Mat 512 1024) (x1 : Mat 512 2048)

theorem v4_eq : val_main_v4 (F := Ideal) x0 x1 = prodTN x0 x1 := by
  funext i
  idx_vars i
  pointwise [val_main_v4, val_main_v3, val_main_v1]
  exact Finset.sum_congr rfl fun r _ => mul_comm _ _

theorem v5_eq : val_main_v5 (F := Ideal) x0 x1 = prodTN x0 x1 := v4_eq x0 x1

end Cert.Reference12Ideal.Own

namespace Cert.Claim12

open Cert.Attn Cert.Prod

/-- The reference runs, keeps its arguments, and declares no semaphore. -/
theorem frame_reference : Cert.quiescent_Reference12Ideal (hReference12Ideal := Cert.Reference12Ideal.Gen.facts) :=
  fun m g _ => (θ_run _ _ _).mono
    (fun r h => ⟨fun c => (h c).2.2, Idealize.ShloMosaic.sem_eq_zero_of_no_sems (by decide) r.2⟩) (Cert.Reference12Ideal.Value.run m g)

/-- The call and its reference return the same arrays. -/
theorem algebraic : Cert.algebraic_Kernel12Ideal_Reference12Ideal
    (hKernel12Ideal := Cert.Kernel12Ideal.Gen.facts) (hReference12Ideal := Cert.Reference12Ideal.Gen.facts) := by
  intro m g m' g' hpre hag
  refine ⟨fun c => prodTN (Cert.Kernel12Ideal.Own.arg0 m c) (Cert.Kernel12Ideal.Own.arg1 m c),
    fun c => prodTN (Cert.Kernel12Ideal.Own.arg0 m c) (Cert.Kernel12Ideal.Own.arg1 m c),
    (θ_run _ _ _).mono (fun r h c => ?_) (Cert.Kernel12Ideal.Value.run_blocks m g),
    (θ_run _ _ _).mono (fun r h c => ?_) (Cert.Reference12Ideal.Value.run m' g')⟩
  · exact ⟨(h c).1.trans (Cert.Kernel12Ideal.Own.array2 m c), (h c).2.1.trans (Cert.Kernel12Ideal.Own.array3 m c), (h c).2.2.1, (h c).2.2.2⟩
  · obtain ⟨e0, e1⟩ := hag c
    refine ⟨(h c).1.trans ?_, (h c).2.1.trans ?_, (h c).2.2.1, (h c).2.2.2⟩
    · rw [e0, e1]
      exact (Cert.Reference12Ideal.Read.val_main_v4_eq (F := Ideal) (Cert.Kernel12Ideal.Own.arg0 m c) (Cert.Kernel12Ideal.Own.arg1 m c)).trans (Cert.Reference12Ideal.Own.v4_eq (Cert.Kernel12Ideal.Own.arg0 m c) (Cert.Kernel12Ideal.Own.arg1 m c))
    · rw [e0, e1]
      exact (Cert.Reference12Ideal.Read.val_main_v5_eq (F := Ideal) (Cert.Kernel12Ideal.Own.arg0 m c) (Cert.Kernel12Ideal.Own.arg1 m c)).trans (Cert.Reference12Ideal.Own.v5_eq (Cert.Kernel12Ideal.Own.arg0 m c) (Cert.Kernel12Ideal.Own.arg1 m c))

end Cert.Claim12

end
-- ==== Proof.Prod.Pasted.lean ====
/-
  A matrix with some of its columns replaced, and two sheets side by side.
-/
module

public import proofs.«01_k».proof.Proof.Prod.Spec

@[expose] public section

noncomputable section

namespace Cert.Prod

open Idealize.ShloMosaic Cert.Attn

/-- Two sheets of gates side by side. -/
def paired (d : Stack 2 4096 1024) : Mat 4096 2048 := fun i =>
  if h : (i 1).val < 1024 then d (ix3 0 (i 0) ⟨(i 1).val, h⟩)
  else d (ix3 1 (i 0) ⟨(i 1).val - 1024, by have : (i 1).val < 2048 := (i 1).isLt; omega⟩)

theorem paired_lo (d : Stack 2 4096 1024) (r : Fin 4096) (q : Fin 2048) (h : q.val < 1024) :
    paired d (ix2 r q) = d (ix3 0 r ⟨q.val, h⟩) := dif_pos h

theorem paired_hi (d : Stack 2 4096 1024) (r : Fin 4096) (q : Fin 2048) (h : ¬ q.val < 1024) :
    paired d (ix2 r q) = d (ix3 1 r ⟨q.val - 1024, by omega⟩) := dif_neg h

variable {m n N : ℕ}

/-- A matrix in which the columns from `lo` on are those of another matrix, as many as it has. -/
def pasted (lo : ℕ) (w : Mat m N) (g : Mat m n) : Mat m N := fun i =>
  if h : lo ≤ (i 1).val ∧ (i 1).val - lo < n then g (ix2 (i 0) ⟨(i 1).val - lo, h.2⟩) else w i

theorem pasted_in (lo : ℕ) (w : Mat m N) (g : Mat m n) (i : (⟨2, ![m, N]⟩ : Shape).Idx) (p : Fin m) (q : Fin n)
    (hp : (i 0).val = p.val) (hq : (i 1).val = lo + q.val) : pasted lo w g i = g (ix2 p q) := by
  obtain rfl : i 0 = p := Fin.ext hp
  refine (dif_pos ⟨by omega, by omega⟩).trans ?_
  exact congrArg (fun z => g (ix2 (i 0) z)) (Fin.ext (show (i 1).val - lo = q.val by omega))

theorem pasted_out (lo : ℕ) (w : Mat m N) (g : Mat m n) (i : (⟨2, ![m, N]⟩ : Shape).Idx)
    (h : ¬ (lo ≤ (i 1).val ∧ (i 1).val < lo + n)) : pasted lo w g i = w i := dif_neg (by omega)

end Cert.Prod

end
-- ==== Proof.Prod.DwInGates.lean ====
/-
  The gates' columns of the combined input weight's gradient, written into an array that holds the other columns.
-/
module

public import proofs.«01_k».proof.Defs
public import proofs.«01_k».proof.Proof.Prod.Spec
public import proofs.«01_k».proof.Proof.Prod.Pasted
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel13Ideal.Own

open Cert.Kernel13Ideal Cert.Kernel13Ideal.Gen Cert.Attn Cert.Prod

theorem pay_apply (u : Vec Ideal S4096x1024 .bf16) (v : Vec Ideal S1x4096x512 .bf16) (p : Fin 1024) (q : Fin 512) :
    k0_pay1 u v (ix2 p q) = ∑ r : Fin 4096, u (ix2 r p) * v (ix3 0 r q) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 2 4096 1024 := m ((c.tc : Thread nD τ).loc main_arg1)
abbrev arg2 : Mat 1024 3584 := m ((c.tc : Thread nD τ).loc main_arg2)
abbrev arg3 : Mat 1024 3584 := m ((c.tc : Thread nD τ).loc main_arg3)

theorem idx0 : ∀ t : Fin grid0.N, win0_0.index t = ![0, 0] := by decide +kernel
theorem idx1 : ∀ t : Fin grid0.N, win0_1.index t = ![t.val / 2, 0, t.val % 2] := by decide +kernel
theorem idx2 : ∀ t : Fin grid0.N, win0_2.index t = ![0, 3 + t.val] := by decide +kernel
theorem idx3 : ∀ t : Fin grid0.N, win0_3.index t = ![0, 3 + t.val] := by decide +kernel

theorem points (t : Fin cfg0.N) : t.val < 4 := by have := t.isLt; have : cfg0.N = 4 := N_0; omega

theorem blk0 (t : Fin cfg0.N) (r : Fin 4096) (p : Fin 1024) : iblk m c 0 t (ix2 r p) = arg0 m c (ix2 r p) := by
  have e : iblk m c 0 t (ix2 r p) = V m c main_arg0 (ix2 r p) := by blk_ext [iblk, idx0 t]
  exact e.trans (congrFun (V_main_arg0 m c) _)

theorem blk1 (t : Fin cfg0.N) (r : Fin 4096) (q : Fin 512) :
    iblk m c 1 t (ix3 0 r q) = paired (arg1 m c) (ix2 r ⟨t.val * 512 + q.val, by have := points t; omega⟩) := by
  have := points t
  by_cases h : t.val * 512 + q.val < 1024
  · rw [paired_lo _ _ _ h]
    have e : iblk m c 1 t (ix3 0 r q) = V m c main_arg1 (ix3 0 r ⟨t.val * 512 + q.val, h⟩) := by blk_ext [iblk, idx1 t] <;> omega
    exact e.trans (congrFun (V_main_arg1 m c) _)
  · rw [paired_hi _ _ _ h]
    have e : iblk m c 1 t (ix3 0 r q) = V m c main_arg1 (ix3 1 r ⟨t.val * 512 + q.val - 1024, by omega⟩) := by blk_ext [iblk, idx1 t] <;> omega
    exact e.trans (congrFun (V_main_arg1 m c) _)

/-- What the call finds in its result's array is its argument. -/
theorem before2 : V m c main_v0_0 = arg2 m c := by
  unfold_abbrev_sides
  after_results
  rfl

theorem array2 : (dats m 0 c).arrAt 2 cfg0.N = pasted 1536 (arg2 m c) (prodTN (arg0 m c) (paired (arg1 m c))) := by
  refine (dats m 0 c).arrAt_eq_of_coversWhere_of_agree 2 _ (fun β => 3 ≤ β (1 : Fin _)) (by decide +kernel) (fun t hf y => ?_) (fun j hj => ?_)
  · blk_simp
    rw [after0_2, show (outsAt0 m c t).1 y = k0_pay1 (iblk m c 0 t) (iblk m c 1 t) y by unfold outsAt0; frame_out <;> rfl]
    idx_vars y
    rw [pay_apply, pasted_in _ _ _ _ y0 ⟨t.val * 512 + y1.val, by have := points t; omega⟩ (by blk_simp [idx2 t]) (by show _ = 1536 + (t.val * 512 + y1.val); blk_simp [idx2 t]; omega),
      prodTN_at _ _ _ y0 ⟨t.val * 512 + y1.val, by have := points t; omega⟩ rfl rfl]
    show @Eq EReal _ _
    exact Finset.sum_congr rfl fun r _ => by rw [blk0, blk1]
  · refine (congrFun (before2 m c) _).trans (pasted_out _ _ _ _ fun h => hj ?_).symm
    blk_simp [Pipeline.Window.cell_apply] at h ⊢
    omega

/-- What the call finds in its result's array is its argument. -/
theorem before3 : V m c main_v0_1 = arg3 m c := by
  unfold_abbrev_sides
  after_results
  rfl

theorem array3 : (dats m 0 c).arrAt 3 cfg0.N = pasted 1536 (arg3 m c) (prodTN (arg0 m c) (paired (arg1 m c))) := by
  refine (dats m 0 c).arrAt_eq_of_coversWhere_of_agree 3 _ (fun β => 3 ≤ β (1 : Fin _)) (by decide +kernel) (fun t hf y => ?_) (fun j hj => ?_)
  · blk_simp
    rw [after0_3, show (outsAt0 m c t).2 y = k0_pay1 (iblk m c 0 t) (iblk m c 1 t) y by unfold outsAt0; frame_out <;> rfl]
    idx_vars y
    rw [pay_apply, pasted_in _ _ _ _ y0 ⟨t.val * 512 + y1.val, by have := points t; omega⟩ (by blk_simp [idx3 t]) (by show _ = 1536 + (t.val * 512 + y1.val); blk_simp [idx3 t]; omega),
      prodTN_at _ _ _ y0 ⟨t.val * 512 + y1.val, by have := points t; omega⟩ rfl rfl]
    show @Eq EReal _ _
    exact Finset.sum_congr rfl fun r _ => by rw [blk0, blk1]
  · refine (congrFun (before3 m c) _).trans (pasted_out _ _ _ _ fun h => hj ?_).symm
    blk_simp [Pipeline.Window.cell_apply] at h ⊢
    omega

end Cert.Kernel13Ideal.Own

namespace Cert.Reference13Ideal.Own

open Cert.Reference13Ideal Cert.Reference13Ideal.Gen Cert.Reference13Ideal.Read Cert.Attn Cert.Prod

variable (x0 : Mat 4096 1024) (x1 : Stack 2 4096 1024) (x2 x3 : Mat 1024 3584)

theorem product_at (p : Fin 1024) (q : Fin 2048) : val_main_v10 (F := Ideal) x0 x1 (ix2 p q) = prodTN x0 (paired x1) (ix2 p q) := by
  pointwise [val_main_v10, val_main_v9, val_main_v7, val_main_v5, val_main_v4, val_main_v3, val_main_v2, val_main_v1, val_main_v0]
  exact Finset.sum_congr rfl fun r _ => mul_comm _ _

theorem v12_eq : val_main_v12 (F := Ideal) x0 x1 x2 = pasted 1536 x2 (prodTN x0 (paired x1)) := by
  funext i
  idx_vars i
  by_cases h : 1536 ≤ i1.val ∧ i1.val < 3584
  · rw [pasted_in _ _ _ _ i0 ⟨i1.val - 1536, by omega⟩ rfl (show i1.val = 1536 + (i1.val - 1536) by omega), ← product_at]
    pointwise [val_main_v12]
    exact dif_neg (by omega)
  · rw [pasted_out _ _ _ _ h]
    pointwise [val_main_v12, val_main_v11]
    exact dif_pos (by omega)

theorem v15_eq : val_main_v15 (F := Ideal) x0 x1 x3 = pasted 1536 x3 (prodTN x0 (paired x1)) := by
  funext i
  idx_vars i
  by_cases h : 1536 ≤ i1.val ∧ i1.val < 3584
  · rw [pasted_in _ _ _ _ i0 ⟨i1.val - 1536, by omega⟩ rfl (show i1.val = 1536 + (i1.val - 1536) by omega), ← product_at]
    pointwise [val_main_v15, val_main_v14]
    exact dif_neg (by omega)
  · rw [pasted_out _ _ _ _ h]
    pointwise [val_main_v15, val_main_v13]
    exact dif_pos (by omega)

end Cert.Reference13Ideal.Own

namespace Cert.Claim13

open Cert.Attn Cert.Prod

/-- The reference runs, keeps its arguments, and declares no semaphore. -/
theorem frame_reference : Cert.quiescent_Reference13Ideal (hReference13Ideal := Cert.Reference13Ideal.Gen.facts) :=
  fun m g _ => (θ_run _ _ _).mono
    (fun r h => ⟨fun c => (h c).2.2, Idealize.ShloMosaic.sem_eq_zero_of_no_sems (by decide) r.2⟩) (Cert.Reference13Ideal.Value.run m g)

/-- The call and its reference return the same arrays. -/
theorem algebraic : Cert.algebraic_Kernel13Ideal_Reference13Ideal
    (hKernel13Ideal := Cert.Kernel13Ideal.Gen.facts) (hReference13Ideal := Cert.Reference13Ideal.Gen.facts) := by
  intro m g m' g' hpre hag
  refine ⟨fun c => pasted 1536 (Cert.Kernel13Ideal.Own.arg2 m c) (prodTN (Cert.Kernel13Ideal.Own.arg0 m c) (paired (Cert.Kernel13Ideal.Own.arg1 m c))),
    fun c => pasted 1536 (Cert.Kernel13Ideal.Own.arg3 m c) (prodTN (Cert.Kernel13Ideal.Own.arg0 m c) (paired (Cert.Kernel13Ideal.Own.arg1 m c))),
    (θ_run _ _ _).mono (fun r h c => ?_) (Cert.Kernel13Ideal.Value.run_blocks m g),
    (θ_run _ _ _).mono (fun r h c => ?_) (Cert.Reference13Ideal.Value.run m' g')⟩
  · exact ⟨(h c).1.trans (Cert.Kernel13Ideal.Own.array2 m c), (h c).2.1.trans (Cert.Kernel13Ideal.Own.array3 m c), (h c).2.2.1, (h c).2.2.2.1, (h c).2.2.2.2.1, (h c).2.2.2.2.2⟩
  · obtain ⟨e0, e1, e2, e3⟩ := hag c
    refine ⟨(h c).1.trans ?_, (h c).2.1.trans ?_, (h c).2.2.1, (h c).2.2.2.1, (h c).2.2.2.2.1, (h c).2.2.2.2.2⟩
    · rw [e0, e1, e2]
      exact (Cert.Reference13Ideal.Read.val_main_v12_eq (F := Ideal) (Cert.Kernel13Ideal.Own.arg0 m c) (Cert.Kernel13Ideal.Own.arg1 m c) (Cert.Kernel13Ideal.Own.arg2 m c)).trans (Cert.Reference13Ideal.Own.v12_eq (Cert.Kernel13Ideal.Own.arg0 m c) (Cert.Kernel13Ideal.Own.arg1 m c) (Cert.Kernel13Ideal.Own.arg2 m c))
    · rw [e0, e1, e3]
      exact (Cert.Reference13Ideal.Read.val_main_v15_eq (F := Ideal) (Cert.Kernel13Ideal.Own.arg0 m c) (Cert.Kernel13Ideal.Own.arg1 m c) (Cert.Kernel13Ideal.Own.arg3 m c)).trans (Cert.Reference13Ideal.Own.v15_eq (Cert.Kernel13Ideal.Own.arg0 m c) (Cert.Kernel13Ideal.Own.arg1 m c) (Cert.Kernel13Ideal.Own.arg3 m c))

end Cert.Claim13

end
-- ==== Proof.Prod.DwInPool.lean ====
/-
  The pooling columns of the combined input weight's gradient, written into an array that holds the other columns.
-/
module

public import proofs.«01_k».proof.Defs
public import proofs.«01_k».proof.Proof.Prod.Spec
public import proofs.«01_k».proof.Proof.Prod.Pasted
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel35Ideal.Own

open Cert.Kernel35Ideal Cert.Kernel35Ideal.Gen Cert.Attn Cert.Prod

theorem pay_apply (u : Vec Ideal S4096x1024 .bf16) (v : Vec Ideal S4096x256 .bf16) (p : Fin 1024) (q : Fin 256) :
    k0_pay1 u v (ix2 p q) = ∑ r : Fin 4096, u (ix2 r p) * v (ix2 r q) := by
  pointwise [k0_pay1]

variable (m : (ℓ : Loc nD τ sig) → Buf (Elt Ideal) ℓ) (c : Dev nD)

abbrev arg0 : Mat 4096 1024 := m ((c.tc : Thread nD τ).loc main_arg0)
abbrev arg1 : Mat 4096 512 := m ((c.tc : Thread nD τ).loc main_arg1)
abbrev arg2 : Mat 1024 3584 := m ((c.tc : Thread nD τ).loc main_arg2)
abbrev arg3 : Mat 1024 3584 := m ((c.tc : Thread nD τ).loc main_arg3)

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, 4 + t.val] := by decide +kernel
theorem idx3 : ∀ t : Fin grid0.N, win0_3.index t = ![0, 4 + t.val] := by decide +kernel

theorem points (t : Fin cfg0.N) : t.val < 2 := by have := t.isLt; have : cfg0.N = 2 := N_0; omega

theorem blk0 (t : Fin cfg0.N) (r : Fin 4096) (p : Fin 1024) : iblk m c 0 t (ix2 r p) = arg0 m c (ix2 r p) := by
  have e : iblk m c 0 t (ix2 r p) = V m c main_arg0 (ix2 r p) := by blk_ext [iblk, idx0 t]
  exact e.trans (congrFun (V_main_arg0 m c) _)

theorem blk1 (t : Fin cfg0.N) (r : Fin 4096) (q : Fin 256) :
    iblk m c 1 t (ix2 r q) = arg1 m c (ix2 r ⟨t.val * 256 + q.val, by have := points t; omega⟩) := by
  have := points t
  have e : iblk m c 1 t (ix2 r q) = V m c main_arg1 (ix2 r ⟨t.val * 256 + q.val, by omega⟩) := by blk_ext [iblk, idx1 t]
  exact e.trans (congrFun (V_main_arg1 m c) _)

/-- What the call finds in its result's array is its argument. -/
theorem before2 : V m c main_v0_0 = arg2 m c := by
  unfold_abbrev_sides
  after_results
  rfl

theorem array2 : (dats m 0 c).arrAt 2 cfg0.N = pasted 1024 (arg2 m c) (prodTN (arg0 m c) (arg1 m c)) := by
  refine (dats m 0 c).arrAt_eq_of_coversWhere_of_agree 2 _ (fun β => 4 ≤ β (1 : Fin _) ∧ β (1 : Fin _) < 6) (by decide +kernel) (fun t hf y => ?_) (fun j hj => ?_)
  · blk_simp
    rw [after0_2, show (outsAt0 m c t).1 y = k0_pay1 (iblk m c 0 t) (iblk m c 1 t) y by unfold outsAt0; frame_out <;> rfl]
    idx_vars y
    rw [pay_apply, pasted_in _ _ _ _ y0 ⟨t.val * 256 + y1.val, by have := points t; omega⟩ (by blk_simp [idx2 t]) (by show _ = 1024 + (t.val * 256 + y1.val); blk_simp [idx2 t]; omega),
      prodTN_at _ _ _ y0 ⟨t.val * 256 + y1.val, by have := points t; omega⟩ rfl rfl]
    show @Eq EReal _ _
    exact Finset.sum_congr rfl fun r _ => by rw [blk0, blk1]
  · refine (congrFun (before2 m c) _).trans (pasted_out _ _ _ _ fun h => hj ?_).symm
    blk_simp [Pipeline.Window.cell_apply] at h ⊢
    omega

/-- What the call finds in its result's array is its argument. -/
theorem before3 : V m c main_v0_1 = arg3 m c := by
  unfold_abbrev_sides
  after_results
  rfl

theorem array3 : (dats m 0 c).arrAt 3 cfg0.N = pasted 1024 (arg3 m c) (prodTN (arg0 m c) (arg1 m c)) := by
  refine (dats m 0 c).arrAt_eq_of_coversWhere_of_agree 3 _ (fun β => 4 ≤ β (1 : Fin _) ∧ β (1 : Fin _) < 6) (by decide +kernel) (fun t hf y => ?_) (fun j hj => ?_)
  · blk_simp
    rw [after0_3, show (outsAt0 m c t).2 y = k0_pay1 (iblk m c 0 t) (iblk m c 1 t) y by unfold outsAt0; frame_out <;> rfl]
    idx_vars y
    rw [pay_apply, pasted_in _ _ _ _ y0 ⟨t.val * 256 + y1.val, by have := points t; omega⟩ (by blk_simp [idx3 t]) (by show _ = 1024 + (t.val * 256 + y1.val); blk_simp [idx3 t]; omega),
      prodTN_at _ _ _ y0 ⟨t.val * 256 + y1.val, by have := points t; omega⟩ rfl rfl]
    show @Eq EReal _ _
    exact Finset.sum_congr rfl fun r _ => by rw [blk0, blk1]
  · refine (congrFun (before3 m c) _).trans (pasted_out _ _ _ _ fun h => hj ?_).symm
    blk_simp [Pipeline.Window.cell_apply] at h ⊢
    omega

end Cert.Kernel35Ideal.Own

namespace Cert.Reference35Ideal.Own

open Cert.Reference35Ideal Cert.Reference35Ideal.Gen Cert.Reference35Ideal.Read Cert.Attn Cert.Prod

variable (x0 : Mat 4096 1024) (x1 : Mat 4096 512) (x2 x3 : Mat 1024 3584)

theorem product_at (p : Fin 1024) (q : Fin 512) : val_main_v5 (F := Ideal) x0 x1 (ix2 p q) = prodTN x0 x1 (ix2 p q) := by
  pointwise [val_main_v5, val_main_v4, val_main_v3, val_main_v1]
  exact Finset.sum_congr rfl fun r _ => mul_comm _ _

theorem v8_eq : val_main_v8 (F := Ideal) x0 x1 x2 = pasted 1024 x2 (prodTN x0 x1) := by
  funext i
  idx_vars i
  by_cases h : 1024 ≤ i1.val ∧ i1.val < 1536
  · rw [pasted_in _ _ _ _ i0 ⟨i1.val - 1024, by omega⟩ rfl (show i1.val = 1024 + (i1.val - 1024) by omega), ← product_at]
    pointwise [val_main_v8]
    exact (dif_neg (by omega)).trans (dif_pos (by omega))
  · rw [pasted_out _ _ _ _ h]
    pointwise [val_main_v8, val_main_v6, val_main_v7]
    by_cases g : i1.val < 1024
    · exact dif_pos g
    · refine (dif_neg g).trans ((dif_neg (by omega)).trans ?_)
      exact congrArg (fun z => x2 (ix2 i0 z)) (Fin.ext (show 1536 + (i1.val - 1024 - 512) = i1.val by omega))

theorem v12_eq : val_main_v12 (F := Ideal) x0 x1 x3 = pasted 1024 x3 (prodTN x0 x1) := by
  funext i
  idx_vars i
  by_cases h : 1024 ≤ i1.val ∧ i1.val < 1536
  · rw [pasted_in _ _ _ _ i0 ⟨i1.val - 1024, by omega⟩ rfl (show i1.val = 1024 + (i1.val - 1024) by omega), ← product_at]
    pointwise [val_main_v12, val_main_v10]
    exact (dif_neg (by omega)).trans (dif_pos (by omega))
  · rw [pasted_out _ _ _ _ h]
    pointwise [val_main_v12, val_main_v9, val_main_v11]
    by_cases g : i1.val < 1024
    · exact dif_pos g
    · refine (dif_neg g).trans ((dif_neg (by omega)).trans ?_)
      exact congrArg (fun z => x3 (ix2 i0 z)) (Fin.ext (show 1536 + (i1.val - 1024 - 512) = i1.val by omega))

end Cert.Reference35Ideal.Own

namespace Cert.Claim35

open Cert.Attn Cert.Prod

/-- The reference runs, keeps its arguments, and declares no semaphore. -/
theorem frame_reference : Cert.quiescent_Reference35Ideal (hReference35Ideal := Cert.Reference35Ideal.Gen.facts) :=
  fun m g _ => (θ_run _ _ _).mono
    (fun r h => ⟨fun c => (h c).2.2, Idealize.ShloMosaic.sem_eq_zero_of_no_sems (by decide) r.2⟩) (Cert.Reference35Ideal.Value.run m g)

/-- The call and its reference return the same arrays. -/
theorem algebraic : Cert.algebraic_Kernel35Ideal_Reference35Ideal
    (hKernel35Ideal := Cert.Kernel35Ideal.Gen.facts) (hReference35Ideal := Cert.Reference35Ideal.Gen.facts) := by
  intro m g m' g' hpre hag
  refine ⟨fun c => pasted 1024 (Cert.Kernel35Ideal.Own.arg2 m c) (prodTN (Cert.Kernel35Ideal.Own.arg0 m c) (Cert.Kernel35Ideal.Own.arg1 m c)),
    fun c => pasted 1024 (Cert.Kernel35Ideal.Own.arg3 m c) (prodTN (Cert.Kernel35Ideal.Own.arg0 m c) (Cert.Kernel35Ideal.Own.arg1 m c)),
    (θ_run _ _ _).mono (fun r h c => ?_) (Cert.Kernel35Ideal.Value.run_blocks m g),
    (θ_run _ _ _).mono (fun r h c => ?_) (Cert.Reference35Ideal.Value.run m' g')⟩
  · exact ⟨(h c).1.trans (Cert.Kernel35Ideal.Own.array2 m c), (h c).2.1.trans (Cert.Kernel35Ideal.Own.array3 m c), (h c).2.2.1, (h c).2.2.2.1, (h c).2.2.2.2.1, (h c).2.2.2.2.2⟩
  · obtain ⟨e0, e1, e2, e3⟩ := hag c
    refine ⟨(h c).1.trans ?_, (h c).2.1.trans ?_, (h c).2.2.1, (h c).2.2.2.1, (h c).2.2.2.2.1, (h c).2.2.2.2.2⟩
    · rw [e0, e1, e2]
      exact (Cert.Reference35Ideal.Read.val_main_v8_eq (F := Ideal) (Cert.Kernel35Ideal.Own.arg0 m c) (Cert.Kernel35Ideal.Own.arg1 m c) (Cert.Kernel35Ideal.Own.arg2 m c)).trans (Cert.Reference35Ideal.Own.v8_eq (Cert.Kernel35Ideal.Own.arg0 m c) (Cert.Kernel35Ideal.Own.arg1 m c) (Cert.Kernel35Ideal.Own.arg2 m c))
    · rw [e0, e1, e3]
      exact (Cert.Reference35Ideal.Read.val_main_v12_eq (F := Ideal) (Cert.Kernel35Ideal.Own.arg0 m c) (Cert.Kernel35Ideal.Own.arg1 m c) (Cert.Kernel35Ideal.Own.arg3 m c)).trans (Cert.Reference35Ideal.Own.v12_eq (Cert.Kernel35Ideal.Own.arg0 m c) (Cert.Kernel35Ideal.Own.arg1 m c) (Cert.Kernel35Ideal.Own.arg3 m c))

end Cert.Claim35

end
-- ==== Proof.Prod.DGact.lean ====
/-
  The gradient of the gated activations: cotangent times the down projection's weight transposed.
-/
module

public import proofs.«01_k».proof.Defs
public import proofs.«01_k».proof.Proof.Prod.Spec
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel14Ideal.Own

open Cert.Kernel14Ideal Cert.Kernel14Ideal.Gen Cert.Attn Cert.Prod

theorem pay_apply (u : Vec Ideal S4096x1024 .f32) (v : Vec Ideal S1x256x1024 .bf16) (p : Fin 4096) (q : Fin 256) :
    k0_pay1 u v (ix2 p q) = (∑ r : Fin 1024, u (ix2 p r) * v (ix3 0 q r)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 2816 1024 := m ((c.tc : Thread nD τ).loc main_arg1)

theorem idx0 : ∀ t : Fin grid0.N, win0_0.index t = ![0, 0] := by decide +kernel
theorem idx1 : ∀ t : Fin grid0.N, win0_1.index t = ![0, t.val, 0] := by decide +kernel
theorem idx2 : ∀ t : Fin grid0.N, win0_2.index t = ![0, t.val] := by decide +kernel

theorem points (t : Fin cfg0.N) : t.val < 11 := by have := t.isLt; have : cfg0.N = 11 := N_0; omega

theorem blk0 (t : Fin cfg0.N) (r : Fin 1024) (p : Fin 4096) :
    iblk m c 0 t (ix2 p r) = arg0 m c (ix2 p r) := by
  blk_ext [iblk, V, idx0 t]

theorem blk1 (t : Fin cfg0.N) (r : Fin 1024) (q : Fin 256) :
    iblk m c 1 t (ix3 0 q r) = sheet (arg1 m c) (ix2 ⟨t.val * 256 + q.val, by have := points t; omega⟩ r) := by
  show _ = arg1 m c (ix3 0 ⟨t.val * 256 + q.val, by have := points t; omega⟩ r)
  blk_ext [iblk, V, idx1 t]

theorem array2 : (dats m 0 c).arrAt 2 cfg0.N = prodNT (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNT_at _ _ _ y0 ⟨t.val * 256 + y1.val, by have := points t; omega⟩ (by blk_simp [idx2 t]) (by blk_simp [idx2 t])]
  show @Eq EReal _ _
  exact Finset.sum_congr rfl fun r _ => by rw [blk0, blk1]

end Cert.Kernel14Ideal.Own

namespace Cert.Reference14Ideal.Own

open Cert.Reference14Ideal Cert.Reference14Ideal.Gen Cert.Reference14Ideal.Read Cert.Attn Cert.Prod

variable (x0 : Mat 4096 1024) (x1 : Stack 1 2816 1024)

theorem v5_eq : val_main_v5 (F := Ideal) x0 x1 = prodNT x0 (sheet x1) := by
  funext i
  idx_vars i
  pointwise [val_main_v5, val_main_v4, val_main_v2, val_main_v1]
  rfl

end Cert.Reference14Ideal.Own

namespace Cert.Claim14

open Cert.Attn Cert.Prod

/-- The reference runs, keeps its arguments, and declares no semaphore. -/
theorem frame_reference : Cert.quiescent_Reference14Ideal (hReference14Ideal := Cert.Reference14Ideal.Gen.facts) :=
  fun m g _ => (θ_run _ _ _).mono
    (fun r h => ⟨fun c => (h c).2, Idealize.ShloMosaic.sem_eq_zero_of_no_sems (by decide) r.2⟩) (Cert.Reference14Ideal.Value.run m g)

/-- The call and its reference return the same arrays. -/
theorem algebraic : Cert.algebraic_Kernel14Ideal_Reference14Ideal
    (hKernel14Ideal := Cert.Kernel14Ideal.Gen.facts) (hReference14Ideal := Cert.Reference14Ideal.Gen.facts) := by
  intro m g m' g' hpre hag
  refine ⟨fun c => prodNT (Cert.Kernel14Ideal.Own.arg0 m c) (sheet (Cert.Kernel14Ideal.Own.arg1 m c)),
    (θ_run _ _ _).mono (fun r h c => ?_) (Cert.Kernel14Ideal.Value.run_blocks m g),
    (θ_run _ _ _).mono (fun r h c => ?_) (Cert.Reference14Ideal.Value.run m' g')⟩
  · exact ⟨(h c).1.trans (Cert.Kernel14Ideal.Own.array2 m c), (h c).2.1, (h c).2.2⟩
  · obtain ⟨e0, e1⟩ := hag c
    refine ⟨(h c).1.trans ?_, (h c).2.1, (h c).2.2⟩
    · rw [e0, e1]
      exact (Cert.Reference14Ideal.Read.val_main_v5_eq (F := Ideal) (Cert.Kernel14Ideal.Own.arg0 m c) (Cert.Kernel14Ideal.Own.arg1 m c)).trans (Cert.Reference14Ideal.Own.v5_eq (Cert.Kernel14Ideal.Own.arg0 m c) (Cert.Kernel14Ideal.Own.arg1 m c))

end Cert.Claim14

end
-- ==== Proof.Prod.DMerged.lean ====
/-
  The gradient of a square projection's input: cotangent times the weight transposed.
-/
module

public import proofs.«01_k».proof.Defs
public import proofs.«01_k».proof.Proof.Prod.Spec
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel15Ideal.Own

open Cert.Kernel15Ideal Cert.Kernel15Ideal.Gen Cert.Attn Cert.Prod

theorem pay_apply (u : Vec Ideal S2048x1024 .bf16) (v : Vec Ideal S1x512x1024 .bf16) (p : Fin 2048) (q : Fin 512) :
    k0_pay1 u v (ix2 p q) = (∑ r : Fin 1024, u (ix2 p r) * v (ix3 0 q r)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 1024 1024 := m ((c.tc : Thread nD τ).loc main_arg1)

theorem idx0 : ∀ t : Fin grid0.N, win0_0.index t = ![(t.val / 2), 0] := by decide +kernel
theorem idx1 : ∀ t : Fin grid0.N, win0_1.index t = ![0, (t.val % 2), 0] := by decide +kernel
theorem idx2 : ∀ t : Fin grid0.N, win0_2.index t = ![(t.val / 2), (t.val % 2)] := by decide +kernel

theorem points (t : Fin cfg0.N) : t.val < 4 := by have := t.isLt; have : cfg0.N = 4 := N_0; omega

theorem blk0 (t : Fin cfg0.N) (r : Fin 1024) (p : Fin 2048) :
    iblk m c 0 t (ix2 p r) = arg0 m c (ix2 ⟨(t.val / 2) * 2048 + p.val, by have := points t; omega⟩ r) := by
  blk_ext [iblk, V, idx0 t]

theorem blk1 (t : Fin cfg0.N) (r : Fin 1024) (q : Fin 512) :
    iblk m c 1 t (ix3 0 q r) = sheet (arg1 m c) (ix2 ⟨(t.val % 2) * 512 + q.val, by have := points t; omega⟩ r) := by
  show _ = arg1 m c (ix3 0 ⟨(t.val % 2) * 512 + q.val, by have := points t; omega⟩ r)
  blk_ext [iblk, V, idx1 t]

theorem array2 : (dats m 0 c).arrAt 2 cfg0.N = prodNT (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNT_at _ _ _ ⟨(t.val / 2) * 2048 + y0.val, by have := points t; omega⟩ ⟨(t.val % 2) * 512 + y1.val, by have := points t; omega⟩ (by blk_simp [idx2 t]) (by blk_simp [idx2 t])]
  show @Eq EReal _ _
  exact Finset.sum_congr rfl fun r _ => by rw [blk0, blk1]

end Cert.Kernel15Ideal.Own

namespace Cert.Reference15Ideal.Own

open Cert.Reference15Ideal Cert.Reference15Ideal.Gen Cert.Reference15Ideal.Read Cert.Attn Cert.Prod

variable (x0 : Mat 4096 1024) (x1 : Stack 1 1024 1024)

theorem v6_eq : val_main_v6 (F := Ideal) x0 x1 = prodNT x0 (sheet x1) := by
  funext i
  idx_vars i
  pointwise [val_main_v6, val_main_v5, val_main_v4, val_main_v2, val_main_v1]
  rfl

end Cert.Reference15Ideal.Own

namespace Cert.Claim15

open Cert.Attn Cert.Prod

/-- The reference runs, keeps its arguments, and declares no semaphore. -/
theorem frame_reference : Cert.quiescent_Reference15Ideal (hReference15Ideal := Cert.Reference15Ideal.Gen.facts) :=
  fun m g _ => (θ_run _ _ _).mono
    (fun r h => ⟨fun c => (h c).2, Idealize.ShloMosaic.sem_eq_zero_of_no_sems (by decide) r.2⟩) (Cert.Reference15Ideal.Value.run m g)

/-- The call and its reference return the same arrays. -/
theorem algebraic : Cert.algebraic_Kernel15Ideal_Reference15Ideal
    (hKernel15Ideal := Cert.Kernel15Ideal.Gen.facts) (hReference15Ideal := Cert.Reference15Ideal.Gen.facts) := by
  intro m g m' g' hpre hag
  refine ⟨fun c => prodNT (Cert.Kernel15Ideal.Own.arg0 m c) (sheet (Cert.Kernel15Ideal.Own.arg1 m c)),
    (θ_run _ _ _).mono (fun r h c => ?_) (Cert.Kernel15Ideal.Value.run_blocks m g),
    (θ_run _ _ _).mono (fun r h c => ?_) (Cert.Reference15Ideal.Value.run m' g')⟩
  · exact ⟨(h c).1.trans (Cert.Kernel15Ideal.Own.array2 m c), (h c).2.1, (h c).2.2⟩
  · obtain ⟨e0, e1⟩ := hag c
    refine ⟨(h c).1.trans ?_, (h c).2.1, (h c).2.2⟩
    · rw [e0, e1]
      exact (Cert.Reference15Ideal.Read.val_main_v6_eq (F := Ideal) (Cert.Kernel15Ideal.Own.arg0 m c) (Cert.Kernel15Ideal.Own.arg1 m c)).trans (Cert.Reference15Ideal.Own.v6_eq (Cert.Kernel15Ideal.Own.arg0 m c) (Cert.Kernel15Ideal.Own.arg1 m c))

end Cert.Claim15

end
-- ==== Proof.Prod.DMem.lean ====
/-
  The gradient of the normed memory: cotangent times the memory projection's weight transposed, added to what came before.
-/
module

public import proofs.«01_k».proof.Defs
public import proofs.«01_k».proof.Proof.Prod.Spec
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel16Ideal.Own

open Cert.Kernel16Ideal Cert.Kernel16Ideal.Gen Cert.Attn Cert.Prod

theorem pay_apply (u : Vec Ideal S512x2048 .f32) (v : Vec Ideal S1x256x2048 .bf16) (w : Vec Ideal S512x256 .f32) (p : Fin 512) (q : Fin 256) :
    k0_pay1 u v w (ix2 p q) = (∑ r : Fin 2048, u (ix2 p r) * v (ix3 0 q r)) + w (ix2 p q) := by
  pointwise [k0_pay1]

variable (m : (ℓ : Loc nD τ sig) → Buf (Elt Ideal) ℓ) (c : Dev nD)

abbrev arg0 : Mat 512 2048 := m ((c.tc : Thread nD τ).loc main_arg0)
abbrev arg1 : Stack 1 1024 2048 := m ((c.tc : Thread nD τ).loc main_arg1)
abbrev arg2 : Mat 512 1024 := m ((c.tc : Thread nD τ).loc main_arg2)

theorem idx0 : ∀ t : Fin grid0.N, win0_0.index t = ![0, 0] := by decide +kernel
theorem idx1 : ∀ t : Fin grid0.N, win0_1.index t = ![0, t.val, 0] := by decide +kernel
theorem idx2 : ∀ t : Fin grid0.N, win0_2.index t = ![0, t.val] := by decide +kernel
theorem idx3 : ∀ t : Fin grid0.N, win0_3.index t = ![0, t.val] := by decide +kernel

theorem points (t : Fin cfg0.N) : t.val < 4 := by have := t.isLt; have : cfg0.N = 4 := N_0; omega

theorem blk0 (t : Fin cfg0.N) (r : Fin 2048) (p : Fin 512) :
    iblk m c 0 t (ix2 p r) = arg0 m c (ix2 p r) := by
  blk_ext [iblk, V, idx0 t]

theorem blk1 (t : Fin cfg0.N) (r : Fin 2048) (q : Fin 256) :
    iblk m c 1 t (ix3 0 q r) = sheet (arg1 m c) (ix2 ⟨t.val * 256 + q.val, by have := points t; omega⟩ r) := by
  show _ = arg1 m c (ix3 0 ⟨t.val * 256 + q.val, by have := points t; omega⟩ r)
  blk_ext [iblk, V, idx1 t]

theorem blk2 (t : Fin cfg0.N) (p : Fin 512) (q : Fin 256) :
    iblk m c 2 t (ix2 p q) = arg2 m c (ix2 p ⟨t.val * 256 + q.val, by have := points t; omega⟩) := by
  blk_ext [iblk, V, idx2 t]

theorem array3 : (dats m 0 c).arrAt 3 cfg0.N = plus (prodNT (arg0 m c) (sheet (arg1 m c))) (arg2 m c) := by
  refine (dats m 0 c).arrAt_eq_of_covers 3 _ (by decide +kernel) fun t hf y => ?_
  blk_simp
  rw [after0_3, show out0_3 (iblk m c 0 t) (iblk m c 1 t) (iblk m c 2 t) y = k0_pay1 (iblk m c 0 t) (iblk m c 1 t) (iblk m c 2 t) y by frame_out]
  idx_vars y
  rw [pay_apply, plus_at _ _ _ y0 ⟨t.val * 256 + y1.val, by have := points t; omega⟩ (by blk_simp [idx3 t]) (by blk_simp [idx3 t]), prodNT_at _ _ _ y0 ⟨t.val * 256 + y1.val, by have := points t; omega⟩ rfl rfl]
  show @Eq EReal _ _
  exact congrArg₂ (· + ·) (Finset.sum_congr rfl fun r _ => by rw [blk0, blk1]) (blk2 m c t _ _)

end Cert.Kernel16Ideal.Own

namespace Cert.Reference16Ideal.Own

open Cert.Reference16Ideal Cert.Reference16Ideal.Gen Cert.Reference16Ideal.Read Cert.Attn Cert.Prod

variable (x0 : Mat 512 2048) (x1 : Stack 1 1024 2048) (x2 : Mat 512 1024)

theorem v5_eq : val_main_v5 (F := Ideal) x0 x1 x2 = plus (prodNT x0 (sheet x1)) x2 := by
  funext i
  idx_vars i
  pointwise [val_main_v5, val_main_v4, val_main_v2, val_main_v1]
  rfl

end Cert.Reference16Ideal.Own

namespace Cert.Claim16

open Cert.Attn Cert.Prod

/-- The reference runs, keeps its arguments, and declares no semaphore. -/
theorem frame_reference : Cert.quiescent_Reference16Ideal (hReference16Ideal := Cert.Reference16Ideal.Gen.facts) :=
  fun m g _ => (θ_run _ _ _).mono
    (fun r h => ⟨fun c => (h c).2, Idealize.ShloMosaic.sem_eq_zero_of_no_sems (by decide) r.2⟩) (Cert.Reference16Ideal.Value.run m g)

/-- The call and its reference return the same arrays. -/
theorem algebraic : Cert.algebraic_Kernel16Ideal_Reference16Ideal
    (hKernel16Ideal := Cert.Kernel16Ideal.Gen.facts) (hReference16Ideal := Cert.Reference16Ideal.Gen.facts) := by
  intro m g m' g' hpre hag
  refine ⟨fun c => plus (prodNT (Cert.Kernel16Ideal.Own.arg0 m c) (sheet (Cert.Kernel16Ideal.Own.arg1 m c))) (Cert.Kernel16Ideal.Own.arg2 m c),
    (θ_run _ _ _).mono (fun r h c => ?_) (Cert.Kernel16Ideal.Value.run_blocks m g),
    (θ_run _ _ _).mono (fun r h c => ?_) (Cert.Reference16Ideal.Value.run m' g')⟩
  · exact ⟨(h c).1.trans (Cert.Kernel16Ideal.Own.array3 m c), (h c).2.1, (h c).2.2.1, (h c).2.2.2⟩
  · obtain ⟨e0, e1, e2⟩ := hag c
    refine ⟨(h c).1.trans ?_, (h c).2.1, (h c).2.2.1, (h c).2.2.2⟩
    · rw [e0, e1, e2]
      exact (Cert.Reference16Ideal.Read.val_main_v5_eq (F := Ideal) (Cert.Kernel16Ideal.Own.arg0 m c) (Cert.Kernel16Ideal.Own.arg1 m c) (Cert.Kernel16Ideal.Own.arg2 m c)).trans (Cert.Reference16Ideal.Own.v5_eq (Cert.Kernel16Ideal.Own.arg0 m c) (Cert.Kernel16Ideal.Own.arg1 m c) (Cert.Kernel16Ideal.Own.arg2 m c))

end Cert.Claim16

end
-- ==== Proof.Fwd.Up.lean ====
/-
  The up projection.
-/
module

public import proofs.«01_k».proof.Defs
public import proofs.«01_k».proof.Proof.Prod.Spec
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel17Ideal.Own

open Cert.Kernel17Ideal Cert.Kernel17Ideal.Gen Cert.Attn Cert.Prod

theorem pay_apply (u : Vec Ideal S4096x1024 .bf16) (v : Vec Ideal S1x1024x512 .bf16) (p : Fin 4096) (q : Fin 512) :
    k0_pay1 u v (ix2 p q) = (∑ r : Fin 1024, u (ix2 p r) * v (ix3 0 r q)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 1024 5632 := m ((c.tc : Thread nD τ).loc main_arg1)

theorem idx0 : ∀ t : Fin grid0.N, win0_0.index t = ![0, 0] := by decide +kernel
theorem idx1 : ∀ t : Fin grid0.N, win0_1.index t = ![0, 0, t.val] := by decide +kernel
theorem idx2 : ∀ t : Fin grid0.N, win0_2.index t = ![0, t.val] := by decide +kernel

theorem points (t : Fin cfg0.N) : t.val < 11 := by have := t.isLt; have : cfg0.N = 11 := N_0; omega

theorem blk0 (t : Fin cfg0.N) (r : Fin 1024) (p : Fin 4096) :
    iblk m c 0 t (ix2 p r) = arg0 m c (ix2 p r) := by
  blk_ext [iblk, V, idx0 t]

theorem blk1 (t : Fin cfg0.N) (r : Fin 1024) (q : Fin 512) :
    iblk m c 1 t (ix3 0 r q) = sheet (arg1 m c) (ix2 r ⟨t.val * 512 + q.val, by have := points t; omega⟩) := by
  show _ = arg1 m c (ix3 0 r ⟨t.val * 512 + q.val, by have := points t; omega⟩)
  blk_ext [iblk, V, idx1 t]

theorem array2 : (dats m 0 c).arrAt 2 cfg0.N = prodNN (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNN_at _ _ _ y0 ⟨t.val * 512 + y1.val, by have := points t; omega⟩ (by blk_simp [idx2 t]) (by blk_simp [idx2 t])]
  show @Eq EReal _ _
  exact Finset.sum_congr rfl fun r _ => by rw [blk0, blk1]

end Cert.Kernel17Ideal.Own

namespace Cert.Reference17Ideal.Own

open Cert.Reference17Ideal Cert.Reference17Ideal.Gen Cert.Reference17Ideal.Read Cert.Attn Cert.Prod

variable (x0 : Mat 4096 1024) (x1 : Stack 1 1024 5632)

theorem v3_eq : val_main_v3 (F := Ideal) x0 x1 = prodNN x0 (sheet x1) := by
  funext i
  idx_vars i
  pointwise [val_main_v3, val_main_v2, val_main_v1, val_main_v0]
  rfl

end Cert.Reference17Ideal.Own

namespace Cert.Claim17

open Cert.Attn Cert.Prod

/-- The reference runs, keeps its arguments, and declares no semaphore. -/
theorem frame_reference : Cert.quiescent_Reference17Ideal (hReference17Ideal := Cert.Reference17Ideal.Gen.facts) :=
  fun m g _ => (θ_run _ _ _).mono
    (fun r h => ⟨fun c => (h c).2, Idealize.ShloMosaic.sem_eq_zero_of_no_sems (by decide) r.2⟩) (Cert.Reference17Ideal.Value.run m g)

/-- The call and its reference return the same arrays. -/
theorem algebraic : Cert.algebraic_Kernel17Ideal_Reference17Ideal
    (hKernel17Ideal := Cert.Kernel17Ideal.Gen.facts) (hReference17Ideal := Cert.Reference17Ideal.Gen.facts) := by
  intro m g m' g' hpre hag
  refine ⟨fun c => prodNN (Cert.Kernel17Ideal.Own.arg0 m c) (sheet (Cert.Kernel17Ideal.Own.arg1 m c)),
    (θ_run _ _ _).mono (fun r h c => ?_) (Cert.Kernel17Ideal.Value.run_blocks m g),
    (θ_run _ _ _).mono (fun r h c => ?_) (Cert.Reference17Ideal.Value.run m' g')⟩
  · exact ⟨(h c).1.trans (Cert.Kernel17Ideal.Own.array2 m c), (h c).2.1, (h c).2.2⟩
  · obtain ⟨e0, e1⟩ := hag c
    refine ⟨(h c).1.trans ?_, (h c).2.1, (h c).2.2⟩
    · rw [e0, e1]
      exact (Cert.Reference17Ideal.Read.val_main_v3_eq (F := Ideal) (Cert.Kernel17Ideal.Own.arg0 m c) (Cert.Kernel17Ideal.Own.arg1 m c)).trans (Cert.Reference17Ideal.Own.v3_eq (Cert.Kernel17Ideal.Own.arg0 m c) (Cert.Kernel17Ideal.Own.arg1 m c))

end Cert.Claim17

end
-- ==== Proof.Fwd.Query.lean ====
/-
  The query projection.
-/
module

public import proofs.«01_k».proof.Defs
public import proofs.«01_k».proof.Proof.Prod.Spec
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel18Ideal.Own

open Cert.Kernel18Ideal Cert.Kernel18Ideal.Gen Cert.Attn Cert.Prod

theorem pay_apply (u : Vec Ideal S2048x1024 .bf16) (v : Vec Ideal S1x1024x512 .bf16) (p : Fin 2048) (q : Fin 512) :
    k0_pay1 u v (ix2 p q) = (∑ r : Fin 1024, u (ix2 p r) * v (ix3 0 r q)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 1024 1024 := m ((c.tc : Thread nD τ).loc main_arg1)

theorem idx0 : ∀ t : Fin grid0.N, win0_0.index t = ![(t.val / 2), 0] := by decide +kernel
theorem idx1 : ∀ t : Fin grid0.N, win0_1.index t = ![0, 0, (t.val % 2)] := by decide +kernel
theorem idx2 : ∀ t : Fin grid0.N, win0_2.index t = ![(t.val / 2), (t.val % 2)] := by decide +kernel

theorem points (t : Fin cfg0.N) : t.val < 4 := by have := t.isLt; have : cfg0.N = 4 := N_0; omega

theorem blk0 (t : Fin cfg0.N) (r : Fin 1024) (p : Fin 2048) :
    iblk m c 0 t (ix2 p r) = arg0 m c (ix2 ⟨(t.val / 2) * 2048 + p.val, by have := points t; omega⟩ r) := by
  blk_ext [iblk, V, idx0 t]

theorem blk1 (t : Fin cfg0.N) (r : Fin 1024) (q : Fin 512) :
    iblk m c 1 t (ix3 0 r q) = sheet (arg1 m c) (ix2 r ⟨(t.val % 2) * 512 + q.val, by have := points t; omega⟩) := by
  show _ = arg1 m c (ix3 0 r ⟨(t.val % 2) * 512 + q.val, by have := points t; omega⟩)
  blk_ext [iblk, V, idx1 t]

theorem array2 : (dats m 0 c).arrAt 2 cfg0.N = prodNN (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNN_at _ _ _ ⟨(t.val / 2) * 2048 + y0.val, by have := points t; omega⟩ ⟨(t.val % 2) * 512 + y1.val, by have := points t; omega⟩ (by blk_simp [idx2 t]) (by blk_simp [idx2 t])]
  show @Eq EReal _ _
  exact Finset.sum_congr rfl fun r _ => by rw [blk0, blk1]

end Cert.Kernel18Ideal.Own

namespace Cert.Reference18Ideal.Own

open Cert.Reference18Ideal Cert.Reference18Ideal.Gen Cert.Reference18Ideal.Read Cert.Attn Cert.Prod

variable (x0 : Mat 4096 1024) (x1 : Stack 1 1024 1024)

theorem v4_eq : val_main_v4 (F := Ideal) x0 x1 = prodNN x0 (sheet x1) := by
  funext i
  idx_vars i
  pointwise [val_main_v4, val_main_v3, val_main_v2, val_main_v1, val_main_v0]
  rfl

end Cert.Reference18Ideal.Own

namespace Cert.Claim18

open Cert.Attn Cert.Prod

/-- The reference runs, keeps its arguments, and declares no semaphore. -/
theorem frame_reference : Cert.quiescent_Reference18Ideal (hReference18Ideal := Cert.Reference18Ideal.Gen.facts) :=
  fun m g _ => (θ_run _ _ _).mono
    (fun r h => ⟨fun c => (h c).2, Idealize.ShloMosaic.sem_eq_zero_of_no_sems (by decide) r.2⟩) (Cert.Reference18Ideal.Value.run m g)

/-- The call and its reference return the same arrays. -/
theorem algebraic : Cert.algebraic_Kernel18Ideal_Reference18Ideal
    (hKernel18Ideal := Cert.Kernel18Ideal.Gen.facts) (hReference18Ideal := Cert.Reference18Ideal.Gen.facts) := by
  intro m g m' g' hpre hag
  refine ⟨fun c => prodNN (Cert.Kernel18Ideal.Own.arg0 m c) (sheet (Cert.Kernel18Ideal.Own.arg1 m c)),
    (θ_run _ _ _).mono (fun r h c => ?_) (Cert.Kernel18Ideal.Value.run_blocks m g),
    (θ_run _ _ _).mono (fun r h c => ?_) (Cert.Reference18Ideal.Value.run m' g')⟩
  · exact ⟨(h c).1.trans (Cert.Kernel18Ideal.Own.array2 m c), (h c).2.1, (h c).2.2⟩
  · obtain ⟨e0, e1⟩ := hag c
    refine ⟨(h c).1.trans ?_, (h c).2.1, (h c).2.2⟩
    · rw [e0, e1]
      exact (Cert.Reference18Ideal.Read.val_main_v4_eq (F := Ideal) (Cert.Kernel18Ideal.Own.arg0 m c) (Cert.Kernel18Ideal.Own.arg1 m c)).trans (Cert.Reference18Ideal.Own.v4_eq (Cert.Kernel18Ideal.Own.arg0 m c) (Cert.Kernel18Ideal.Own.arg1 m c))

end Cert.Claim18

end
-- ==== Proof.Fwd.KeyValue.lean ====
/-
  The memory's key and value projection.
-/
module

public import proofs.«01_k».proof.Defs
public import proofs.«01_k».proof.Proof.Prod.Spec
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel19Ideal.Own

open Cert.Kernel19Ideal Cert.Kernel19Ideal.Gen Cert.Attn Cert.Prod

theorem pay_apply (u : Vec Ideal S512x1024 .bf16) (v : Vec Ideal S1x1024x1024 .bf16) (p : Fin 512) (q : Fin 1024) :
    k0_pay1 u v (ix2 p q) = (∑ r : Fin 1024, u (ix2 p r) * v (ix3 0 r q)) := by
  pointwise [k0_pay1]

variable (m : (ℓ : Loc nD τ sig) → Buf (Elt Ideal) ℓ) (c : Dev nD)

abbrev arg0 : Mat 512 1024 := m ((c.tc : Thread nD τ).loc main_arg0)
abbrev arg1 : Stack 1 1024 2048 := m ((c.tc : Thread nD τ).loc main_arg1)

theorem idx0 : ∀ t : Fin grid0.N, win0_0.index t = ![0, 0] := by decide +kernel
theorem idx1 : ∀ t : Fin grid0.N, win0_1.index t = ![0, 0, t.val] := by decide +kernel
theorem idx2 : ∀ t : Fin grid0.N, win0_2.index t = ![0, t.val] := by decide +kernel

theorem points (t : Fin cfg0.N) : t.val < 2 := by have := t.isLt; have : cfg0.N = 2 := N_0; omega

theorem blk0 (t : Fin cfg0.N) (r : Fin 1024) (p : Fin 512) :
    iblk m c 0 t (ix2 p r) = arg0 m c (ix2 p r) := by
  blk_ext [iblk, V, idx0 t]

theorem blk1 (t : Fin cfg0.N) (r : Fin 1024) (q : Fin 1024) :
    iblk m c 1 t (ix3 0 r q) = sheet (arg1 m c) (ix2 r ⟨t.val * 1024 + q.val, by have := points t; omega⟩) := by
  show _ = arg1 m c (ix3 0 r ⟨t.val * 1024 + q.val, by have := points t; omega⟩)
  blk_ext [iblk, V, idx1 t]

theorem array2 : (dats m 0 c).arrAt 2 cfg0.N = prodNN (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNN_at _ _ _ y0 ⟨t.val * 1024 + y1.val, by have := points t; omega⟩ (by blk_simp [idx2 t]) (by blk_simp [idx2 t])]
  show @Eq EReal _ _
  exact Finset.sum_congr rfl fun r _ => by rw [blk0, blk1]

end Cert.Kernel19Ideal.Own

namespace Cert.Reference19Ideal.Own

open Cert.Reference19Ideal Cert.Reference19Ideal.Gen Cert.Reference19Ideal.Read Cert.Attn Cert.Prod

variable (x0 : Mat 512 1024) (x1 : Stack 1 1024 2048)

theorem v4_eq : val_main_v4 (F := Ideal) x0 x1 = prodNN x0 (sheet x1) := by
  funext i
  idx_vars i
  pointwise [val_main_v4, val_main_v3, val_main_v2, val_main_v1, val_main_v0]
  rfl

end Cert.Reference19Ideal.Own

namespace Cert.Claim19

open Cert.Attn Cert.Prod

/-- The reference runs, keeps its arguments, and declares no semaphore. -/
theorem frame_reference : Cert.quiescent_Reference19Ideal (hReference19Ideal := Cert.Reference19Ideal.Gen.facts) :=
  fun m g _ => (θ_run _ _ _).mono
    (fun r h => ⟨fun c => (h c).2, Idealize.ShloMosaic.sem_eq_zero_of_no_sems (by decide) r.2⟩) (Cert.Reference19Ideal.Value.run m g)

/-- The call and its reference return the same arrays. -/
theorem algebraic : Cert.algebraic_Kernel19Ideal_Reference19Ideal
    (hKernel19Ideal := Cert.Kernel19Ideal.Gen.facts) (hReference19Ideal := Cert.Reference19Ideal.Gen.facts) := by
  intro m g m' g' hpre hag
  refine ⟨fun c => prodNN (Cert.Kernel19Ideal.Own.arg0 m c) (sheet (Cert.Kernel19Ideal.Own.arg1 m c)),
    (θ_run _ _ _).mono (fun r h c => ?_) (Cert.Kernel19Ideal.Value.run_blocks m g),
    (θ_run _ _ _).mono (fun r h c => ?_) (Cert.Reference19Ideal.Value.run m' g')⟩
  · exact ⟨(h c).1.trans (Cert.Kernel19Ideal.Own.array2 m c), (h c).2.1, (h c).2.2⟩
  · obtain ⟨e0, e1⟩ := hag c
    refine ⟨(h c).1.trans ?_, (h c).2.1, (h c).2.2⟩
    · rw [e0, e1]
      exact (Cert.Reference19Ideal.Read.val_main_v4_eq (F := Ideal) (Cert.Kernel19Ideal.Own.arg0 m c) (Cert.Kernel19Ideal.Own.arg1 m c)).trans (Cert.Reference19Ideal.Own.v4_eq (Cert.Kernel19Ideal.Own.arg0 m c) (Cert.Kernel19Ideal.Own.arg1 m c))

end Cert.Claim19

end
-- ==== Proof.Fwd.Out.lean ====
/-
  A square projection added to the residual, and its norm.
-/
module

public import proofs.«01_k».proof.Defs
public import proofs.«01_k».proof.Proof.Prod.Spec
public import proofs.«01_k».proof.Proof.Norm.Row
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel20Ideal.Own

open Cert.Kernel20Ideal Cert.Kernel20Ideal.Gen Cert.Attn Cert.Prod Cert.Norm

section Payloads

variable (u0 : Vec Ideal S1024x1024 .f32) (u1 : Vec Ideal S1024x1024 .bf16) (u2 : Vec Ideal S1x1024x1024 .bf16) (u3 : Vec Ideal S1x1024 .f32)

def rows (p q : Fin 1024) : EReal := u0 (ix2 p q) + ∑ r : Fin 1024, u1 (ix2 p r) * u2 (ix3 0 r q)

theorem rows_apply (p q : Fin 1024) : k0_pay1 u0 u1 u2 (ix2 p q) = rows u0 u1 u2 p q := by
  pointwise [k0_pay1]
  rfl

theorem normed_apply (p q : Fin 1024) : k0_pay2 u0 u1 u2 u3 (ix2 p q)
    = rows u0 u1 u2 p q * inv (rows u0 u1 u2 p) * u3 (ix2 0 q) := by
  pointwise [k0_pay2, rows_apply]
  rfl

end Payloads

variable (m : (ℓ : Loc nD τ sig) → Buf (Elt Ideal) ℓ) (c : Dev nD)

abbrev arg0 : Mat 4096 1024 := m ((c.tc : Thread nD τ).loc main_arg0)
abbrev arg1 : Stack 1 1024 1024 := m ((c.tc : Thread nD τ).loc main_arg1)
abbrev arg2 : Mat 4096 1024 := m ((c.tc : Thread nD τ).loc main_arg2)
abbrev arg3 : (⟨1, ![1024]⟩ : Shape).Idx → EReal := m ((c.tc : Thread nD τ).loc main_arg3)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

theorem points (t : Fin cfg0.N) : t.val < 4 := by have := t.isLt; have : cfg0.N = 4 := N_0; omega

/-- The row of the whole matrix that a tile's row is. -/
abbrev at' (t : Fin cfg0.N) (p : Fin 1024) : Fin 4096 := ⟨t.val * 1024 + p.val, by have := points t; omega⟩

theorem blk0 (t : Fin cfg0.N) (p : Fin 1024) (r : Fin 1024) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem blk1 (t : Fin cfg0.N) (q : Fin 1024) (r : Fin 1024) : iblk m c 1 t (ix3 0 q r) = arg1 m c (ix3 0 q r) := by
  have e : iblk m c 1 t (ix3 0 q r) = V m c main_arg1 (ix3 0 q r) := by blk_ext [iblk, idx1 t]
  exact e.trans (congrFun (V_main_arg1 m c) _)
theorem blk2 (t : Fin cfg0.N) (p : Fin 1024) (r : Fin 1024) : iblk m c 2 t (ix2 p r) = arg2 m c (ix2 (at' t p) r) := by
  have e : iblk m c 2 t (ix2 p r) = V m c main_arg2 (ix2 (at' t p) r) := by blk_ext [iblk, idx2 t]
  exact e.trans (congrFun (V_main_arg2 m c) _)
theorem host3 (q : Fin 1024) : V m c main_v0 (ix2 0 q) = arg3 m c (ix1 q) := by
  unfold_abbrev_sides
  after_results
  pointwise []
theorem blk3 (t : Fin cfg0.N) (q : Fin 1024) : iblk m c 3 t (ix2 0 q) = arg3 m c (ix1 q) := by
  have e : iblk m c 3 t (ix2 0 q) = V m c main_v0 (ix2 0 q) := by blk_ext [iblk, idx3 t]
  exact e.trans (host3 m c q)

abbrev sumAll : Mat 4096 1024 := plus (arg2 m c) (prodNN (arg0 m c) (sheet (arg1 m c)))

theorem rows_blk (t : Fin cfg0.N) (p q : Fin 1024) :
    rows (iblk m c 2 t) (iblk m c 0 t) (iblk m c 1 t) p q = sumAll m c (ix2 (at' t p) q) := by
  show _ + _ = arg2 m c _ + _
  exact congrArg₂ (· + ·) (blk2 m c t p q) (Finset.sum_congr rfl fun r _ => by rw [blk0, blk1]; rfl)

theorem array4 : (dats m 0 c).arrAt 4 cfg0.N = sumAll m c := by
  refine (dats m 0 c).arrAt_eq_of_covers 4 _ (by decide +kernel) fun t hf y => ?_
  blk_simp
  rw [after0_4, show out0_4 (iblk m c 0 t) (iblk m c 1 t) (iblk m c 2 t) (iblk m c 3 t) y = k0_pay1 (iblk m c 2 t) (iblk m c 0 t) (iblk m c 1 t) y by frame_out]
  idx_vars y
  rw [rows_apply, rows_blk]
  exact (plus_at _ _ _ (at' t y0) y1 (by blk_simp [idx4 t]) (by blk_simp [idx4 t])).symm

theorem array5 : (dats m 0 c).arrAt 5 cfg0.N = normed (sumAll m c) (fun j => arg3 m c (ix1 j)) := by
  refine (dats m 0 c).arrAt_eq_of_covers 5 _ (by decide +kernel) fun t hf y => ?_
  blk_simp
  rw [after0_5, show out0_5 (iblk m c 0 t) (iblk m c 1 t) (iblk m c 2 t) (iblk m c 3 t) y
    = k0_pay2 (iblk m c 2 t) (iblk m c 0 t) (iblk m c 1 t) (iblk m c 3 t) y by frame_out <;> rfl]
  idx_vars y
  have e : rows (iblk m c 2 t) (iblk m c 0 t) (iblk m c 1 t) y0 = row (sumAll m c) (at' t y0) := funext fun j => rows_blk m c t y0 j
  rw [normed_apply, normed_at _ _ _ (at' t y0) y1 (by blk_simp [idx5 t]) (by blk_simp [idx5 t]), e, blk3]
  rfl

end Cert.Kernel20Ideal.Own

namespace Cert.Reference20Ideal.Own

open Cert.Reference20Ideal Cert.Reference20Ideal.Gen Cert.Reference20Ideal.Read Cert.Attn Cert.Prod Cert.Norm

variable (x0 : Mat 4096 1024) (x1 : Stack 1 1024 1024) (x2 : Mat 4096 1024) (x3 : (⟨1, ![1024]⟩ : Shape).Idx → EReal)

theorem v4_eq : val_main_v4 (F := Ideal) x0 x1 x2 = plus x2 (prodNN x0 (sheet x1)) := by
  funext i
  idx_vars i
  pointwise [val_main_v4, val_main_v3, val_main_v2, val_main_v1, val_main_v0]
  rfl

theorem v18_eq : val_main_v18 (F := Ideal) x0 x1 x2 x3 = normed (plus x2 (prodNN x0 (sheet x1))) (fun j => x3 (ix1 j)) := by
  funext i
  idx_vars i
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1, v4_eq]
  rfl

end Cert.Reference20Ideal.Own

namespace Cert.Claim20

open Cert.Attn Cert.Prod Cert.Norm

/-- The reference runs, keeps its arguments, and declares no semaphore. -/
theorem frame_reference : Cert.quiescent_Reference20Ideal (hReference20Ideal := Cert.Reference20Ideal.Gen.facts) :=
  fun m g _ => (θ_run _ _ _).mono
    (fun r h => ⟨fun c => (h c).2.2, Idealize.ShloMosaic.sem_eq_zero_of_no_sems (by decide) r.2⟩) (Cert.Reference20Ideal.Value.run m g)

/-- The call and its reference return the same arrays. -/
theorem algebraic : Cert.algebraic_Kernel20Ideal_Reference20Ideal
    (hKernel20Ideal := Cert.Kernel20Ideal.Gen.facts) (hReference20Ideal := Cert.Reference20Ideal.Gen.facts) := by
  intro m g m' g' hpre hag
  refine ⟨fun c => plus (Cert.Kernel20Ideal.Own.arg2 m c) (prodNN (Cert.Kernel20Ideal.Own.arg0 m c) (sheet (Cert.Kernel20Ideal.Own.arg1 m c))),
    fun c => normed (plus (Cert.Kernel20Ideal.Own.arg2 m c) (prodNN (Cert.Kernel20Ideal.Own.arg0 m c) (sheet (Cert.Kernel20Ideal.Own.arg1 m c)))) (fun j => (Cert.Kernel20Ideal.Own.arg3 m c) (ix1 j)),
    (θ_run _ _ _).mono (fun r h c => ?_) (Cert.Kernel20Ideal.Value.run_blocks m g),
    (θ_run _ _ _).mono (fun r h c => ?_) (Cert.Reference20Ideal.Value.run m' g')⟩
  · exact ⟨(h c).1.trans (Cert.Kernel20Ideal.Own.array4 m c), (h c).2.1.trans (Cert.Kernel20Ideal.Own.array5 m c), (h c).2.2.1, (h c).2.2.2.1, (h c).2.2.2.2.1, (h c).2.2.2.2.2⟩
  · obtain ⟨e0, e1, e2, e3⟩ := hag c
    refine ⟨(h c).1.trans ?_, (h c).2.1.trans ?_, (h c).2.2.1, (h c).2.2.2.1, (h c).2.2.2.2.1, (h c).2.2.2.2.2⟩
    · rw [e0, e1, e2]
      exact (Cert.Reference20Ideal.Read.val_main_v4_eq (F := Ideal) (Cert.Kernel20Ideal.Own.arg0 m c) (Cert.Kernel20Ideal.Own.arg1 m c) (Cert.Kernel20Ideal.Own.arg2 m c)).trans (Cert.Reference20Ideal.Own.v4_eq (Cert.Kernel20Ideal.Own.arg0 m c) (Cert.Kernel20Ideal.Own.arg1 m c) (Cert.Kernel20Ideal.Own.arg2 m c))
    · rw [e0, e1, e2, e3]
      exact (Cert.Reference20Ideal.Read.val_main_v18_eq (F := Ideal) (Cert.Kernel20Ideal.Own.arg0 m c) (Cert.Kernel20Ideal.Own.arg1 m c) (Cert.Kernel20Ideal.Own.arg2 m c) (Cert.Kernel20Ideal.Own.arg3 m c)).trans (Cert.Reference20Ideal.Own.v18_eq (Cert.Kernel20Ideal.Own.arg0 m c) (Cert.Kernel20Ideal.Own.arg1 m c) (Cert.Kernel20Ideal.Own.arg2 m c) (Cert.Kernel20Ideal.Own.arg3 m c))

end Cert.Claim20

end
-- ==== Proof.Fwd.Down.lean ====
/-
  The down projection, added to the residual.
-/
module

public import proofs.«01_k».proof.Defs
public import proofs.«01_k».proof.Proof.Prod.Spec
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel21Ideal.Own

open Cert.Kernel21Ideal Cert.Kernel21Ideal.Gen Cert.Attn Cert.Prod

theorem pay_apply (u : Vec Ideal S2048x2816 .bf16) (v : Vec Ideal S1x2816x256 .bf16) (w : Vec Ideal S2048x256 .f32) (p : Fin 2048) (q : Fin 256) :
    k0_pay1 u v w (ix2 p q) = (∑ r : Fin 2816, u (ix2 p r) * v (ix3 0 r q)) + w (ix2 p q) := by
  pointwise [k0_pay1]

variable (m : (ℓ : Loc nD τ sig) → Buf (Elt Ideal) ℓ) (c : Dev nD)

abbrev arg0 : Mat 4096 2816 := m ((c.tc : Thread nD τ).loc main_arg0)
abbrev arg1 : Stack 1 2816 1024 := m ((c.tc : Thread nD τ).loc main_arg1)
abbrev arg2 : Mat 4096 1024 := m ((c.tc : Thread nD τ).loc main_arg2)

theorem idx0 : ∀ t : Fin grid0.N, win0_0.index t = ![(t.val / 4), 0] := by decide +kernel
theorem idx1 : ∀ t : Fin grid0.N, win0_1.index t = ![0, 0, (t.val % 4)] := by decide +kernel
theorem idx2 : ∀ t : Fin grid0.N, win0_2.index t = ![(t.val / 4), (t.val % 4)] := by decide +kernel
theorem idx3 : ∀ t : Fin grid0.N, win0_3.index t = ![(t.val / 4), (t.val % 4)] := by decide +kernel

theorem points (t : Fin cfg0.N) : t.val < 8 := by have := t.isLt; have : cfg0.N = 8 := N_0; omega

theorem blk0 (t : Fin cfg0.N) (r : Fin 2816) (p : Fin 2048) :
    iblk m c 0 t (ix2 p r) = arg0 m c (ix2 ⟨(t.val / 4) * 2048 + p.val, by have := points t; omega⟩ r) := by
  blk_ext [iblk, V, idx0 t]

theorem blk1 (t : Fin cfg0.N) (r : Fin 2816) (q : Fin 256) :
    iblk m c 1 t (ix3 0 r q) = sheet (arg1 m c) (ix2 r ⟨(t.val % 4) * 256 + q.val, by have := points t; omega⟩) := by
  show _ = arg1 m c (ix3 0 r ⟨(t.val % 4) * 256 + q.val, by have := points t; omega⟩)
  blk_ext [iblk, V, idx1 t]

theorem blk2 (t : Fin cfg0.N) (p : Fin 2048) (q : Fin 256) :
    iblk m c 2 t (ix2 p q) = arg2 m c (ix2 ⟨(t.val / 4) * 2048 + p.val, by have := points t; omega⟩ ⟨(t.val % 4) * 256 + q.val, by have := points t; omega⟩) := by
  blk_ext [iblk, V, idx2 t]

theorem array3 : (dats m 0 c).arrAt 3 cfg0.N = plus (prodNN (arg0 m c) (sheet (arg1 m c))) (arg2 m c) := by
  refine (dats m 0 c).arrAt_eq_of_covers 3 _ (by decide +kernel) fun t hf y => ?_
  blk_simp
  rw [after0_3, show out0_3 (iblk m c 0 t) (iblk m c 1 t) (iblk m c 2 t) y = k0_pay1 (iblk m c 0 t) (iblk m c 1 t) (iblk m c 2 t) y by frame_out]
  idx_vars y
  rw [pay_apply, plus_at _ _ _ ⟨(t.val / 4) * 2048 + y0.val, by have := points t; omega⟩ ⟨(t.val % 4) * 256 + y1.val, by have := points t; omega⟩ (by blk_simp [idx3 t]) (by blk_simp [idx3 t]), prodNN_at _ _ _ ⟨(t.val / 4) * 2048 + y0.val, by have := points t; omega⟩ ⟨(t.val % 4) * 256 + y1.val, by have := points t; omega⟩ rfl rfl]
  show @Eq EReal _ _
  exact congrArg₂ (· + ·) (Finset.sum_congr rfl fun r _ => by rw [blk0, blk1]) (blk2 m c t _ _)

end Cert.Kernel21Ideal.Own

namespace Cert.Reference21Ideal.Own

open Cert.Reference21Ideal Cert.Reference21Ideal.Gen Cert.Reference21Ideal.Read Cert.Attn Cert.Prod

variable (x0 : Mat 4096 2816) (x1 : Stack 1 2816 1024) (x2 : Mat 4096 1024)

theorem v4_eq : val_main_v4 (F := Ideal) x0 x1 x2 = plus (prodNN x0 (sheet x1)) x2 := by
  funext i
  idx_vars i
  pointwise [val_main_v4, val_main_v3, val_main_v2, val_main_v1, val_main_v0]
  exact add_comm _ _

end Cert.Reference21Ideal.Own

namespace Cert.Claim21

open Cert.Attn Cert.Prod

/-- The reference runs, keeps its arguments, and declares no semaphore. -/
theorem frame_reference : Cert.quiescent_Reference21Ideal (hReference21Ideal := Cert.Reference21Ideal.Gen.facts) :=
  fun m g _ => (θ_run _ _ _).mono
    (fun r h => ⟨fun c => (h c).2, Idealize.ShloMosaic.sem_eq_zero_of_no_sems (by decide) r.2⟩) (Cert.Reference21Ideal.Value.run m g)

/-- The call and its reference return the same arrays. -/
theorem algebraic : Cert.algebraic_Kernel21Ideal_Reference21Ideal
    (hKernel21Ideal := Cert.Kernel21Ideal.Gen.facts) (hReference21Ideal := Cert.Reference21Ideal.Gen.facts) := by
  intro m g m' g' hpre hag
  refine ⟨fun c => plus (prodNN (Cert.Kernel21Ideal.Own.arg0 m c) (sheet (Cert.Kernel21Ideal.Own.arg1 m c))) (Cert.Kernel21Ideal.Own.arg2 m c),
    (θ_run _ _ _).mono (fun r h c => ?_) (Cert.Kernel21Ideal.Value.run_blocks m g),
    (θ_run _ _ _).mono (fun r h c => ?_) (Cert.Reference21Ideal.Value.run m' g')⟩
  · exact ⟨(h c).1.trans (Cert.Kernel21Ideal.Own.array3 m c), (h c).2.1, (h c).2.2.1, (h c).2.2.2⟩
  · obtain ⟨e0, e1, e2⟩ := hag c
    refine ⟨(h c).1.trans ?_, (h c).2.1, (h c).2.2.1, (h c).2.2.2⟩
    · rw [e0, e1, e2]
      exact (Cert.Reference21Ideal.Read.val_main_v4_eq (F := Ideal) (Cert.Kernel21Ideal.Own.arg0 m c) (Cert.Kernel21Ideal.Own.arg1 m c) (Cert.Kernel21Ideal.Own.arg2 m c)).trans (Cert.Reference21Ideal.Own.v4_eq (Cert.Kernel21Ideal.Own.arg0 m c) (Cert.Kernel21Ideal.Own.arg1 m c) (Cert.Kernel21Ideal.Own.arg2 m c))

end Cert.Claim21

end
-- ==== Proof.Fwd.ConvOut.lean ====
/-
  Layer normalisation, the gate and the output projection of the convolution branch.
-/
module

public import proofs.«01_k».proof.Defs
public import proofs.«01_k».proof.Proof.Prod.Spec
public import proofs.«01_k».proof.Proof.Norm.Layer
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel22Ideal.Own

open Cert.Kernel22Ideal Cert.Kernel22Ideal.Gen Cert.Attn Cert.Prod Cert.Norm

section Payloads

variable (u0 : Vec Ideal S1024x512 .f32) (u1 u2 : Vec Ideal S1x512 .f32) (u3 : Vec Ideal S1x512x1024 .bf16)

theorem gated_apply (p : Fin 1024) (q : Fin 512) : k0_pay1 u0 u1 u2 (ix2 p q)
    = silu (lnorm (fun j => u0 (ix2 p j)) (fun j => u1 (ix2 0 j)) (fun j => u2 (ix2 0 j)) q) := by
  pointwise [k0_pay1]
  rfl

theorem prod_apply (p q : Fin 1024) : k0_pay2 u0 u1 u2 u3 (ix2 p q)
    = ∑ r : Fin 512, silu (lnorm (fun j => u0 (ix2 p j)) (fun j => u1 (ix2 0 j)) (fun j => u2 (ix2 0 j)) r) * u3 (ix3 0 r q) := by
  pointwise [k0_pay2, gated_apply]

end Payloads

variable (m : (ℓ : Loc nD τ sig) → Buf (Elt Ideal) ℓ) (c : Dev nD)

abbrev arg0 : Mat 4096 512 := m ((c.tc : Thread nD τ).loc main_arg0)
abbrev arg1 : (⟨1, ![512]⟩ : Shape).Idx → EReal := m ((c.tc : Thread nD τ).loc main_arg1)
abbrev arg2 : (⟨1, ![512]⟩ : Shape).Idx → EReal := m ((c.tc : Thread nD τ).loc main_arg2)
abbrev arg3 : Stack 1 512 1024 := m ((c.tc : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0, 0] := by decide +kernel
theorem idx4 : ∀ t : Fin grid0.N, win0_4.index t = ![t.val, 0] := by decide +kernel
theorem idx5 : ∀ t : Fin grid0.N, win0_5.index t = ![t.val, 0] := by decide +kernel

theorem points (t : Fin cfg0.N) : t.val < 4 := by have := t.isLt; have : cfg0.N = 4 := N_0; omega

/-- The row of the whole matrix that a tile's row is. -/
abbrev at' (t : Fin cfg0.N) (p : Fin 1024) : Fin 4096 := ⟨t.val * 1024 + p.val, by have := points t; omega⟩

theorem blk0 (t : Fin cfg0.N) (p : Fin 1024) (r : Fin 512) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem host1 (q : Fin 512) : V m c main_v0 (ix2 0 q) = arg1 m c (ix1 q) := by
  unfold_abbrev_sides
  after_results
  pointwise []
theorem blk1 (t : Fin cfg0.N) (q : Fin 512) : iblk m c 1 t (ix2 0 q) = arg1 m c (ix1 q) := by
  have e : iblk m c 1 t (ix2 0 q) = V m c main_v0 (ix2 0 q) := by blk_ext [iblk, idx1 t]
  exact e.trans (host1 m c q)
theorem host2 (q : Fin 512) : V m c main_v1 (ix2 0 q) = arg2 m c (ix1 q) := by
  unfold_abbrev_sides
  after_results
  pointwise []
theorem blk2 (t : Fin cfg0.N) (q : Fin 512) : iblk m c 2 t (ix2 0 q) = arg2 m c (ix1 q) := by
  have e : iblk m c 2 t (ix2 0 q) = V m c main_v1 (ix2 0 q) := by blk_ext [iblk, idx2 t]
  exact e.trans (host2 m c q)
theorem blk3 (t : Fin cfg0.N) (q : Fin 512) (r : Fin 1024) : iblk m c 3 t (ix3 0 q r) = arg3 m c (ix3 0 q r) := by
  have e : iblk m c 3 t (ix3 0 q r) = V m c main_arg3 (ix3 0 q r) := by blk_ext [iblk, idx3 t]
  exact e.trans (congrFun (V_main_arg3 m c) _)

abbrev gain : Fin 512 → EReal := fun j => arg1 m c (ix1 j)
abbrev bias : Fin 512 → EReal := fun j => arg2 m c (ix1 j)

theorem gated_blk (t : Fin cfg0.N) (p : Fin 1024) (q : Fin 512) :
    silu (lnorm (fun j => iblk m c 0 t (ix2 p j)) (fun j => iblk m c 1 t (ix2 0 j)) (fun j => iblk m c 2 t (ix2 0 j)) q)
      = gated (arg0 m c) (gain m c) (bias m c) (ix2 (at' t p) q) := by
  have e0 : (fun j => iblk m c 0 t (ix2 p j)) = row (arg0 m c) (at' t p) := funext fun j => blk0 m c t p j
  have e1 : (fun j => iblk m c 1 t (ix2 0 j)) = gain m c := funext fun j => blk1 m c t j
  have e2 : (fun j => iblk m c 2 t (ix2 0 j)) = bias m c := funext fun j => blk2 m c t j
  rw [e0, e1, e2]
  rfl

theorem array4 : (dats m 0 c).arrAt 4 cfg0.N = gated (arg0 m c) (gain m c) (bias m c) := by
  refine (dats m 0 c).arrAt_eq_of_covers 4 _ (by decide +kernel) fun t hf y => ?_
  blk_simp
  rw [after0_4, show out0_4 (iblk m c 0 t) (iblk m c 1 t) (iblk m c 2 t) (iblk m c 3 t) y = k0_pay1 (iblk m c 0 t) (iblk m c 1 t) (iblk m c 2 t) y by frame_out <;> rfl]
  idx_vars y
  rw [gated_apply, gated_blk]
  exact congrArg _ (eq_ix2 _ (at' t y0) y1 (by blk_simp [idx4 t]) (by blk_simp [idx4 t])).symm

theorem array5 : (dats m 0 c).arrAt 5 cfg0.N = prodNN (gated (arg0 m c) (gain m c) (bias m c)) (sheet (arg3 m c)) := by
  refine (dats m 0 c).arrAt_eq_of_covers 5 _ (by decide +kernel) fun t hf y => ?_
  blk_simp
  rw [after0_5, show out0_5 (iblk m c 0 t) (iblk m c 1 t) (iblk m c 2 t) (iblk m c 3 t) y
    = k0_pay2 (iblk m c 0 t) (iblk m c 1 t) (iblk m c 2 t) (iblk m c 3 t) y by frame_out <;> rfl]
  idx_vars y
  rw [prod_apply, prodNN_at _ _ _ (at' t y0) y1 (by blk_simp [idx5 t]) (by blk_simp [idx5 t])]
  show @Eq EReal _ _
  exact Finset.sum_congr rfl fun r _ => by rw [gated_blk, blk3]; rfl

end Cert.Kernel22Ideal.Own

namespace Cert.Reference22Ideal.Own

open Cert.Reference22Ideal Cert.Reference22Ideal.Gen Cert.Reference22Ideal.Read Cert.Attn Cert.Prod Cert.Norm

variable (x0 : Mat 4096 512) (x1 : (⟨1, ![512]⟩ : Shape).Idx → EReal) (x2 : (⟨1, ![512]⟩ : Shape).Idx → EReal) (x3 : Stack 1 512 1024)

theorem centre_at (p : Fin 4096) (q : Fin 512) : val_main_v5 (F := Ideal) x0 (ix2 p q) = centre (row x0 p) q := by
  pointwise [val_main_v5, val_main_v4, val_main_v3, val_main_v2, val_main_v1, val_main_v0, val_main_cst, val_main_cst_0]
  rfl

theorem inv_at (p : Fin 4096) : val_main_v13 (F := Ideal) x0 (ix2 p 0) = linv (row x0 p) := by
  pointwise [val_main_v13, val_main_v12, val_main_v11, val_main_v10, val_main_v9, val_main_v8, val_main_v7, val_main_v6, val_main_cst_1, val_main_cst_2, val_main_cst_3, centre_at]
  rfl

theorem lnorm_at (p : Fin 4096) (q : Fin 512) : val_main_v21 (F := Ideal) x0 x1 x2 (ix2 p q)
    = lnorm (row x0 p) (fun j => x1 (ix1 j)) (fun j => x2 (ix1 j)) q := by
  pointwise [val_main_v21, val_main_v20, val_main_v19, val_main_v18, val_main_v17, val_main_v16, val_main_v15, val_main_v14, inv_at, centre_at]
  rfl

theorem gated_at (p : Fin 4096) (q : Fin 512) : val_main_v22 (F := Ideal) x0 x1 x2 (ix2 p q) = gated x0 (fun j => x1 (ix1 j)) (fun j => x2 (ix1 j)) (ix2 p q) := by
  pointwise [val_main_v22, val_main_call0_v5, val_main_call0_v4, val_main_call0_v3, val_main_call0_v2, val_main_call0_v1, val_main_call0_v0, val_main_call0_cst, val_main_call0_cst_0, lnorm_at]
  rfl

theorem v23_eq : val_main_v23 (F := Ideal) x0 x1 x2 = gated x0 (fun j => x1 (ix1 j)) (fun j => x2 (ix1 j)) := by
  funext i
  idx_vars i
  pointwise [val_main_v23, gated_at]

theorem v27_eq : val_main_v27 (F := Ideal) x0 x1 x2 x3 = prodNN (gated x0 (fun j => x1 (ix1 j)) (fun j => x2 (ix1 j))) (sheet x3) := by
  funext i
  idx_vars i
  pointwise [val_main_v27, val_main_v26, val_main_v25, val_main_v24, gated_at]
  rfl

end Cert.Reference22Ideal.Own

namespace Cert.Claim22

open Cert.Attn Cert.Prod Cert.Norm

/-- The reference runs, keeps its arguments, and declares no semaphore. -/
theorem frame_reference : Cert.quiescent_Reference22Ideal (hReference22Ideal := Cert.Reference22Ideal.Gen.facts) :=
  fun m g _ => (θ_run _ _ _).mono
    (fun r h => ⟨fun c => (h c).2.2, Idealize.ShloMosaic.sem_eq_zero_of_no_sems (by decide) r.2⟩) (Cert.Reference22Ideal.Value.run m g)

/-- The call and its reference return the same arrays. -/
theorem algebraic : Cert.algebraic_Kernel22Ideal_Reference22Ideal
    (hKernel22Ideal := Cert.Kernel22Ideal.Gen.facts) (hReference22Ideal := Cert.Reference22Ideal.Gen.facts) := by
  intro m g m' g' hpre hag
  refine ⟨fun c => gated (Cert.Kernel22Ideal.Own.arg0 m c) (fun j => (Cert.Kernel22Ideal.Own.arg1 m c) (ix1 j)) (fun j => (Cert.Kernel22Ideal.Own.arg2 m c) (ix1 j)),
    fun c => prodNN (gated (Cert.Kernel22Ideal.Own.arg0 m c) (fun j => (Cert.Kernel22Ideal.Own.arg1 m c) (ix1 j)) (fun j => (Cert.Kernel22Ideal.Own.arg2 m c) (ix1 j))) (sheet (Cert.Kernel22Ideal.Own.arg3 m c)),
    (θ_run _ _ _).mono (fun r h c => ?_) (Cert.Kernel22Ideal.Value.run_blocks m g),
    (θ_run _ _ _).mono (fun r h c => ?_) (Cert.Reference22Ideal.Value.run m' g')⟩
  · exact ⟨(h c).1.trans (Cert.Kernel22Ideal.Own.array4 m c), (h c).2.1.trans (Cert.Kernel22Ideal.Own.array5 m c), (h c).2.2.1, (h c).2.2.2.1, (h c).2.2.2.2.1, (h c).2.2.2.2.2⟩
  · obtain ⟨e0, e1, e2, e3⟩ := hag c
    refine ⟨(h c).1.trans ?_, (h c).2.1.trans ?_, (h c).2.2.1, (h c).2.2.2.1, (h c).2.2.2.2.1, (h c).2.2.2.2.2⟩
    · rw [e0, e1, e2]
      exact (Cert.Reference22Ideal.Read.val_main_v23_eq (F := Ideal) (Cert.Kernel22Ideal.Own.arg0 m c) (Cert.Kernel22Ideal.Own.arg1 m c) (Cert.Kernel22Ideal.Own.arg2 m c)).trans (Cert.Reference22Ideal.Own.v23_eq (Cert.Kernel22Ideal.Own.arg0 m c) (Cert.Kernel22Ideal.Own.arg1 m c) (Cert.Kernel22Ideal.Own.arg2 m c))
    · rw [Cert.Reference22Ideal.Read.val_main_v27_eq, e0, e1, e2, e3]
      exact Cert.Reference22Ideal.Own.v27_eq _ _ _ _

end Cert.Claim22

end
-- ==== Proof.Norm.Forward.lean ====
/-
  The norm of the step's input.
-/
module

public import proofs.«01_k».proof.Defs
public import proofs.«01_k».proof.Proof.Prod.Spec
public import proofs.«01_k».proof.Proof.Norm.Row
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel23Ideal.Own

open Cert.Kernel23Ideal Cert.Kernel23Ideal.Gen Cert.Attn Cert.Prod Cert.Norm

theorem pay_apply (u0 : Vec Ideal S512x1024 .f32) (u1 : Vec Ideal S1x1024 .f32) (p : Fin 512) (q : Fin 1024) :
    k0_pay1 u0 u1 (ix2 p q) = u0 (ix2 p q) * inv (fun j => u0 (ix2 p j)) * u1 (ix2 0 q) := by
  pointwise [k0_pay1]
  rfl

variable (m : (ℓ : Loc nD τ sig) → Buf (Elt Ideal) ℓ) (c : Dev nD)

abbrev arg0 : Mat 4096 1024 := m ((c.tc : Thread nD τ).loc main_arg0)
abbrev arg1 : (⟨1, ![1024]⟩ : Shape).Idx → EReal := m ((c.tc : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem points (t : Fin cfg0.N) : t.val < 8 := by have := t.isLt; have : cfg0.N = 8 := N_0; omega

/-- The row of the whole matrix that a tile's row is. -/
abbrev at' (t : Fin cfg0.N) (p : Fin 512) : Fin 4096 := ⟨t.val * 512 + p.val, by have := points t; omega⟩

theorem blk0 (t : Fin cfg0.N) (p : Fin 512) (r : Fin 1024) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem host1 (q : Fin 1024) : V m c main_v0 (ix2 0 q) = arg1 m c (ix1 q) := by
  unfold_abbrev_sides
  after_results
  pointwise []
theorem blk1 (t : Fin cfg0.N) (q : Fin 1024) : iblk m c 1 t (ix2 0 q) = arg1 m c (ix1 q) := by
  have e : iblk m c 1 t (ix2 0 q) = V m c main_v0 (ix2 0 q) := by blk_ext [iblk, idx1 t]
  exact e.trans (host1 m c q)

theorem array2 : (dats m 0 c).arrAt 2 cfg0.N = normed (arg0 m c) (fun j => arg1 m c (ix1 j)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out <;> rfl]
  idx_vars y
  have e : (fun j => iblk m c 0 t (ix2 y0 j)) = row (arg0 m c) (at' t y0) := funext fun j => blk0 m c t y0 j
  rw [pay_apply, normed_at _ _ _ (at' t y0) y1 (by blk_simp [idx2 t]) (by blk_simp [idx2 t]), e, blk0, blk1]

end Cert.Kernel23Ideal.Own

namespace Cert.Reference23Ideal.Own

open Cert.Reference23Ideal Cert.Reference23Ideal.Gen Cert.Reference23Ideal.Read Cert.Attn Cert.Prod Cert.Norm

variable (x0 : Mat 4096 1024) (x1 : (⟨1, ![1024]⟩ : Shape).Idx → EReal)

theorem v13_eq : val_main_v13 (F := Ideal) x0 x1 = normed x0 (fun j => x1 (ix1 j)) := by
  funext i
  idx_vars i
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Reference23Ideal.Own

namespace Cert.Claim23

open Cert.Attn Cert.Prod Cert.Norm

/-- The reference runs, keeps its arguments, and declares no semaphore. -/
theorem frame_reference : Cert.quiescent_Reference23Ideal (hReference23Ideal := Cert.Reference23Ideal.Gen.facts) :=
  fun m g _ => (θ_run _ _ _).mono
    (fun r h => ⟨fun c => (h c).2, Idealize.ShloMosaic.sem_eq_zero_of_no_sems (by decide) r.2⟩) (Cert.Reference23Ideal.Value.run m g)

/-- The call and its reference return the same arrays. -/
theorem algebraic : Cert.algebraic_Kernel23Ideal_Reference23Ideal
    (hKernel23Ideal := Cert.Kernel23Ideal.Gen.facts) (hReference23Ideal := Cert.Reference23Ideal.Gen.facts) := by
  intro m g m' g' hpre hag
  refine ⟨fun c => normed (Cert.Kernel23Ideal.Own.arg0 m c) (fun j => (Cert.Kernel23Ideal.Own.arg1 m c) (ix1 j)),
    (θ_run _ _ _).mono (fun r h c => ?_) (Cert.Kernel23Ideal.Value.run_blocks m g),
    (θ_run _ _ _).mono (fun r h c => ?_) (Cert.Reference23Ideal.Value.run m' g')⟩
  · exact ⟨(h c).1.trans (Cert.Kernel23Ideal.Own.array2 m c), (h c).2.1, (h c).2.2⟩
  · obtain ⟨e0, e1⟩ := hag c
    refine ⟨(h c).1.trans ?_, (h c).2.1, (h c).2.2⟩
    · rw [e0, e1]
      exact (Cert.Reference23Ideal.Read.val_main_v13_eq (F := Ideal) (Cert.Kernel23Ideal.Own.arg0 m c) (Cert.Kernel23Ideal.Own.arg1 m c)).trans (Cert.Reference23Ideal.Own.v13_eq (Cert.Kernel23Ideal.Own.arg0 m c) (Cert.Kernel23Ideal.Own.arg1 m c))

end Cert.Claim23

end
-- ==== Proof.Norm.Loss.lean ====
/-
  The loss of the step, half the mean square error of the normed rows, and its cotangent.

  The kernel multiplies by the literals 1/1024 and 1/2048 where the reference halves, doubles and divides by 1024.
-/
module

public import proofs.«01_k».proof.Proof.Norm.Row

@[expose] public section

noncomputable section

namespace Cert.Norm

open Idealize.ShloMosaic Cert.Attn Cert.Prod

/-- One over 1024 and one over 2048, one half and two, as the programs' literals. -/
abbrev perItem : EReal := Ideal.ofBits FTy.f32 0x3A800000#32
abbrev halfPerItem : EReal := Ideal.ofBits FTy.f32 0x3A000000#32
abbrev oneHalf : EReal := Ideal.ofBits FTy.f32 0x3F000000#32
abbrev two : EReal := Ideal.ofBits FTy.f32 0x40000000#32

theorem width_eq : width = ((1024 : ℝ) : EReal) := by
  simp [Ideal.ofBits, Ideal.ieee]
  rw [← EReal.coe_mul]
  norm_num
theorem perItem_eq : perItem = ((1 / 1024 : ℝ) : EReal) := by
  simp [Ideal.ofBits, Ideal.ieee]
  rw [← EReal.coe_mul]
  norm_num
theorem halfPerItem_eq : halfPerItem = ((1 / 2048 : ℝ) : EReal) := by
  simp [Ideal.ofBits, Ideal.ieee]
  rw [← EReal.coe_mul]
  norm_num
theorem oneHalf_eq : oneHalf = ((1 / 2 : ℝ) : EReal) := by
  simp [Ideal.ofBits, Ideal.ieee]
  rw [← EReal.coe_mul]
  norm_num
theorem two_eq : two = ((2 : ℝ) : EReal) := by
  simp [Ideal.ofBits, Ideal.ieee]
  rw [← EReal.coe_mul]
  norm_num

theorem div_width (z : EReal) : Ideal.div z width = perItem * z := by
  unfold Ideal.div
  rw [width_eq, perItem_eq, if_neg (by norm_num), ← EReal.coe_inv, mul_comm]
  norm_num

/-- Half divided by 1024 times twice a number is the number times one over 1024. -/
theorem chain_eq (d : EReal) : Ideal.div (oneHalf * 1) width * (two * d) = d * perItem := by
  rw [div_width, mul_one, ← mul_assoc, mul_comm d]
  congr 1
  rw [perItem_eq, oneHalf_eq, two_eq, ← EReal.coe_mul, ← EReal.coe_mul]
  norm_num

variable {d n : ℕ}

/-- How far a normed row is off its target. -/
def off (x g y : Fin d → EReal) (j : Fin d) : EReal := x j * inv x * g j - y j
def offs (x : Mat n d) (g : Fin d → EReal) (y : Mat n d) : Mat n d := fun i => off (row x (i 0)) g (row y (i 0)) (i 1)
/-- The loss's cotangent. -/
def lossCt (x : Mat n d) (g : Fin d → EReal) (y : Mat n d) : Mat n d := fun i => offs x g y i * perItem
/-- The loss, the same number in every lane. -/
def lossOf (x : Mat n d) (g : Fin d → EReal) (y : Mat n d) : Mat 1 128 := fun _ =>
  oneHalf * ∑ r : Fin n, Ideal.div (∑ j : Fin d, offs x g y (ix2 r j) * offs x g y (ix2 r j)) width

/-- The loss from the sums of the squares column by column. -/
theorem lossOf_eq (x : Mat n d) (g : Fin d → EReal) (y : Mat n d) (i : (⟨2, ![1, 128]⟩ : Shape).Idx) (f : Fin d → EReal)
    (h : ∀ j, f j = ∑ r : Fin n, offs x g y (ix2 r j) * offs x g y (ix2 r j)) :
    lossOf x g y i = halfPerItem * ∑ j, f j := by
  have e : ∑ r : Fin n, Ideal.div (∑ j : Fin d, offs x g y (ix2 r j) * offs x g y (ix2 r j)) width = perItem * ∑ j, f j := by
    rw [Finset.sum_congr rfl fun r _ => div_width _, ← mul_sum_of_real _ _ _ (by rw [perItem_eq]; exact_mod_cast (by norm_num : (0 : ℝ) ≤ 1 / 1024))
      (by rw [perItem_eq]; exact EReal.coe_ne_top _), Finset.sum_comm]
    exact congrArg _ (Finset.sum_congr rfl fun j _ => (h j).symm)
  unfold lossOf
  rw [e, ← mul_assoc]
  congr 1
  rw [perItem_eq, oneHalf_eq, halfPerItem_eq, ← EReal.coe_mul]
  norm_num

end Cert.Norm

end
-- ==== Proof.Norm.LossBwd.lean ====
/-
  The loss and the gradient of the last norm.
-/
module

public import proofs.«01_k».proof.Defs
public import proofs.«01_k».proof.Proof.Prod.Spec
public import proofs.«01_k».proof.Proof.Norm.Loss
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel24Ideal.Own

open Cert.Kernel24Ideal Cert.Kernel24Ideal.Gen Cert.Attn Cert.Prod Cert.Norm

section Payloads

variable (x : Vec Ideal S512x1024 .f32) (g : Vec Ideal S1x1024 .f32) (y : Vec Ideal S512x1024 .f32) (acc : Vec Ideal S1x1024 .f32)

theorem meanSq_apply (p : Fin 512) : k0_pay7 x (ix2 p 0) = meanSq (fun j => x (ix2 p j)) := by
  pointwise [k0_pay7]
  rfl

theorem inv_apply (p : Fin 512) : k0_pay8 x (ix2 p 0) = inv (fun j => x (ix2 p j)) := by
  pointwise [k0_pay8, meanSq_apply]
  rfl

theorem error_apply (p : Fin 512) (q : Fin 1024) : k0_pay10 x g y (ix2 p q)
    = off (fun j => x (ix2 p j)) (fun j => g (ix2 0 j)) (fun j => y (ix2 p j)) q := by
  pointwise [k0_pay10, k0_pay9, k0_pay6, inv_apply]
  rfl

theorem ct_apply (p : Fin 512) (q : Fin 1024) : k0_pay11 x g y (ix2 p q)
    = off (fun j => x (ix2 p j)) (fun j => g (ix2 0 j)) (fun j => y (ix2 p j)) q * perItem := by
  pointwise [k0_pay11, error_apply]

theorem dx_apply (p : Fin 512) (q : Fin 1024) : k0_pay13 x g y (ix2 p q)
    = pull (fun j => x (ix2 p j)) (fun j => g (ix2 0 j))
      (fun j => off (fun j => x (ix2 p j)) (fun j => g (ix2 0 j)) (fun j => y (ix2 p j)) j * perItem) q := by
  pointwise [k0_pay13, k0_pay6, ct_apply, inv_apply, meanSq_apply]
  simp only [Fin.sum_univ_one, inv_apply, meanSq_apply]
  rfl

theorem dg_apply (q : Fin 1024) : k0_pay3 (k0_pay12 x g y) acc (ix2 0 q)
    = acc (ix2 0 q) + ∑ p : Fin 512, x (ix2 p q) * inv (fun j => x (ix2 p j))
      * (off (fun j => x (ix2 p j)) (fun j => g (ix2 0 j)) (fun j => y (ix2 p j)) q * perItem) := by
  pointwise [k0_pay3, k0_pay12, k0_pay9, ct_apply, inv_apply]

theorem square_apply (q : Fin 1024) : k0_pay4 (k0_pay10 x g y) acc (ix2 0 q)
    = acc (ix2 0 q) + ∑ p : Fin 512, off (fun j => x (ix2 p j)) (fun j => g (ix2 0 j)) (fun j => y (ix2 p j)) q
      * off (fun j => x (ix2 p j)) (fun j => g (ix2 0 j)) (fun j => y (ix2 p j)) q := by
  pointwise [k0_pay4, error_apply]

theorem zero_apply (j : S1x1024.Idx) : k0_pay1 (F := Ideal) j = 0 := by pointwise [k0_pay1]
theorem zero_apply' (j : S1x1024.Idx) : k0_pay2 (F := Ideal) j = 0 := by pointwise [k0_pay2]

theorem loss_apply (q : Fin 128) : k0_pay5 acc (ix2 0 q) = halfPerItem * ∑ j : Fin 1024, acc (ix2 0 j) := by
  pointwise [k0_pay5]
  simp only [Fin.sum_univ_one]

end Payloads

variable (m : (ℓ : Loc nD τ sig) → Buf (Elt Ideal) ℓ) (c : Dev nD)

abbrev arg0 : Mat 4096 1024 := m ((c.tc : Thread nD τ).loc main_arg0)
abbrev arg1 : (⟨1, ![1024]⟩ : Shape).Idx → EReal := m ((c.tc : Thread nD τ).loc main_arg1)
abbrev arg2 : Mat 4096 1024 := m ((c.tc : Thread nD τ).loc main_arg2)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel

theorem points (t : Fin cfg0.N) : t.val < 8 := by have := t.isLt; have : cfg0.N = 8 := N_0; omega

/-- The row of the whole matrix that a tile's row is. -/
abbrev at' (t : Fin cfg0.N) (p : Fin 512) : Fin 4096 := ⟨t.val * 512 + p.val, by have := points t; omega⟩

theorem blk0 (t : Fin cfg0.N) (p : Fin 512) (r : Fin 1024) : iblk m c 0 t (ix2 p r) = arg0 m c (ix2 (at' t p) r) := by
  have e : iblk m c 0 t (ix2 p r) = V m c main_arg0 (ix2 (at' t p) r) := by blk_ext [iblk, idx0 t]
  exact e.trans (congrFun (V_main_arg0 m c) _)
theorem host1 (q : Fin 1024) : V m c main_v0 (ix2 0 q) = arg1 m c (ix1 q) := by
  unfold_abbrev_sides
  after_results
  pointwise []
theorem blk1 (t : Fin cfg0.N) (q : Fin 1024) : iblk m c 1 t (ix2 0 q) = arg1 m c (ix1 q) := by
  have e : iblk m c 1 t (ix2 0 q) = V m c main_v0 (ix2 0 q) := by blk_ext [iblk, idx1 t]
  exact e.trans (host1 m c q)
theorem blk2 (t : Fin cfg0.N) (p : Fin 512) (r : Fin 1024) : iblk m c 2 t (ix2 p r) = arg2 m c (ix2 (at' t p) r) := by
  have e : iblk m c 2 t (ix2 p r) = V m c main_arg2 (ix2 (at' t p) r) := by blk_ext [iblk, idx2 t]
  exact e.trans (congrFun (V_main_arg2 m c) _)

abbrev gain : Fin 1024 → EReal := fun j => arg1 m c (ix1 j)
abbrev offAll : Mat 4096 1024 := offs (arg0 m c) (gain m c) (arg2 m c)
abbrev ctAll : Mat 4096 1024 := lossCt (arg0 m c) (gain m c) (arg2 m c)

theorem row_blk (t : Fin cfg0.N) (p : Fin 512) : (fun j => iblk m c 0 t (ix2 p j)) = row (arg0 m c) (at' t p) := funext fun j => blk0 m c t p j
theorem off_blk (t : Fin cfg0.N) (p : Fin 512) (q : Fin 1024) :
    off (fun j => iblk m c 0 t (ix2 p j)) (fun j => iblk m c 1 t (ix2 0 j)) (fun j => iblk m c 2 t (ix2 p j)) q = offAll m c (ix2 (at' t p) q) := by
  have e1 : (fun j => iblk m c 1 t (ix2 0 j)) = gain m c := funext fun j => blk1 m c t j
  have e2 : (fun j => iblk m c 2 t (ix2 p j)) = row (arg2 m c) (at' t p) := funext fun j => blk2 m c t p j
  rw [row_blk, e1, e2]
  rfl

theorem array4 : (dats m 0 c).arrAt 4 cfg0.N = dNormed (arg0 m c) (gain m c) (ctAll m c) := by
  refine (dats m 0 c).arrAt_eq_of_covers 4 _ (by decide +kernel) fun t hf y => ?_
  blk_simp
  rw [after0_4]
  have key : (outsAt0 m c t.val t.isLt).2.1 y = k0_pay13 (iblk m c 0 t) (iblk m c 1 t) (iblk m c 2 t) y := by
    by_cases h0 : t.val % 8 = 0
    · rw [Gen.outsAt0_A m c t h0 (by omega)]; frame_out <;> rfl
    · by_cases h1 : t.val % 8 = 7
      · rw [Gen.outsAt0_C m c t h0 h1]; frame_out <;> rfl
      · rw [Gen.outsAt0_B m c t h0 h1]; frame_out <;> rfl
  rw [key]
  idx_vars y
  have e1 : (fun j => iblk m c 1 t (ix2 0 j)) = gain m c := funext fun j => blk1 m c t j
  have e2 : (fun j => off (fun j => iblk m c 0 t (ix2 y0 j)) (fun j => iblk m c 1 t (ix2 0 j)) (fun j => iblk m c 2 t (ix2 y0 j)) j * perItem)
      = row (ctAll m c) (at' t y0) := funext fun j => congrArg (· * perItem) (off_blk m c t y0 j)
  rw [dx_apply, e2, row_blk, e1, dNormed_at _ _ _ _ (at' t y0) y1 (by blk_simp [idx4 t]) (by blk_simp [idx4 t])]

/-- A tile's part in the cotangent of the gain, and in the sum of the squares. -/
def part5 (t : Fin cfg0.N) (j : S1x1024.Idx) : EReal :=
  ∑ p : Fin 512, arg0 m c (ix2 (at' t p) (j 1)) * inv (row (arg0 m c) (at' t p)) * ctAll m c (ix2 (at' t p) (j 1))
def part3 (t : Fin cfg0.N) (j : S1x1024.Idx) : EReal :=
  ∑ p : Fin 512, offAll m c (ix2 (at' t p) (j 1)) * offAll m c (ix2 (at' t p) (j 1))

theorem step5 (t : Fin cfg0.N) (acc : Vec Ideal S1x1024 .f32) (j : S1x1024.Idx) :
    k0_pay3 (k0_pay12 (iblk m c 0 t) (iblk m c 1 t) (iblk m c 2 t)) acc j = acc j + part5 m c t j := by
  idx_vars j
  obtain rfl : j0 = 0 := Subsingleton.elim _ _
  rw [dg_apply]
  refine congrArg (acc _ + ·) (Finset.sum_congr rfl fun p _ => ?_)
  rw [off_blk, row_blk, blk0]
  rfl

theorem step3 (t : Fin cfg0.N) (acc : Vec Ideal S1x1024 .f32) (j : S1x1024.Idx) :
    k0_pay4 (k0_pay10 (iblk m c 0 t) (iblk m c 1 t) (iblk m c 2 t)) acc j = acc j + part3 m c t j := by
  idx_vars j
  obtain rfl : j0 = 0 := Subsingleton.elim _ _
  rw [square_apply]
  refine congrArg (acc _ + ·) (Finset.sum_congr rfl fun p _ => ?_)
  rw [off_blk]
  rfl

theorem array5 : (dats m 0 c).arrAt 5 cfg0.N = dGain (arg0 m c) (ctAll m c) := by
  refine (dats m 0 c).arrAt_eq_of_covers 5 _ (by decide +kernel) fun t hf y => ?_
  blk_simp
  rw [after0_5]
  have key := Pipeline.eq_sum_fin_of_reset_step_apply_of_flush (fun n h => (outsAt0 m c n h).2.2.1) 8 (fun _ => 0)
    (part5 m c) (fun t h j => by rw [Gen.outsAt0_A m c t h (by omega)]; frame_out; exact (step5 m c t _ j).trans (by rw [zero_apply]))
    (fun t h j => by
      by_cases h1 : t.val % 8 = 7
      · rw [Gen.outsAt0_C m c t h h1]; frame_out; exact step5 m c t _ j
      · rw [Gen.outsAt0_B m c t h h1]; frame_out; exact step5 m c t _ j) t ((flush0_5 t).mp hf) y
  rw [show (outsAt0 m c t.val t.isLt).2.2.1 y = _ from key, zero_add]
  idx_vars y
  rw [dGain_at _ _ _ y1 (by blk_simp [idx5 t])]
  refine Eq.trans ?_ (sum_tiles 8 512 (fun r : Fin 4096 => arg0 m c (ix2 r y1) * inv (row (arg0 m c) r) * ctAll m c (ix2 r y1)) (fun t r => by omega))
  show @Eq EReal _ _
  refine Finset.sum_congr rfl fun a _ => ?_
  have e : ∀ h p, at' ⟨8 * (t.val / 8) + a.val, h⟩ p = ⟨a.val * 512 + p.val, by omega⟩ :=
    fun h r => Fin.ext (by have := points t; dsimp only; omega)
  unfold part5
  simp only [e]
  rfl

/-- The sums of the squares, column by column, after the last tile. -/
theorem squares (t : Fin cfg0.N) (h7 : t.val % 8 = 7) (q : Fin 1024) :
    (outsAt0 m c t.val t.isLt).2.2.2 (ix2 0 q) = ∑ r : Fin 4096, offAll m c (ix2 r q) * offAll m c (ix2 r q) := by
  have key := Pipeline.eq_sum_fin_of_reset_step_apply_of_flush (fun n h => (outsAt0 m c n h).2.2.2) 8 (fun _ => 0)
    (part3 m c) (fun t h j => by rw [Gen.outsAt0_A m c t h (by omega)]; frame_out; exact (step3 m c t _ j).trans (by rw [zero_apply']))
    (fun t h j => by
      by_cases h1 : t.val % 8 = 7
      · rw [Gen.outsAt0_C m c t h h1]; frame_out; exact (step3 m c t _ j).trans (by rw [read_unread_whole])
      · rw [Gen.outsAt0_B m c t h h1]; frame_out; exact (step3 m c t _ j).trans (by rw [read_unread_whole])) t h7 (ix2 0 q)
  rw [show (outsAt0 m c t.val t.isLt).2.2.2 (ix2 0 q) = _ from key, zero_add]
  refine Eq.trans ?_ (sum_tiles 8 512 (fun r : Fin 4096 => offAll m c (ix2 r q) * offAll m c (ix2 r q)) (fun t r => by omega))
  show @Eq EReal _ _
  refine Finset.sum_congr rfl fun a _ => ?_
  have e : ∀ h p, at' ⟨8 * (t.val / 8) + a.val, h⟩ p = ⟨a.val * 512 + p.val, by omega⟩ :=
    fun h r => Fin.ext (by have := points t; dsimp only; omega)
  unfold part3
  simp only [e]
  rfl

theorem array3 : (dats m 0 c).arrAt 3 cfg0.N = lossOf (arg0 m c) (gain m c) (arg2 m c) := by
  refine (dats m 0 c).arrAt_eq_of_covers 3 _ (by decide +kernel) fun t hf y => ?_
  blk_simp
  rw [after0_3]
  have h7 := (flush0_3 t).mp hf
  have key : (outsAt0 m c t.val t.isLt).1 y = k0_pay5 ((outsAt0 m c t.val t.isLt).2.2.2) y := by
    rw [Gen.outsAt0_C m c t (by omega) h7]; frame_out <;> rfl
  rw [key]
  idx_vars y
  obtain rfl : y0 = 0 := Subsingleton.elim _ _
  rw [loss_apply]
  exact (lossOf_eq _ _ _ _ _ fun q => squares m c t h7 q).symm

end Cert.Kernel24Ideal.Own

namespace Cert.Reference24Ideal.Own

open Cert.Reference24Ideal Cert.Reference24Ideal.Gen Cert.Reference24Ideal.Read Cert.Attn Cert.Prod Cert.Norm

variable (x0 : Mat 4096 1024) (x1 : (⟨1, ![1024]⟩ : Shape).Idx → EReal) (x2 : Mat 4096 1024)

theorem meanSq_at (p : Fin 4096) : val_main_v6 (F := Ideal) x0 (ix2 p 0) = meanSq (row x0 p) := by
  pointwise [val_main_v6, val_main_v5, val_main_v4, val_main_v3, val_main_v2, val_main_v1, val_main_v0, val_main_cst, val_main_cst_0, val_main_cst_1]
  rfl
theorem inv_at (p : Fin 4096) : val_main_v7 (F := Ideal) x0 (ix2 p 0) = inv (row x0 p) := by
  pointwise [val_main_v7, meanSq_at]
  rfl
theorem half_at (p : Fin 4096) : val_main_v10 (F := Ideal) x0 (ix2 p 0) = minusHalf * Ideal.div (inv (row x0 p)) (meanSq (row x0 p)) := by
  pointwise [val_main_v10, val_main_v9, val_main_v8, val_main_cst_2, inv_at, meanSq_at]
theorem off_at (p : Fin 4096) (q : Fin 1024) : val_main_v16 (F := Ideal) x0 x1 x2 (ix2 p q) = offs x0 (fun j => x1 (ix1 j)) x2 (ix2 p q) := by
  pointwise [val_main_v16, val_main_v15, val_main_v14, val_main_v13, val_main_v12, val_main_v11, inv_at]
  rfl
theorem ct_at (p : Fin 4096) (q : Fin 1024) : val_main_v30 (F := Ideal) x0 x1 x2 (ix2 p q) = lossCt x0 (fun j => x1 (ix1 j)) x2 (ix2 p q) := by
  pointwise [val_main_v30, val_main_v29, val_main_v28, val_main_v27, val_main_v26, val_main_v25, val_main_v19, val_main_v18, val_main_cst_10, val_main_cst_8, val_main_cst_9, val_main_cst_3, off_at]
  exact (congrArg (fun z => Ideal.div z width * (two * offs x0 (fun j => x1 (ix1 j)) x2 (ix2 p q))) (mul_one oneHalf)).symm.trans (chain_eq _)
theorem dot_at (p : Fin 4096) : val_main_v39 (F := Ideal) x0 x1 x2 (ix2 p 0) = ∑ j, row x0 p j * (row (lossCt x0 (fun j => x1 (ix1 j)) x2) p j * x1 (ix1 j)) := by
  pointwise [val_main_v39, val_main_v38, val_main_v37, val_main_v35, val_main_v34, val_main_v13, val_main_cst_13, ct_at]
  rfl
theorem shift_at (p : Fin 4096) (q : Fin 1024) : val_main_v46 (F := Ideal) x0 x1 x2 (ix2 p q) = shift (row x0 p) (fun j => x1 (ix1 j)) (row (lossCt x0 (fun j => x1 (ix1 j)) x2) p) := by
  pointwise [val_main_v46, val_main_v45, val_main_v44, val_main_v43, val_main_v42, val_main_cst_14, val_main_cst_15, half_at, dot_at]
  simp only [Fin.sum_univ_one, half_at, dot_at]
  rfl

theorem v50_eq : val_main_v50 (F := Ideal) x0 x1 x2 = dNormed x0 (fun j => x1 (ix1 j)) (lossCt x0 (fun j => x1 (ix1 j)) x2) := by
  funext i
  idx_vars i
  pointwise [val_main_v50, val_main_v49, val_main_v48, val_main_v47, val_main_v41, val_main_v40, val_main_v35, val_main_v34, val_main_v13, ct_at, shift_at, inv_at]
  rfl

theorem v52_eq : val_main_v52 (F := Ideal) x0 x1 x2 = dGain x0 (lossCt x0 (fun j => x1 (ix1 j)) x2) := by
  funext i
  idx_vars i
  pointwise [val_main_v52, val_main_v36, val_main_v33, val_main_v32, val_main_v31, val_main_v12, val_main_v11, val_main_cst_11, val_main_cst_12, ct_at, inv_at]
  obtain rfl : i0 = 0 := Subsingleton.elim _ _
  simp only [Fin.sum_univ_one]
  rfl

theorem v51_eq : val_main_v51 (F := Ideal) x0 x1 x2 = lossOf x0 (fun j => x1 (ix1 j)) x2 := by
  funext i
  idx_vars i
  pointwise [val_main_v51, val_main_v24, val_main_v23, val_main_v22, val_main_v21, val_main_v20, val_main_v17, val_main_cst_4, val_main_cst_5, val_main_cst_6, val_main_cst_7, off_at]
  rfl

end Cert.Reference24Ideal.Own

namespace Cert.Claim24

open Cert.Attn Cert.Prod Cert.Norm

/-- The reference runs, keeps its arguments, and declares no semaphore. -/
theorem frame_reference : Cert.quiescent_Reference24Ideal (hReference24Ideal := Cert.Reference24Ideal.Gen.facts) :=
  fun m g _ => (θ_run _ _ _).mono
    (fun r h => ⟨fun c => (h c).2.2.2, Idealize.ShloMosaic.sem_eq_zero_of_no_sems (by decide) r.2⟩) (Cert.Reference24Ideal.Value.run m g)

/-- The call and its reference return the same arrays. -/
theorem algebraic : Cert.algebraic_Kernel24Ideal_Reference24Ideal
    (hKernel24Ideal := Cert.Kernel24Ideal.Gen.facts) (hReference24Ideal := Cert.Reference24Ideal.Gen.facts) := by
  intro m g m' g' hpre hag
  refine ⟨fun c => lossOf (Cert.Kernel24Ideal.Own.arg0 m c) (fun j => (Cert.Kernel24Ideal.Own.arg1 m c) (ix1 j)) (Cert.Kernel24Ideal.Own.arg2 m c),
    fun c => dNormed (Cert.Kernel24Ideal.Own.arg0 m c) (fun j => (Cert.Kernel24Ideal.Own.arg1 m c) (ix1 j)) (lossCt (Cert.Kernel24Ideal.Own.arg0 m c) (fun j => (Cert.Kernel24Ideal.Own.arg1 m c) (ix1 j)) (Cert.Kernel24Ideal.Own.arg2 m c)),
    fun c => dGain (Cert.Kernel24Ideal.Own.arg0 m c) (lossCt (Cert.Kernel24Ideal.Own.arg0 m c) (fun j => (Cert.Kernel24Ideal.Own.arg1 m c) (ix1 j)) (Cert.Kernel24Ideal.Own.arg2 m c)),
    (θ_run _ _ _).mono (fun r h c => ?_) (Cert.Kernel24Ideal.Value.run_blocks m g),
    (θ_run _ _ _).mono (fun r h c => ?_) (Cert.Reference24Ideal.Value.run m' g')⟩
  · exact ⟨(h c).1.trans (Cert.Kernel24Ideal.Own.array3 m c), (h c).2.1.trans (Cert.Kernel24Ideal.Own.array4 m c), (h c).2.2.1.trans (Cert.Kernel24Ideal.Own.array5 m c), (h c).2.2.2.1, (h c).2.2.2.2.1, (h c).2.2.2.2.2⟩
  · obtain ⟨e0, e1, e2⟩ := hag c
    refine ⟨(h c).1.trans ?_, (h c).2.1.trans ?_, (h c).2.2.1.trans ?_, (h c).2.2.2.1, (h c).2.2.2.2.1, (h c).2.2.2.2.2⟩
    · rw [e0, e1, e2]
      exact (Cert.Reference24Ideal.Read.val_main_v51_eq (F := Ideal) (Cert.Kernel24Ideal.Own.arg0 m c) (Cert.Kernel24Ideal.Own.arg1 m c) (Cert.Kernel24Ideal.Own.arg2 m c)).trans (Cert.Reference24Ideal.Own.v51_eq (Cert.Kernel24Ideal.Own.arg0 m c) (Cert.Kernel24Ideal.Own.arg1 m c) (Cert.Kernel24Ideal.Own.arg2 m c))
    · rw [Cert.Reference24Ideal.Read.val_main_v50_eq, e0, e1, e2]
      exact Cert.Reference24Ideal.Own.v50_eq _ _ _
    · rw [e0, e1, e2]
      exact (Cert.Reference24Ideal.Read.val_main_v52_eq (F := Ideal) (Cert.Kernel24Ideal.Own.arg0 m c) (Cert.Kernel24Ideal.Own.arg1 m c) (Cert.Kernel24Ideal.Own.arg2 m c)).trans (Cert.Reference24Ideal.Own.v52_eq (Cert.Kernel24Ideal.Own.arg0 m c) (Cert.Kernel24Ideal.Own.arg1 m c) (Cert.Kernel24Ideal.Own.arg2 m c))

end Cert.Claim24

end
-- ==== Proof.Norm.MemBwd.lean ====
/-
  The gradient of the normed memory, pulled back through its normalisation.
-/
module

public import proofs.«01_k».proof.Defs
public import proofs.«01_k».proof.Proof.Prod.Spec
public import proofs.«01_k».proof.Proof.Norm.Row
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel25Ideal.Own

open Cert.Kernel25Ideal Cert.Kernel25Ideal.Gen Cert.Attn Cert.Prod Cert.Norm

section Payloads

variable (x : Vec Ideal S512x1024 .f32) (g : Vec Ideal S1x1024 .f32) (u : Vec Ideal S512x1024 .f32) (acc : Vec Ideal S1x1024 .f32)

theorem meanSq_apply (p : Fin 512) : k0_pay3 x (ix2 p 0) = meanSq (fun j => x (ix2 p j)) := by
  pointwise [k0_pay3]
  rfl

theorem inv_apply (p : Fin 512) : k0_pay4 x (ix2 p 0) = inv (fun j => x (ix2 p j)) := by
  pointwise [k0_pay4, meanSq_apply]
  rfl

theorem dx_apply (p : Fin 512) (q : Fin 1024) : k0_pay6 x g u (ix2 p q)
    = pull (fun j => x (ix2 p j)) (fun j => g (ix2 0 j)) (fun j => u (ix2 p j)) q := by
  pointwise [k0_pay6, inv_apply, meanSq_apply]
  simp only [Fin.sum_univ_one, inv_apply, meanSq_apply]
  rfl

theorem dx16_apply (p : Fin 512) (q : Fin 1024) : k0_pay7 x g u (ix2 p q)
    = pull (fun j => x (ix2 p j)) (fun j => g (ix2 0 j)) (fun j => u (ix2 p j)) q := by
  pointwise [k0_pay7, dx_apply]

theorem dg_apply (q : Fin 1024) : k0_pay2 (k0_pay5 x u) (k0_pay1 (F := Ideal)) (ix2 0 q)
    = ∑ p : Fin 512, x (ix2 p q) * inv (fun j => x (ix2 p j)) * u (ix2 p q) := by
  pointwise [k0_pay2, k0_pay5, k0_pay1, inv_apply]

end Payloads

variable (m : (ℓ : Loc nD τ sig) → Buf (Elt Ideal) ℓ) (c : Dev nD)

abbrev arg0 : Mat 512 1024 := m ((c.tc : Thread nD τ).loc main_arg0)
abbrev arg1 : (⟨1, ![1024]⟩ : Shape).Idx → EReal := m ((c.tc : Thread nD τ).loc main_arg1)
abbrev arg2 : Mat 512 1024 := m ((c.tc : Thread nD τ).loc main_arg2)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel

theorem points (t : Fin cfg0.N) : t.val < 1 := by have := t.isLt; have : cfg0.N = 1 := N_0; omega

theorem base (t : Fin cfg0.N) (p : Fin 512) : (⟨t.val * 512 + p.val, by have := points t; omega⟩ : Fin 512) = p :=
  Fin.ext (by have := points t; dsimp only; omega)
theorem blk0 (t : Fin cfg0.N) (p : Fin 512) (r : Fin 1024) : iblk m c 0 t (ix2 p r) = arg0 m c (ix2 p r) := by
  have e : iblk m c 0 t (ix2 p r) = V m c main_arg0 (ix2 ⟨t.val * 512 + p.val, by have := points t; omega⟩ r) := by blk_ext [iblk, idx0 t]
  rw [base] at e
  exact e.trans (congrFun (V_main_arg0 m c) _)
theorem blk2 (t : Fin cfg0.N) (p : Fin 512) (r : Fin 1024) : iblk m c 2 t (ix2 p r) = arg2 m c (ix2 p r) := by
  have e : iblk m c 2 t (ix2 p r) = V m c main_arg2 (ix2 ⟨t.val * 512 + p.val, by have := points t; omega⟩ r) := by blk_ext [iblk, idx2 t]
  rw [base] at e
  exact e.trans (congrFun (V_main_arg2 m c) _)
theorem host1 (q : Fin 1024) : V m c main_v0 (ix2 0 q) = arg1 m c (ix1 q) := by
  unfold_abbrev_sides
  after_results
  pointwise []
theorem blk1 (t : Fin cfg0.N) (q : Fin 1024) : iblk m c 1 t (ix2 0 q) = arg1 m c (ix1 q) := by
  have e : iblk m c 1 t (ix2 0 q) = V m c main_v0 (ix2 0 q) := by blk_ext [iblk, idx1 t]
  exact e.trans (host1 m c q)

abbrev gain : Fin 1024 → EReal := fun j => arg1 m c (ix1 j)

theorem pull_blk (t : Fin cfg0.N) (p : Fin 512) (q : Fin 1024) :
    pull (fun j => iblk m c 0 t (ix2 p j)) (fun j => iblk m c 1 t (ix2 0 j)) (fun j => iblk m c 2 t (ix2 p j)) q
      = pull (row (arg0 m c) p) (gain m c) (row (arg2 m c) p) q := by
  have e0 : (fun j => iblk m c 0 t (ix2 p j)) = row (arg0 m c) p := funext fun j => blk0 m c t p j
  have e1 : (fun j => iblk m c 1 t (ix2 0 j)) = gain m c := funext fun j => blk1 m c t j
  have e2 : (fun j => iblk m c 2 t (ix2 p j)) = row (arg2 m c) p := funext fun j => blk2 m c t p j
  rw [e0, e1, e2]

theorem array3 : (dats m 0 c).arrAt 3 cfg0.N = dNormed (arg0 m c) (gain m c) (arg2 m c) := by
  refine (dats m 0 c).arrAt_eq_of_covers 3 _ (by decide +kernel) fun t hf y => ?_
  blk_simp
  rw [after0_3, show (outsAt0 m c t).1 y = k0_pay6 (iblk m c 0 t) (iblk m c 1 t) (iblk m c 2 t) y by
    unfold outsAt0; frame_out <;> rfl]
  idx_vars y
  rw [dx_apply, pull_blk, dNormed_at _ _ _ _ y0 y1 (by blk_simp [idx3 t]) (by blk_simp [idx3 t])]

theorem array4 : (dats m 0 c).arrAt 4 cfg0.N = dNormed (arg0 m c) (gain m c) (arg2 m c) := by
  refine (dats m 0 c).arrAt_eq_of_covers 4 _ (by decide +kernel) fun t hf y => ?_
  blk_simp
  rw [after0_4, show (outsAt0 m c t).2.1 y = k0_pay7 (iblk m c 0 t) (iblk m c 1 t) (iblk m c 2 t) y by
    unfold outsAt0; frame_out <;> rfl]
  idx_vars y
  rw [dx16_apply, pull_blk, dNormed_at _ _ _ _ y0 y1 (by blk_simp [idx4 t]) (by blk_simp [idx4 t])]

theorem array5 : (dats m 0 c).arrAt 5 cfg0.N = dGain (arg0 m c) (arg2 m c) := by
  refine (dats m 0 c).arrAt_eq_of_covers 5 _ (by decide +kernel) fun t hf y => ?_
  blk_simp
  rw [after0_5, show (outsAt0 m c t).2.2 y = k0_pay2 (k0_pay5 (iblk m c 0 t) (iblk m c 2 t)) (k0_pay1 (F := Ideal)) y by
    unfold outsAt0; frame_out <;> rfl]
  idx_vars y
  obtain rfl : y0 = 0 := Subsingleton.elim _ _
  rw [dg_apply, dGain_at _ _ _ y1 (by blk_simp [idx5 t])]
  show @Eq EReal _ _
  refine Finset.sum_congr rfl fun p _ => ?_
  have e0 : (fun j => iblk m c 0 t (ix2 p j)) = row (arg0 m c) p := funext fun j => blk0 m c t p j
  rw [e0, blk0, blk2]

end Cert.Kernel25Ideal.Own

namespace Cert.Reference25Ideal.Own

open Cert.Reference25Ideal Cert.Reference25Ideal.Gen Cert.Reference25Ideal.Read Cert.Attn Cert.Prod Cert.Norm

variable (x0 : Mat 512 1024) (x1 : (⟨1, ![1024]⟩ : Shape).Idx → EReal) (x2 : Mat 512 1024)

theorem meanSq_at (p : Fin 512) : val_main_v6 (F := Ideal) x0 (ix2 p 0) = meanSq (row x0 p) := by
  pointwise [val_main_v6, val_main_v5, val_main_v4, val_main_v3, val_main_v2, val_main_v1, val_main_v0, val_main_cst, val_main_cst_0, val_main_cst_1]
  rfl

theorem inv_at (p : Fin 512) : val_main_v7 (F := Ideal) x0 (ix2 p 0) = inv (row x0 p) := by
  pointwise [val_main_v7, meanSq_at]
  rfl

theorem half_at (p : Fin 512) : val_main_v10 (F := Ideal) x0 (ix2 p 0) = minusHalf * Ideal.div (inv (row x0 p)) (meanSq (row x0 p)) := by
  pointwise [val_main_v10, val_main_v9, val_main_v8, val_main_cst_2, inv_at, meanSq_at]

theorem dot_at (p : Fin 512) : val_main_v24 (F := Ideal) x0 x1 x2 (ix2 p 0) = ∑ j, row x0 p j * (row x2 p j * x1 (ix1 j)) := by
  pointwise [val_main_v24, val_main_v23, val_main_v22, val_main_v20, val_main_v19, val_main_v13, val_main_cst_5]
  rfl

theorem shift_at (p : Fin 512) (q : Fin 1024) : val_main_v31 (F := Ideal) x0 x1 x2 (ix2 p q)
    = shift (row x0 p) (fun j => x1 (ix1 j)) (row x2 p) := by
  pointwise [val_main_v31, val_main_v30, val_main_v29, val_main_v28, val_main_v27, val_main_cst_6, val_main_cst_7, half_at, dot_at]
  simp only [Fin.sum_univ_one, half_at, dot_at]
  rfl

theorem v35_eq : val_main_v35 (F := Ideal) x0 x1 x2 = dNormed x0 (fun j => x1 (ix1 j)) x2 := by
  funext i
  idx_vars i
  pointwise [val_main_v35, val_main_v34, val_main_v33, val_main_v32, val_main_v26, val_main_v25, val_main_v20, val_main_v19, val_main_v13, shift_at, inv_at]
  rfl

theorem v36_eq : val_main_v36 (F := Ideal) x0 x1 x2 = dNormed x0 (fun j => x1 (ix1 j)) x2 := v35_eq x0 x1 x2

theorem v37_eq : val_main_v37 (F := Ideal) x0 x2 = dGain x0 x2 := by
  funext i
  idx_vars i
  pointwise [val_main_v37, val_main_v21, val_main_v18, val_main_v17, val_main_v16, val_main_v12, val_main_v11, val_main_cst_3, val_main_cst_4, inv_at]
  simp only [Fin.sum_univ_one]
  rfl

end Cert.Reference25Ideal.Own

namespace Cert.Claim25

open Cert.Attn Cert.Prod Cert.Norm

/-- The reference runs, keeps its arguments, and declares no semaphore. -/
theorem frame_reference : Cert.quiescent_Reference25Ideal (hReference25Ideal := Cert.Reference25Ideal.Gen.facts) :=
  fun m g _ => (θ_run _ _ _).mono
    (fun r h => ⟨fun c => (h c).2.2.2, Idealize.ShloMosaic.sem_eq_zero_of_no_sems (by decide) r.2⟩) (Cert.Reference25Ideal.Value.run m g)

/-- The call and its reference return the same arrays. -/
theorem algebraic : Cert.algebraic_Kernel25Ideal_Reference25Ideal
    (hKernel25Ideal := Cert.Kernel25Ideal.Gen.facts) (hReference25Ideal := Cert.Reference25Ideal.Gen.facts) := by
  intro m g m' g' hpre hag
  refine ⟨fun c => dNormed (Cert.Kernel25Ideal.Own.arg0 m c) (fun j => (Cert.Kernel25Ideal.Own.arg1 m c) (ix1 j)) (Cert.Kernel25Ideal.Own.arg2 m c),
    fun c => dNormed (Cert.Kernel25Ideal.Own.arg0 m c) (fun j => (Cert.Kernel25Ideal.Own.arg1 m c) (ix1 j)) (Cert.Kernel25Ideal.Own.arg2 m c),
    fun c => dGain (Cert.Kernel25Ideal.Own.arg0 m c) (Cert.Kernel25Ideal.Own.arg2 m c),
    (θ_run _ _ _).mono (fun r h c => ?_) (Cert.Kernel25Ideal.Value.run_blocks m g),
    (θ_run _ _ _).mono (fun r h c => ?_) (Cert.Reference25Ideal.Value.run m' g')⟩
  · exact ⟨(h c).1.trans (Cert.Kernel25Ideal.Own.array3 m c), (h c).2.1.trans (Cert.Kernel25Ideal.Own.array4 m c), (h c).2.2.1.trans (Cert.Kernel25Ideal.Own.array5 m c), (h c).2.2.2.1, (h c).2.2.2.2.1, (h c).2.2.2.2.2⟩
  · obtain ⟨e0, e1, e2⟩ := hag c
    refine ⟨(h c).1.trans ?_, (h c).2.1.trans ?_, (h c).2.2.1.trans ?_, (h c).2.2.2.1, (h c).2.2.2.2.1, (h c).2.2.2.2.2⟩
    · rw [e0, e1, e2]
      exact (Cert.Reference25Ideal.Read.val_main_v35_eq (F := Ideal) (Cert.Kernel25Ideal.Own.arg0 m c) (Cert.Kernel25Ideal.Own.arg1 m c) (Cert.Kernel25Ideal.Own.arg2 m c)).trans (Cert.Reference25Ideal.Own.v35_eq (Cert.Kernel25Ideal.Own.arg0 m c) (Cert.Kernel25Ideal.Own.arg1 m c) (Cert.Kernel25Ideal.Own.arg2 m c))
    · rw [e0, e1, e2]
      exact (Cert.Reference25Ideal.Read.val_main_v36_eq (F := Ideal) (Cert.Kernel25Ideal.Own.arg0 m c) (Cert.Kernel25Ideal.Own.arg1 m c) (Cert.Kernel25Ideal.Own.arg2 m c)).trans (Cert.Reference25Ideal.Own.v36_eq (Cert.Kernel25Ideal.Own.arg0 m c) (Cert.Kernel25Ideal.Own.arg1 m c) (Cert.Kernel25Ideal.Own.arg2 m c))
    · rw [e0, e2]
      exact (Cert.Reference25Ideal.Read.val_main_v37_eq (F := Ideal) (Cert.Kernel25Ideal.Own.arg0 m c) (Cert.Kernel25Ideal.Own.arg2 m c)).trans (Cert.Reference25Ideal.Own.v37_eq (Cert.Kernel25Ideal.Own.arg0 m c) (Cert.Kernel25Ideal.Own.arg2 m c))

end Cert.Claim25

end
-- ==== Proof.Attn.Attend.lean ====
/-
  The memory attention as a function of the query and key/value arrays.
-/
module

public import proofs.«01_k».proof.Proof.Attn.Spec

@[expose] public section

noncomputable section

namespace Cert.Attn

open Idealize.ShloMosaic

/-- The values of a head averaged by the probabilities of token `s` of example `b`. -/
def attend (x0 : Mat 4096 1024) (x1 : Mat 512 2048) (b : Fin 2) (s : Fin 2048) (h : Fin 4) (d : Fin 256) : EReal :=
  ∑ k : Fin 256, soft (scores x0 x1 b s h) k * vRow x1 b h k d
/-- The attention's result as an array. -/
def attended (x0 : Mat 4096 1024) (x1 : Mat 512 2048) : Mat 4096 1024 := fun i =>
  have h0 : (i 0).val < 4096 := (i 0).isLt
  have h1 : (i 1).val < 1024 := (i 1).isLt
  attend x0 x1 ⟨(i 0).val / 2048, by omega⟩ ⟨(i 0).val % 2048, by omega⟩ ⟨(i 1).val / 256, by omega⟩ ⟨(i 1).val % 256, by omega⟩

theorem attended_at (x0 : Mat 4096 1024) (x1 : Mat 512 2048) (i : (⟨2, ![4096, 1024]⟩ : Shape).Idx) (b : Fin 2) (s : Fin 2048)
    (h : Fin 4) (d : Fin 256) (h0 : (i 0).val = b.val * 2048 + s.val) (h1 : (i 1).val = h.val * 256 + d.val) :
    attended x0 x1 i = ∑ k : Fin 256, soft (scores x0 x1 b s h) k * vRow x1 b h k d :=
  fun4_congr (attend x0 x1) (by dsimp only; omega) (by dsimp only; omega) (by dsimp only; omega) (by dsimp only; omega)

end Cert.Attn

end
-- ==== Proof.Attn.Forward.lean ====
/-
  The memory cross-attention.
-/
module

public import proofs.«01_k».proof.Defs
public import proofs.«01_k».proof.Proof.Prod.Spec
public import proofs.«01_k».proof.Proof.Attn.Attend
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel26Ideal.Own

open Cert.Kernel26Ideal Cert.Kernel26Ideal.Gen Cert.Attn Cert.Prod

section Payloads

variable (u0 : Vec Ideal S1024x256 .bf16) (u1 u2 : Vec Ideal S256x256 .bf16)

theorem attended_apply (r : Fin 1024) (d : Fin 256) :
    k0_pay1 u0 u1 u2 (ix2 r d) = ∑ k : Fin 256, soft (score (fun d => u0 (ix2 r d)) fun k d => u1 (ix2 k d)) k * u2 (ix2 k d) := by
  pointwise [k0_pay1, soft, expo, top, score]

end Payloads

variable (m : (ℓ : Loc nD τ sig) → Buf (Elt Ideal) ℓ) (c : Dev nD)

abbrev arg0 : Mat 4096 1024 := m ((c.tc : Thread nD τ).loc main_arg0)
abbrev arg1 : Mat 512 2048 := m ((c.tc : Thread nD τ).loc main_arg1)

theorem idx0 : ∀ t : Fin grid0.N, win0_0.index t = ![t.val / 8 * 2 + t.val % 2, t.val / 2 % 4] := by decide +kernel
theorem idx1 : ∀ t : Fin grid0.N, win0_1.index t = ![t.val / 8, t.val / 2 % 4] := by decide +kernel
theorem idx2 : ∀ t : Fin grid0.N, win0_2.index t = ![t.val / 8, 4 + t.val / 2 % 4] := by decide +kernel
theorem idx3 : ∀ t : Fin grid0.N, win0_3.index t = ![t.val / 8 * 2 + t.val % 2, t.val / 2 % 4] := by decide +kernel

theorem points (t : Fin cfg0.N) : t.val < 16 := by have := t.isLt; have : cfg0.N = 16 := N_0; omega

/-- The example, the head and the half of the tokens of a grid point. -/
abbrev exOf (t : Fin cfg0.N) : Fin 2 := ⟨t.val / 8, by have := points t; omega⟩
abbrev headOf (t : Fin cfg0.N) : Fin 4 := ⟨t.val / 2 % 4, by omega⟩
abbrev tokOf (t : Fin cfg0.N) (r : Fin 1024) : Fin 2048 := ⟨t.val % 2 * 1024 + r.val, by omega⟩

theorem blk0 (t : Fin cfg0.N) (r : Fin 1024) (d : Fin 256) :
    iblk m c 0 t (ix2 r d) = qRow (arg0 m c) (tok (exOf t) (tokOf t r)) (headOf t) d := by
  unfold qRow
  blk_ext [iblk, V, idx0 t]
theorem blk1 (t : Fin cfg0.N) (r d : Fin 256) : iblk m c 1 t (ix2 r d) = kRow (arg1 m c) (exOf t) (headOf t) r d := by
  unfold kRow
  blk_ext [iblk, V, idx1 t]
theorem blk2 (t : Fin cfg0.N) (r d : Fin 256) : iblk m c 2 t (ix2 r d) = vRow (arg1 m c) (exOf t) (headOf t) r d := by
  unfold vRow
  blk_ext [iblk, V, idx2 t]

theorem scores_blk (t : Fin cfg0.N) (r : Fin 1024) :
    (score (fun d => iblk m c 0 t (ix2 r d)) fun k d => iblk m c 1 t (ix2 k d))
      = scores (arg0 m c) (arg1 m c) (exOf t) (tokOf t r) (headOf t) := by
  unfold scores
  congr 1
  · funext d; exact blk0 m c t r d
  · funext k d; exact blk1 m c t k d

theorem array3 : (dats m 0 c).arrAt 3 cfg0.N = attended (arg0 m c) (arg1 m c) := by
  refine (dats m 0 c).arrAt_eq_of_covers 3 _ (by decide +kernel) fun t hf y => ?_
  blk_simp
  rw [after0_3, show out0_3 (iblk m c 0 t) (iblk m c 1 t) (iblk m c 2 t) y = k0_pay1 (iblk m c 0 t) (iblk m c 1 t) (iblk m c 2 t) y by frame_out <;> rfl]
  idx_vars y
  rw [attended_apply, scores_blk]
  rw [attended_at _ _ _ (exOf t) (tokOf t y0) (headOf t) y1 (by blk_simp [idx3 t]; dsimp only [exOf, tokOf]; omega) (by blk_simp [idx3 t])]
  show @Eq EReal _ _
  exact Finset.sum_congr rfl fun k _ => by rw [blk2]

end Cert.Kernel26Ideal.Own

namespace Cert.Reference26Ideal.Own

open Cert.Reference26Ideal Cert.Reference26Ideal.Gen Cert.Reference26Ideal.Read Cert.Attn Cert.Prod

variable (x0 : Mat 4096 1024) (x1 : Mat 512 2048)

theorem query_at (b : Fin 2) (s : Fin 2048) (h : Fin 4) (d : Fin 256) :
    val_main_v6 (F := Ideal) x0 (ix4 b s h d) = qRow x0 (tok b s) h d := by
  pointwise [val_main_v6, val_main_v5, val_main_v4]
  rfl
theorem key_at (b : Fin 2) (k : Fin 256) (h : Fin 4) (d : Fin 256) : val_main_v7 (F := Ideal) x1 (ix4 b k h d) = kRow x1 b h k d := by
  pointwise [val_main_v7, val_main_v2, val_main_v1, val_main_v0]
  rfl
theorem value_at (b : Fin 2) (k : Fin 256) (h : Fin 4) (d : Fin 256) : val_main_v8 (F := Ideal) x1 (ix4 b k h d) = vRow x1 b h k d := by
  pointwise [val_main_v8, val_main_v3, val_main_v1, val_main_v0]
  rfl
theorem score_at (b : Fin 2) (h : Fin 4) (s : Fin 2048) (k : Fin 256) :
    val_main_v11 (F := Ideal) x0 x1 (ix4 b h s k) = scores x0 x1 b s h k := by
  pointwise [val_main_v11, val_main_v10, val_main_v9, val_main_cst, query_at, key_at, scores, score]
theorem top_at (b : Fin 2) (h : Fin 4) (s : Fin 2048) : val_main_v12 (F := Ideal) x0 x1 (ix3 b h s) = top (scores x0 x1 b s h) := by
  pointwise [val_main_v12, val_main_cst_0, score_at, top]
theorem expo_at (b : Fin 2) (h : Fin 4) (s : Fin 2048) (k : Fin 256) :
    val_main_v18 (F := Ideal) x0 x1 (ix4 b h s k) = expo (scores x0 x1 b s h) k := by
  rw [val_main_v18_apply, val_main_v17_apply, val_main_v16_apply, val_main_v15_apply, val_main_v14_apply, score_at]
  have e : idx_main_v15 (idx_main_v16 (ix4 b h s k)) = ix3 b h s := by
    funext a
    match a with
    | ⟨0, _⟩ => rfl
    | ⟨1, _⟩ => rfl
    | ⟨2, _⟩ => rfl
  rw [e, top_at, val_main_v13_apply, val_main_cst_1_apply, Ideal.maximumf_def, show FloatOps.ofBits (F := Ideal) FTy.f32 0xFF800000#32 = ⊥ from low_eq, max_eq_right bot_le]
  rfl
theorem total_at (b : Fin 2) (h : Fin 4) (s : Fin 2048) : val_main_v19 (F := Ideal) x0 x1 (ix3 b h s) = ∑ k, expo (scores x0 x1 b s h) k := by
  pointwise [val_main_v19, val_main_cst_2, expo_at]
theorem soft_at (b : Fin 2) (h : Fin 4) (s : Fin 2048) (k : Fin 256) :
    val_main_v22 (F := Ideal) x0 x1 (ix4 b h s k) = soft (scores x0 x1 b s h) k := by
  pointwise [val_main_v22, val_main_v21, val_main_v20, total_at, expo_at, soft]
theorem out_at (b : Fin 2) (s : Fin 2048) (h : Fin 4) (d : Fin 256) :
    val_main_v24 (F := Ideal) x0 x1 (ix4 b s h d) = ∑ k : Fin 256, vRow x1 b h k d * soft (scores x0 x1 b s h) k := by
  pointwise [val_main_v24, val_main_v23, value_at, soft_at]

theorem v27_eq : val_main_v27 (F := Ideal) x0 x1 = attended x0 x1 := by
  funext i
  idx_vars i
  pointwise [val_main_v27, val_main_v26, val_main_v25, out_at]
  rw [attended_at x0 x1 (ix2 i0 i1) ⟨i0.val / 2048, by omega⟩ ⟨i0.val % 2048, by omega⟩ ⟨i1.val / 256, by omega⟩
    ⟨i1.val % 256, by omega⟩ (by show i0.val = _; dsimp only; omega) (by show i1.val = _; dsimp only; omega)]
  exact Finset.sum_congr rfl fun k _ => mul_comm _ _

end Cert.Reference26Ideal.Own

namespace Cert.Claim26

open Cert.Attn Cert.Prod

/-- The reference runs, keeps its arguments, and declares no semaphore. -/
theorem frame_reference : Cert.quiescent_Reference26Ideal (hReference26Ideal := Cert.Reference26Ideal.Gen.facts) :=
  fun m g _ => (θ_run _ _ _).mono
    (fun r h => ⟨fun c => (h c).2, Idealize.ShloMosaic.sem_eq_zero_of_no_sems (by decide) r.2⟩) (Cert.Reference26Ideal.Value.run m g)

/-- The call and its reference return the same arrays. -/
theorem algebraic : Cert.algebraic_Kernel26Ideal_Reference26Ideal
    (hKernel26Ideal := Cert.Kernel26Ideal.Gen.facts) (hReference26Ideal := Cert.Reference26Ideal.Gen.facts) := by
  intro m g m' g' hpre hag
  refine ⟨fun c => attended (Cert.Kernel26Ideal.Own.arg0 m c) (Cert.Kernel26Ideal.Own.arg1 m c),
    (θ_run _ _ _).mono (fun r h c => ?_) (Cert.Kernel26Ideal.Value.run_blocks m g),
    (θ_run _ _ _).mono (fun r h c => ?_) (Cert.Reference26Ideal.Value.run m' g')⟩
  · exact ⟨(h c).1.trans (Cert.Kernel26Ideal.Own.array3 m c), (h c).2.1, (h c).2.2⟩
  · obtain ⟨e0, e1⟩ := hag c
    refine ⟨(h c).1.trans ?_, (h c).2.1, (h c).2.2⟩
    · rw [e0, e1]
      exact (Cert.Reference26Ideal.Read.val_main_v27_eq (F := Ideal) (Cert.Kernel26Ideal.Own.arg0 m c) (Cert.Kernel26Ideal.Own.arg1 m c)).trans (Cert.Reference26Ideal.Own.v27_eq (Cert.Kernel26Ideal.Own.arg0 m c) (Cert.Kernel26Ideal.Own.arg1 m c))

end Cert.Claim26

end
-- ==== Proof.Gate.MergeFwd.lean ====
/-
  The merge of the two branches.
-/
module

public import proofs.«01_k».proof.Defs
public import proofs.«01_k».proof.Proof.Prod.Spec
public import proofs.«01_k».proof.Proof.Gate.Spec
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel27Ideal.Own

open Cert.Kernel27Ideal Cert.Kernel27Ideal.Gen Cert.Attn Cert.Prod Cert.Gate

theorem pay_apply (u0 u1 : Vec Ideal S512x512 .f32) (u2 u3 : Vec Ideal S512x512 .bf16) (u4 : Vec Ideal S1x512 .f32) (p q : Fin 512) :
    k0_pay1 u0 u1 u2 u3 u4 (ix2 p q) = Ideal.logistic (u0 (ix2 p q)) * u2 (ix2 p q)
      + Ideal.logistic (u1 (ix2 p q)) * (u3 (ix2 p q) * u4 (ix2 0 q)) := by
  pointwise [k0_pay1]

variable (m : (ℓ : Loc nD τ sig) → Buf (Elt Ideal) ℓ) (c : Dev nD)

abbrev arg0 : Mat 4096 3584 := m ((c.tc : Thread nD τ).loc main_arg0)
abbrev arg1 : Mat 4096 1024 := m ((c.tc : Thread nD τ).loc main_arg1)
abbrev arg2 : Mat 4096 1024 := m ((c.tc : Thread nD τ).loc main_arg2)
abbrev arg3 : (⟨1, ![1024]⟩ : Shape).Idx → EReal := m ((c.tc : Thread nD τ).loc main_arg3)

theorem idx0 : ∀ t : Fin grid0.N, win0_0.index t = ![t.val / 2, 3 + t.val % 2] := by decide +kernel
theorem idx1 : ∀ t : Fin grid0.N, win0_1.index t = ![t.val / 2, 5 + t.val % 2] := by decide +kernel
theorem idx2 : ∀ t : Fin grid0.N, win0_2.index t = ![t.val / 2, t.val % 2] := by decide +kernel
theorem idx3 : ∀ t : Fin grid0.N, win0_3.index t = ![t.val / 2, t.val % 2] := by decide +kernel
theorem idx4 : ∀ t : Fin grid0.N, win0_4.index t = ![0, t.val % 2] := by decide +kernel
theorem idx5 : ∀ t : Fin grid0.N, win0_5.index t = ![t.val / 2, t.val % 2] := by decide +kernel

theorem points (t : Fin cfg0.N) : t.val < 16 := by have := t.isLt; have : cfg0.N = 16 := N_0; omega

/-- The row and the column of the whole matrices that a tile's row and column are. -/
abbrev at' (t : Fin cfg0.N) (p : Fin 512) : Fin 4096 := ⟨t.val / 2 * 512 + p.val, by have := points t; omega⟩
abbrev col (t : Fin cfg0.N) (q : Fin 512) : Fin 1024 := ⟨t.val % 2 * 512 + q.val, by have := points t; omega⟩

theorem blk0 (t : Fin cfg0.N) (p q : Fin 512) : iblk m c 0 t (ix2 p q) = arg0 m c (ix2 (at' t p) ⟨(3 + t.val % 2) * 512 + q.val, by have := points t; omega⟩) := by
  have e : iblk m c 0 t (ix2 p q) = V m c main_arg0 (ix2 (at' t p) ⟨(3 + t.val % 2) * 512 + q.val, by have := points t; omega⟩) := by blk_ext [iblk, idx0 t]
  exact e.trans (congrFun (V_main_arg0 m c) _)
theorem blk1 (t : Fin cfg0.N) (p q : Fin 512) : iblk m c 1 t (ix2 p q) = arg0 m c (ix2 (at' t p) ⟨(5 + t.val % 2) * 512 + q.val, by have := points t; omega⟩) := by
  have e : iblk m c 1 t (ix2 p q) = V m c main_arg0 (ix2 (at' t p) ⟨(5 + t.val % 2) * 512 + q.val, by have := points t; omega⟩) := by blk_ext [iblk, idx1 t]
  exact e.trans (congrFun (V_main_arg0 m c) _)
theorem blk2 (t : Fin cfg0.N) (p q : Fin 512) : iblk m c 2 t (ix2 p q) = arg1 m c (ix2 (at' t p) (col t q)) := by
  have e : iblk m c 2 t (ix2 p q) = V m c main_arg1 (ix2 (at' t p) (col t q)) := by blk_ext [iblk, idx2 t]
  exact e.trans (congrFun (V_main_arg1 m c) _)
theorem blk3 (t : Fin cfg0.N) (p q : Fin 512) : iblk m c 3 t (ix2 p q) = arg2 m c (ix2 (at' t p) (col t q)) := by
  have e : iblk m c 3 t (ix2 p q) = V m c main_arg2 (ix2 (at' t p) (col t q)) := by blk_ext [iblk, idx3 t]
  exact e.trans (congrFun (V_main_arg2 m c) _)
theorem gain (q : Fin 1024) : V m c main_v0 (ix2 0 q) = arg3 m c (ix1 q) := by
  unfold_abbrev_sides
  after_results
  pointwise []
theorem blk4 (t : Fin cfg0.N) (q : Fin 512) : iblk m c 4 t (ix2 0 q) = arg3 m c (ix1 (col t q)) := by
  have e : iblk m c 4 t (ix2 0 q) = V m c main_v0 (ix2 0 (col t q)) := by blk_ext [iblk, idx4 t]
  exact e.trans (gain m c _)

theorem gateA_blk (t : Fin cfg0.N) (p q : Fin 512) : Ideal.logistic (iblk m c 0 t (ix2 p q)) = gateA (arg0 m c) (at' t p) (col t q) := by
  rw [blk0]
  exact congrArg (fun j => Ideal.logistic (arg0 m c (ix2 (at' t p) j))) (Fin.ext (by have := points t; dsimp only; omega))
theorem gateB_blk (t : Fin cfg0.N) (p q : Fin 512) : Ideal.logistic (iblk m c 1 t (ix2 p q)) = gateB (arg0 m c) (at' t p) (col t q) := by
  rw [blk1]
  exact congrArg (fun j => Ideal.logistic (arg0 m c (ix2 (at' t p) j))) (Fin.ext (by have := points t; dsimp only; omega))

theorem array5 : (dats m 0 c).arrAt 5 cfg0.N = merge (arg0 m c) (arg1 m c) (arg2 m c) (fun j => arg3 m c (ix1 j)) := by
  refine (dats m 0 c).arrAt_eq_of_covers 5 _ (by decide +kernel) fun t hf y => ?_
  blk_simp
  rw [after0_5, show out0_5 (iblk m c 0 t) (iblk m c 1 t) (iblk m c 2 t) (iblk m c 3 t) (iblk m c 4 t) y
    = k0_pay1 (iblk m c 0 t) (iblk m c 1 t) (iblk m c 2 t) (iblk m c 3 t) (iblk m c 4 t) y by frame_out <;> rfl]
  idx_vars y
  rw [pay_apply, gateA_blk, gateB_blk, blk2, blk3, blk4, merge_at _ _ _ _ _ (at' t y0) (col t y1) (by blk_simp [idx5 t]) (by blk_simp [idx5 t])]

end Cert.Kernel27Ideal.Own

namespace Cert.Reference27Ideal.Own

open Cert.Reference27Ideal Cert.Reference27Ideal.Gen Cert.Reference27Ideal.Read Cert.Attn Cert.Prod Cert.Gate

variable (x0 : Mat 4096 3584) (x1 : Mat 4096 1024) (x2 : Mat 4096 1024) (x3 : (⟨1, ![1024]⟩ : Shape).Idx → EReal)

theorem v25_eq : val_main_v25 (F := Ideal) x0 x1 x2 x3 = merge x0 x1 x2 (fun j => x3 (ix1 j)) := by
  funext i
  idx_vars i
  rw [merge_at _ _ _ _ _ i0 i1 rfl rfl]
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rfl

end Cert.Reference27Ideal.Own

namespace Cert.Claim27

open Cert.Attn Cert.Prod Cert.Gate

/-- The reference runs, keeps its arguments, and declares no semaphore. -/
theorem frame_reference : Cert.quiescent_Reference27Ideal (hReference27Ideal := Cert.Reference27Ideal.Gen.facts) :=
  fun m g _ => (θ_run _ _ _).mono
    (fun r h => ⟨fun c => (h c).2, Idealize.ShloMosaic.sem_eq_zero_of_no_sems (by decide) r.2⟩) (Cert.Reference27Ideal.Value.run m g)

/-- The call and its reference return the same arrays. -/
theorem algebraic : Cert.algebraic_Kernel27Ideal_Reference27Ideal
    (hKernel27Ideal := Cert.Kernel27Ideal.Gen.facts) (hReference27Ideal := Cert.Reference27Ideal.Gen.facts) := by
  intro m g m' g' hpre hag
  refine ⟨fun c => merge (Cert.Kernel27Ideal.Own.arg0 m c) (Cert.Kernel27Ideal.Own.arg1 m c) (Cert.Kernel27Ideal.Own.arg2 m c) (fun j => (Cert.Kernel27Ideal.Own.arg3 m c) (ix1 j)),
    (θ_run _ _ _).mono (fun r h c => ?_) (Cert.Kernel27Ideal.Value.run_blocks m g),
    (θ_run _ _ _).mono (fun r h c => ?_) (Cert.Reference27Ideal.Value.run m' g')⟩
  · exact ⟨(h c).1.trans (Cert.Kernel27Ideal.Own.array5 m c), (h c).2.1, (h c).2.2.1, (h c).2.2.2.1, (h c).2.2.2.2⟩
  · obtain ⟨e0, e1, e2, e3⟩ := hag c
    refine ⟨(h c).1.trans ?_, (h c).2.1, (h c).2.2.1, (h c).2.2.2.1, (h c).2.2.2.2⟩
    · rw [e0, e1, e2, e3]
      exact (Cert.Reference27Ideal.Read.val_main_v25_eq (F := Ideal) (Cert.Kernel27Ideal.Own.arg0 m c) (Cert.Kernel27Ideal.Own.arg1 m c) (Cert.Kernel27Ideal.Own.arg2 m c) (Cert.Kernel27Ideal.Own.arg3 m c)).trans (Cert.Reference27Ideal.Own.v25_eq (Cert.Kernel27Ideal.Own.arg0 m c) (Cert.Kernel27Ideal.Own.arg1 m c) (Cert.Kernel27Ideal.Own.arg2 m c) (Cert.Kernel27Ideal.Own.arg3 m c))

end Cert.Claim27

end
-- ==== Proof.Conv.Spec.lean ====
/-
  Causal depthwise convolutions: what a column holds some tokens before, and the kernels' rotation that reads it.
-/
module

public import proofs.«01_k».proof.Proof.Prod.Spec
public import Idealize.ShloMosaic.Lib.Pipeline.ValueKit
public import Idealize.ShloMosaic.Lib.WordCmp

@[expose] public section

noncomputable section

namespace Cert.Conv

open Idealize.ShloMosaic Cert.Attn

/-- What a column of 2048 tokens holds `s` tokens before; zero before the first one. -/
def delayed (s : ℕ) (f : Fin 2048 → EReal) (r : Fin 2048) : EReal :=
  if h : s ≤ r.val then f ⟨r.val - s, by omega⟩ else 0

/-- What a column of 2048 tokens holds `s` tokens later; zero after the last one. -/
def advanced (s : ℕ) (f : Fin 2048 → EReal) (r : Fin 2048) : EReal :=
  if h : r.val + s < 2048 then f ⟨r.val + s, h⟩ else 0

theorem delayed_zero (f : Fin 2048 → EReal) (r : Fin 2048) : delayed 0 f r = f r := dif_pos (Nat.zero_le _)
theorem advanced_zero (f : Fin 2048 → EReal) (r : Fin 2048) : advanced 0 f r = f r := dif_pos r.isLt

/-- A rotation towards the later tokens whose first ones are replaced by zero. -/
theorem delay_eq (s : ℕ) (hs : s < 2048) (f : Fin 2048 → EReal) (r : Fin 2048) (h : (r.val + 2048 - s) % 2048 < 2048) :
    Scalar.select (IntOp.cmpi CmpIPredicate.sge (BitVec.ofNat 32 r.val) (BitVec.ofNat 32 s))
      (f ⟨(r.val + 2048 - s) % 2048, h⟩) (0 : EReal) = delayed s f r := by
  rw [WordCmp.cmpi_sge_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases g : s ≤ r.val
  · rw [delayed, dif_pos g, decide_eq_true g]
    exact congrArg f (Fin.ext (show (r.val + 2048 - s) % 2048 = r.val - s by omega))
  · rw [delayed, dif_neg g, decide_eq_false g]
    rfl

/-- A rotation towards the earlier tokens whose last ones are replaced by zero. -/
theorem advance_eq (s : ℕ) (hs : s < 2048) (f : Fin 2048 → EReal) (r : Fin 2048) (h : (r.val + 2048 - (2048 - s)) % 2048 < 2048) :
    Scalar.select (IntOp.cmpi CmpIPredicate.slt (BitVec.ofNat 32 r.val) (BitVec.ofNat 32 (2048 - s)))
      (f ⟨(r.val + 2048 - (2048 - s)) % 2048, h⟩) (0 : EReal) = advanced s f r := by
  rw [WordCmp.cmpi_slt_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases g : r.val + s < 2048
  · rw [advanced, dif_pos g, decide_eq_true (show r.val < 2048 - s by omega)]
    exact congrArg f (Fin.ext (show (r.val + 2048 - (2048 - s)) % 2048 = r.val + s by omega))
  · rw [advanced, dif_neg g, decide_eq_false (show ¬ r.val < 2048 - s by omega)]
    rfl

variable {K n : ℕ}

/-- A causal convolution of a column with `K` taps, the last of which meets the token itself. -/
def conv (w : Fin K → EReal) (f : Fin 2048 → EReal) (r : Fin 2048) : EReal := ∑ k : Fin K, w k * delayed (K - 1 - k.val) f r

theorem conv_three (w : Fin 3 → EReal) (f : Fin 2048 → EReal) (r : Fin 2048) :
    conv w f r = w 0 * delayed 2 f r + w 1 * delayed 1 f r + w 2 * f r := by
  rw [conv, Fin.sum_univ_three, ← delayed_zero f r]
  rfl

/-- One column of one of the two sequences. -/
def column (x : Mat 4096 n) (b : Fin 2) (q : Fin n) (r : Fin 2048) : EReal := x (ix2 ⟨b.val * 2048 + r.val, by omega⟩ q)

/-- The convolution of every column of both sequences. -/
def conved (w : Mat K n) (x : Mat 4096 n) : Mat 4096 n := fun i =>
  conv (fun k => w (ix2 k (i 1))) (column x ⟨(i 0).val / 2048, by have : (i 0).val < 4096 := (i 0).isLt; omega⟩ (i 1)) ⟨(i 0).val % 2048, Nat.mod_lt _ (by norm_num)⟩

theorem conved_at (w : Mat K n) (x : Mat 4096 n) (b : Fin 2) (r : Fin 2048) (q : Fin n) (h : b.val * 2048 + r.val < 4096) :
    conved w x (ix2 ⟨b.val * 2048 + r.val, h⟩ q) = conv (fun k => w (ix2 k q)) (column x b q) r := by
  have e0 : (⟨(b.val * 2048 + r.val) / 2048, by omega⟩ : Fin 2) = b := Fin.ext (show (b.val * 2048 + r.val) / 2048 = b.val by omega)
  have e1 : (⟨(b.val * 2048 + r.val) % 2048, Nat.mod_lt _ (by norm_num)⟩ : Fin 2048) = r := Fin.ext (show (b.val * 2048 + r.val) % 2048 = r.val by omega)
  show conv _ (column x ⟨(b.val * 2048 + r.val) / 2048, _⟩ q) ⟨(b.val * 2048 + r.val) % 2048, _⟩ = _
  rw [e0, e1]
  rfl

/-- The smooth gate's literals. -/
abbrev cubic : EReal := Ideal.ofBits FTy.f32 0x3D372713#32
abbrev slope : EReal := Ideal.ofBits FTy.f32 0x3F4C422A#32
abbrev half : EReal := Ideal.ofBits FTy.f32 0x3F000000#32

/-- The smooth gate, by the hyperbolic tangent. -/
def gelu (g : EReal) : EReal := g * (half * (1 + Ideal.tanh (slope * (g + cubic * (g * g * g)))))

/-- The convolved first half of the columns, gated, times the convolved second half. -/
def gated (w : Mat 3 5632) (x : Mat 4096 5632) : Mat 4096 2816 := fun i =>
  gelu (conved w x (ix2 (i 0) ⟨(i 1).val, by have : (i 1).val < 2816 := (i 1).isLt; omega⟩))
    * conved w x (ix2 (i 0) ⟨2816 + (i 1).val, by have : (i 1).val < 2816 := (i 1).isLt; omega⟩)

theorem gated_at (w : Mat 3 5632) (x : Mat 4096 5632) (i : (⟨2, ![4096, 2816]⟩ : Shape).Idx) (b : Fin 2) (r : Fin 2048) (q : Fin 2816)
    (h0 : (i 0).val = b.val * 2048 + r.val) (h1 : (i 1).val = q.val) : gated w x i
      = gelu (conv (fun k => w (ix2 k ⟨q.val, by omega⟩)) (column x b ⟨q.val, by omega⟩) r)
        * conv (fun k => w (ix2 k ⟨2816 + q.val, by omega⟩)) (column x b ⟨2816 + q.val, by omega⟩) r := by
  obtain rfl : i 1 = q := Fin.ext h1
  have e (q : Fin 5632) : conved w x (ix2 (⟨(i 0).val, by omega⟩ : Fin 4096) q) = conv (fun k => w (ix2 k q)) (column x b q) r := by
    rw [← conved_at _ _ _ _ _ (by omega)]
    exact congrArg (fun p => conved w x (ix2 p q)) (Fin.ext h0)
  exact congrArg₂ (fun x y => gelu x * y) (e _) (e _)

end Cert.Conv

end
-- ==== Proof.Pool.Spec.lean ====
/-
  Trailing windows: sums over the last tokens, added up by doubling or read off a band of ones.
-/
module

public import proofs.«01_k».proof.Proof.Conv.Spec

@[expose] public section

noncomputable section

namespace Cert.Pool

open Idealize.ShloMosaic Cert.Attn Cert.Prod Cert.Conv

/-- The sum of a column over the last `w` tokens. -/
def total (w : ℕ) (f : Fin 2048 → EReal) (r : Fin 2048) : EReal := ∑ j ∈ Finset.range w, delayed j f r

theorem total_one (f : Fin 2048 → EReal) (r : Fin 2048) : total 1 f r = f r := by
  rw [total, Finset.sum_range_one, delayed_zero]

/-- Two delays add up. -/
theorem delayed_delayed (s j : ℕ) (f : Fin 2048 → EReal) (r : Fin 2048) : delayed s (fun p => delayed j f p) r = delayed (s + j) f r := by
  by_cases hs : s ≤ r.val
  · by_cases hj : j ≤ r.val - s
    · rw [delayed, dif_pos hs, delayed, dif_pos (show j ≤ r.val - s from hj), delayed, dif_pos (show s + j ≤ r.val by omega)]
      exact congrArg f (Fin.ext (show r.val - s - j = r.val - (s + j) by omega))
    · rw [delayed, dif_pos hs, delayed, dif_neg (show ¬ j ≤ r.val - s from hj), delayed, dif_neg (show ¬ s + j ≤ r.val by omega)]
  · rw [delayed, dif_neg hs, delayed, dif_neg (show ¬ s + j ≤ r.val by omega)]

theorem delayed_total (s w : ℕ) (f : Fin 2048 → EReal) (r : Fin 2048) :
    delayed s (fun p => total w f p) r = ∑ j ∈ Finset.range w, delayed (s + j) f r := by
  by_cases hs : s ≤ r.val
  · rw [delayed, dif_pos hs, total]
    refine Finset.sum_congr rfl fun j _ => ?_
    rw [← delayed_delayed, delayed, delayed, dif_pos hs]
    rfl
  · rw [delayed, dif_neg hs]
    refine (Finset.sum_eq_zero fun j _ => ?_).symm
    rw [delayed, dif_neg (by omega)]

/-- A window and the window before it. -/
theorem total_double (w : ℕ) (f : Fin 2048 → EReal) (r : Fin 2048) :
    total w f r + delayed w (fun p => total w f p) r = total (w + w) f r := by
  rw [delayed_total, total, total, Finset.sum_range_add]

/-- A delay picks one token. -/
theorem delayed_sum (j : ℕ) (f : Fin 2048 → EReal) (r : Fin 2048) : delayed j f r = ∑ s : Fin 2048, if s.val + j = r.val then f s else 0 := by
  by_cases h : j ≤ r.val
  · rw [Finset.sum_eq_single ⟨r.val - j, by omega⟩, delayed, dif_pos h, if_pos (show r.val - j + j = r.val by omega)]
    · intro b _ hb
      exact if_neg fun e => hb (Fin.ext (show b.val = r.val - j by omega))
    · exact fun hn => absurd (Finset.mem_univ _) hn
  · rw [delayed, dif_neg h]
    exact (Finset.sum_eq_zero fun s _ => if_neg (by omega)).symm

/-- A window as a sum over every token, those outside of it counted as zero. -/
theorem total_band (w : ℕ) (f : Fin 2048 → EReal) (r : Fin 2048) :
    total w f r = ∑ s : Fin 2048, if s.val ≤ r.val ∧ r.val < s.val + w then f s else 0 := by
  rw [total, Finset.sum_congr rfl fun j _ => delayed_sum j f r, Finset.sum_comm]
  refine Finset.sum_congr rfl fun s _ => ?_
  by_cases h : s.val ≤ r.val ∧ r.val < s.val + w
  · rw [if_pos h, Finset.sum_eq_single (r.val - s.val), if_pos (by omega)]
    · exact fun b _ hb => if_neg (by omega)
    · exact fun hn => absurd (Finset.mem_range.mpr (by omega)) hn
  · rw [if_neg h]
    exact Finset.sum_eq_zero fun j hj => if_neg (by have := Finset.mem_range.mp hj; omega)

/-- The band of ones, as comparisons of token numbers. -/
theorem band_eq (w : ℕ) (hw : w ≤ 16) (s r : Fin 2048) : FloatOps.uitofp (F := Ideal) FTy.f32
      (IntOp.andi (IntOp.cmpi CmpIPredicate.sle (BitVec.ofNat 32 s.val) (BitVec.ofNat 32 r.val))
        (IntOp.cmpi CmpIPredicate.slt (BitVec.ofNat 32 r.val) (IntOp.addi (BitVec.ofNat 32 s.val) (BitVec.ofNat 32 w))))
      = if s.val ≤ r.val ∧ r.val < s.val + w then (1 : EReal) else 0 := by
  rw [show IntOp.addi (BitVec.ofNat 32 s.val) (BitVec.ofNat 32 w) = BitVec.ofNat 32 (s.val + w) from (BitVec.ofNat_add _ _).symm,
    WordCmp.cmpi_sle_of_lt (by rw [BitVec.toNat_ofNat]; omega) (by rw [BitVec.toNat_ofNat]; omega),
    WordCmp.cmpi_slt_of_lt (by rw [BitVec.toNat_ofNat]; omega) (by rw [BitVec.toNat_ofNat]; omega), BitVec.toNat_ofNat, BitVec.toNat_ofNat,
    BitVec.toNat_ofNat, Nat.mod_eq_of_lt (by omega), Nat.mod_eq_of_lt (by omega), Nat.mod_eq_of_lt (by omega)]
  by_cases h1 : s.val ≤ r.val
  · by_cases h2 : r.val < s.val + w
    · rw [if_pos ⟨h1, h2⟩, decide_eq_true h1, decide_eq_true h2]
      show ((((1 : ℕ) : ℝ)) : EReal) = 1
      norm_num
    · rw [if_neg fun h => h2 h.2, decide_eq_true h1, decide_eq_false h2]
      show ((((0 : ℕ) : ℝ)) : EReal) = 0
      norm_num
  · rw [if_neg fun h => h1 h.1, decide_eq_false h1]
    have e (b : Bool) : IntOp.andi (BitVec.ofBool false) (BitVec.ofBool b) = 0#1 := by cases b <;> rfl
    rw [e]
    show ((((0 : ℕ) : ℝ)) : EReal) = 0
    norm_num

/-- How many tokens a window of at most `w` holds. -/
abbrev counted (w : BitVec 32) (p : Fin 2048) : EReal :=
  FloatOps.sitofp (F := Ideal) FTy.f32 (IntOp.minsi (IntOp.addi (BitVec.ofNat 32 p.val) 1#32) w)

/-- A column's trailing mean over `2 ^ (g + 1)` tokens, less the token. -/
def contrast (g : ℕ) (f : Fin 2048 → EReal) (p : Fin 2048) : EReal :=
  Ideal.div (total (2 ^ (g + 1)) f p) (counted (2#32 <<< g) p) - f p

/-- The pooled groups' projection: group `g` has 128 columns, from column 1024 on, and 256 results. -/
def pooled (x : Mat 4096 3584) (w : Stack 4 256 128) : Mat 4096 1024 := fun i =>
  ∑ c : Fin 128, contrast ((i 1).val / 256) (column x ⟨(i 0).val / 2048, by have : (i 0).val < 4096 := (i 0).isLt; omega⟩
      ⟨1024 + ((i 1).val / 256 * 128 + c.val), by have : (i 1).val < 1024 := (i 1).isLt; omega⟩) ⟨(i 0).val % 2048, Nat.mod_lt _ (by norm_num)⟩
    * w (ix3 ⟨(i 1).val / 256, by have : (i 1).val < 1024 := (i 1).isLt; omega⟩ ⟨(i 1).val % 256, Nat.mod_lt _ (by norm_num)⟩ c)

theorem pooled_at (x : Mat 4096 3584) (w : Stack 4 256 128) (i : (⟨2, ![4096, 1024]⟩ : Shape).Idx) (b : Fin 2) (p : Fin 2048) (g : Fin 4)
    (d : Fin 256) (h0 : (i 0).val = b.val * 2048 + p.val) (h1 : (i 1).val = g.val * 256 + d.val) : pooled x w i
      = ∑ c : Fin 128, contrast g.val (column x b ⟨1024 + (g.val * 128 + c.val), by omega⟩) p * w (ix3 g d c) := by
  have eb : (⟨(i 0).val / 2048, by omega⟩ : Fin 2) = b := Fin.ext (show (i 0).val / 2048 = b.val by omega)
  have ep : (⟨(i 0).val % 2048, Nat.mod_lt _ (by norm_num)⟩ : Fin 2048) = p := Fin.ext (show (i 0).val % 2048 = p.val by omega)
  have eg : (i 1).val / 256 = g.val := by omega
  have ed : (⟨(i 1).val % 256, Nat.mod_lt _ (by norm_num)⟩ : Fin 256) = d := Fin.ext (show (i 1).val % 256 = d.val by omega)
  unfold pooled
  simp only [eb, ep, eg, ed]

end Cert.Pool

end
-- ==== Proof.Pool.Later.lean ====
/-
  The pooling branch's gradient: sums over the next tokens, and the two results.
-/
module

public import proofs.«01_k».proof.Proof.Pool.Spec

@[expose] public section

noncomputable section

namespace Cert.Pool

open Idealize.ShloMosaic Cert.Attn Cert.Prod Cert.Conv

/-- The sum of a column over `w` tokens from the token itself on. -/
def ahead (w : ℕ) (f : Fin 2048 → EReal) (r : Fin 2048) : EReal := ∑ j ∈ Finset.range w, advanced j f r

theorem ahead_one (f : Fin 2048 → EReal) (r : Fin 2048) : ahead 1 f r = f r := by
  rw [ahead, Finset.sum_range_one, advanced_zero]

theorem advanced_nothing (s : ℕ) (r : Fin 2048) : advanced s (fun _ => 0) r = 0 := by
  unfold advanced
  split <;> rfl

/-- Two advances add up. -/
theorem advanced_advanced (s j : ℕ) (f : Fin 2048 → EReal) (r : Fin 2048) :
    advanced s (fun p => advanced j f p) r = advanced (s + j) f r := by
  by_cases hs : r.val + s < 2048
  · by_cases hj : r.val + s + j < 2048
    · rw [advanced, dif_pos hs, advanced, dif_pos (show r.val + s + j < 2048 from hj), advanced, dif_pos (show r.val + (s + j) < 2048 by omega)]
      exact congrArg f (Fin.ext (show r.val + s + j = r.val + (s + j) by omega))
    · rw [advanced, dif_pos hs, advanced, dif_neg (show ¬ r.val + s + j < 2048 from hj), advanced, dif_neg (show ¬ r.val + (s + j) < 2048 by omega)]
  · rw [advanced, dif_neg hs, advanced, dif_neg (show ¬ r.val + (s + j) < 2048 by omega)]

theorem advanced_spread (s k : ℕ) (n : ℕ → ℕ) (f : Fin 2048 → EReal) (r : Fin 2048) :
    advanced s (fun p => ∑ j ∈ Finset.range k, advanced (n j) f p) r = ∑ j ∈ Finset.range k, advanced (s + n j) f r := by
  by_cases hs : r.val + s < 2048
  · rw [advanced, dif_pos hs]
    refine Finset.sum_congr rfl fun j _ => ?_
    rw [← advanced_advanced, advanced, advanced, dif_pos hs]
    rfl
  · rw [advanced, dif_neg hs]
    refine (Finset.sum_eq_zero fun j _ => ?_).symm
    rw [advanced, dif_neg (by omega)]

/-- The sum over `k` of the next tokens, `s` apart. -/
def strided (k s : ℕ) (f : Fin 2048 → EReal) (r : Fin 2048) : EReal := ∑ j ∈ Finset.range k, advanced (s * j) f r

theorem strided_one (s : ℕ) (f : Fin 2048 → EReal) (r : Fin 2048) : strided 1 s f r = f r := by
  rw [strided, Finset.sum_range_one, Nat.mul_zero, advanced_zero]

theorem strided_ahead (k : ℕ) (f : Fin 2048 → EReal) (r : Fin 2048) : strided k 1 f r = ahead k f r := by
  simp only [strided, ahead, Nat.one_mul]

theorem split_even_odd (s k : ℕ) (g : ℕ → EReal) :
    ∑ j ∈ Finset.range k, g ((s + s) * j) + ∑ j ∈ Finset.range k, g (s + (s + s) * j) = ∑ j ∈ Finset.range (k + k), g (s * j) := by
  induction k with
  | zero => simp
  | succ k ih =>
    rw [show k + 1 + (k + 1) = k + k + 1 + 1 by omega, Finset.sum_range_succ, Finset.sum_range_succ, Finset.sum_range_succ, Finset.sum_range_succ,
      ← ih, add_add_add_comm, ← add_assoc, show (s + s) * k = s * (k + k) by ring, show s + s * (k + k) = s * (k + k + 1) by ring]

/-- Tokens twice as far apart, and those in between. -/
theorem strided_double (k s : ℕ) (f : Fin 2048 → EReal) (r : Fin 2048) :
    strided k (s + s) f r + advanced s (fun p => strided k (s + s) f p) r = strided (k + k) s f r := by
  unfold strided
  rw [advanced_spread, split_even_odd s k fun j => advanced j f r]

theorem advanced_sum (j : ℕ) (f : Fin 2048 → EReal) (r : Fin 2048) : advanced j f r = ∑ t : Fin 2048, if r.val + j = t.val then f t else 0 := by
  by_cases h : r.val + j < 2048
  · rw [Finset.sum_eq_single ⟨r.val + j, h⟩, advanced, dif_pos h, if_pos rfl]
    · intro b _ hb
      exact if_neg fun e => hb (Fin.ext (show b.val = r.val + j by omega))
    · exact fun hn => absurd (Finset.mem_univ _) hn
  · rw [advanced, dif_neg h]
    exact (Finset.sum_eq_zero fun t _ => if_neg (by omega)).symm

/-- The sum over every token, those outside of the window counted as zero. -/
theorem ahead_band (w : ℕ) (f : Fin 2048 → EReal) (r : Fin 2048) :
    ahead w f r = ∑ t : Fin 2048, if r.val ≤ t.val ∧ t.val < r.val + w then f t else 0 := by
  rw [ahead, Finset.sum_congr rfl fun j _ => advanced_sum j f r, Finset.sum_comm]
  refine Finset.sum_congr rfl fun t _ => ?_
  by_cases h : r.val ≤ t.val ∧ t.val < r.val + w
  · rw [if_pos h, Finset.sum_eq_single (t.val - r.val), if_pos (by omega)]
    · exact fun b _ hb => if_neg (by omega)
    · exact fun hn => absurd (Finset.mem_range.mpr (by omega)) hn
  · rw [if_neg h]
    exact Finset.sum_eq_zero fun j hj => if_neg (by have := Finset.mem_range.mp hj; omega)

/-- What a group's projection passes back to one pooled column. -/
def carried (d : Mat 4096 1024) (w : Stack 4 256 128) (b : Fin 2) (g : Fin 4) (q : Fin 128) (p : Fin 2048) : EReal :=
  ∑ k : Fin 256, d (ix2 ⟨b.val * 2048 + p.val, by omega⟩ ⟨g.val * 256 + k.val, by omega⟩) * w (ix3 g k q)

/-- The gradient through the trailing means less the token. -/
def recall (g : ℕ) (f : Fin 2048 → EReal) (p : Fin 2048) : EReal :=
  ahead (2 ^ (g + 1)) (fun t => Ideal.div (f t) (counted (2#32 <<< g) t)) p - f p

/-- The gradient of the branch's 512 columns. -/
def pooledBack (w : Stack 4 256 128) (d : Mat 4096 1024) : Mat 4096 512 := fun i =>
  recall ((i 1).val / 128) (carried d w ⟨(i 0).val / 2048, by have : (i 0).val < 4096 := (i 0).isLt; omega⟩
    ⟨(i 1).val / 128, by have : (i 1).val < 512 := (i 1).isLt; omega⟩ ⟨(i 1).val % 128, Nat.mod_lt _ (by norm_num)⟩)
    ⟨(i 0).val % 2048, Nat.mod_lt _ (by norm_num)⟩

theorem pooledBack_at (w : Stack 4 256 128) (d : Mat 4096 1024) (i : (⟨2, ![4096, 512]⟩ : Shape).Idx) (b : Fin 2) (p : Fin 2048) (g : Fin 4)
    (q : Fin 128) (h0 : (i 0).val = b.val * 2048 + p.val) (h1 : (i 1).val = g.val * 128 + q.val) :
    pooledBack w d i = recall g.val (carried d w b g q) p := by
  have eb : (⟨(i 0).val / 2048, by omega⟩ : Fin 2) = b := Fin.ext (show (i 0).val / 2048 = b.val by omega)
  have ep : (⟨(i 0).val % 2048, Nat.mod_lt _ (by norm_num)⟩ : Fin 2048) = p := Fin.ext (show (i 0).val % 2048 = p.val by omega)
  have eg : (i 1).val / 128 = g.val := by omega
  have ed : (⟨(i 1).val % 128, Nat.mod_lt _ (by norm_num)⟩ : Fin 128) = q := Fin.ext (show (i 1).val % 128 = q.val by omega)
  unfold pooledBack
  simp only [eb, ep, eg, ed]

/-- One sequence's part of the gradient of a group's weight. -/
def weightPart (x : Mat 4096 3584) (d : Mat 4096 1024) (g : Fin 4) (k : Fin 256) (q : Fin 128) (b : Fin 2) : EReal :=
  ∑ p : Fin 2048, d (ix2 ⟨b.val * 2048 + p.val, by omega⟩ ⟨g.val * 256 + k.val, by omega⟩)
    * contrast g.val (column x b ⟨1024 + (g.val * 128 + q.val), by omega⟩) p

/-- The gradient of the groups' weights. -/
def pooledWeight (x : Mat 4096 3584) (d : Mat 4096 1024) : Stack 4 256 128 := fun i =>
  ∑ b : Fin 2, weightPart x d (i 0) (i 1) (i 2) b

theorem pooledWeight_at (x : Mat 4096 3584) (d : Mat 4096 1024) (i : (⟨3, ![4, 256, 128]⟩ : Shape).Idx) (g : Fin 4) (k : Fin 256) (q : Fin 128)
    (h0 : (i 0).val = g.val) (h1 : (i 1).val = k.val) (h2 : (i 2).val = q.val) :
    pooledWeight x d i = ∑ b : Fin 2, weightPart x d g k q b := by
  obtain rfl : i 0 = g := Fin.ext h0
  obtain rfl : i 1 = k := Fin.ext h1
  obtain rfl : i 2 = q := Fin.ext h2
  rfl

end Cert.Pool

end
-- ==== Proof.Pool.Bwd.lean ====
/-
  The pooling branch's gradient: of its 512 columns, and of the groups' projections.
-/
module

public import proofs.«01_k».proof.Proof.Prod.Spec
public import proofs.«01_k».proof.Proof.Pool.Later
public import proofs.«01_k».proof.Proof.Gen.Kernel28Ideal.Value
public import proofs.«01_k».proof.Defs
public import proofs.«01_k».proof.Proof.Gen.Reference28Ideal.Read
public import proofs.«01_k».proof.Proof.Gen.Reference28Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel28Ideal.Own

open Cert.Kernel28Ideal Cert.Kernel28Ideal.Gen Cert.Attn Cert.Prod Cert.Conv Cert.Pool

section Payloads

variable (i : grid0.Coords) (u y : Vec Ideal S2048x128 .f32) (w : Vec Ideal S1x256x128 .bf16) (d : Vec Ideal S2048x256 .bf16) (p : Fin 2048) (q : Fin 128)

theorem back_apply : k0_pay4 d w (ix2 p q) = ∑ k : Fin 256, d (ix2 p k) * w (ix3 0 k q) := by
  pointwise [k0_pay4]

theorem weight_apply (z : FVec Ideal S2048x128 .f32) (acc : Vec Ideal S1x256x128 .f32) (k : Fin 256) : k0_pay6 u z d acc (ix3 0 k q)
    = acc (ix3 0 k q) + ∑ p : Fin 2048, d (ix2 p k) * (z (ix2 p q) - u (ix2 p q)) := by
  pointwise [k0_pay6]

theorem zero_apply (j : S1x256x128.Idx) : k0_pay5 (F := Ideal) j = 0 := by
  idx_vars j
  pointwise [k0_pay5]

/-- One doubling of the kernel's windows. -/
def doubled (s : BitVec 32) (u : FVec Ideal S2048x128 .f32) : FVec Ideal S2048x128 .f32 :=
  addf u (select (cmpi .sge (iota .tc S2048x128 32 [0] iota_S2048x128_d0_w32) (broadcast S2048x128 s))
    (dynamicRotate 0 s none u rotates_S2048x128_d0) (broadcast S2048x128 (Scalar.ofBits .f32 0x00000000#32)))

theorem doubled_one (f : Fin 2048 → Fin 128 → EReal) (h : ∀ p q, u (ix2 p q) = total 1 (fun r => f r q) p) : doubled 1#32 u (ix2 p q) = total 2 (fun r => f r q) p := by
  rw [← total_double 1, ← delay_eq 1 (by norm_num) _ _ (Nat.mod_lt _ (by norm_num)), ← h, ← h]
  pointwise [doubled]
theorem doubled_two (f : Fin 2048 → Fin 128 → EReal) (h : ∀ p q, u (ix2 p q) = total 2 (fun r => f r q) p) : doubled 2#32 u (ix2 p q) = total 4 (fun r => f r q) p := by
  rw [← total_double 2, ← delay_eq 2 (by norm_num) _ _ (Nat.mod_lt _ (by norm_num)), ← h, ← h]
  pointwise [doubled]
theorem doubled_four (f : Fin 2048 → Fin 128 → EReal) (h : ∀ p q, u (ix2 p q) = total 4 (fun r => f r q) p) : doubled 4#32 u (ix2 p q) = total 8 (fun r => f r q) p := by
  rw [← total_double 4, ← delay_eq 4 (by norm_num) _ _ (Nat.mod_lt _ (by norm_num)), ← h, ← h]
  pointwise [doubled]
theorem doubled_eight (f : Fin 2048 → Fin 128 → EReal) (h : ∀ p q, u (ix2 p q) = total 8 (fun r => f r q) p) : doubled 8#32 u (ix2 p q) = total 16 (fun r => f r q) p := by
  rw [← total_double 8, ← delay_eq 8 (by norm_num) _ _ (Nat.mod_lt _ (by norm_num)), ← h, ← h]
  pointwise [doubled]

/-- How many tokens a window of at most `2 <<< g` holds. -/
theorem counts_apply : k0_pay2 (F := Ideal) i (ix2 p q) = counted (Scalar.shli 2#32 (BitVec.ofNat 32 (i 0).val)) p := by
  pointwise [k0_pay2]

theorem shifted : ∀ g : Fin 4, Scalar.shli 2#32 (BitVec.ofNat 32 g.val) = 2#32 <<< g.val := by decide +kernel

theorem window_eq : k0_pay3 i u = divf (Scalar.select (Scalar.cmpi .eq (BitVec.ofNat 32 (i 0).val) 0#32) (doubled 1#32 u)
    (Scalar.select (Scalar.cmpi .eq (BitVec.ofNat 32 (i 0).val) 1#32) (doubled 2#32 (doubled 1#32 u))
      (Scalar.select (Scalar.cmpi .eq (BitVec.ofNat 32 (i 0).val) 2#32) (doubled 4#32 (doubled 2#32 (doubled 1#32 u)))
        (doubled 8#32 (doubled 4#32 (doubled 2#32 (doubled 1#32 u))))))) (k0_pay2 i) := rfl

theorem window_apply (g : Fin 4) (h : (i 0).val = g.val) : k0_pay3 i u (ix2 p q)
    = Ideal.div (total (2 ^ (g.val + 1)) (fun r => u (ix2 r q)) p) (counted (2#32 <<< g.val) p) := by
  have h1 := fun p q => doubled_one u p q (fun r q => u (ix2 r q)) (fun p q => (total_one (fun r => u (ix2 r q)) p).symm)
  have h2 := fun p q => doubled_two (doubled 1#32 u) p q _ h1
  have h3 := fun p q => doubled_four _ p q _ h2
  have h4 := fun p q => doubled_eight _ p q _ h3
  rw [window_eq, ← shifted, ← h, ← counts_apply i p q, h]
  fin_cases g
  · show FloatOps.divf (doubled 1#32 u (ix2 p q)) _ = _
    rw [h1]; rfl
  · show FloatOps.divf (doubled 2#32 (doubled 1#32 u) (ix2 p q)) _ = _
    rw [h2]; rfl
  · show FloatOps.divf (doubled 4#32 (doubled 2#32 (doubled 1#32 u)) (ix2 p q)) _ = _
    rw [h3]; rfl
  · show FloatOps.divf (doubled 8#32 (doubled 4#32 (doubled 2#32 (doubled 1#32 u))) (ix2 p q)) _ = _
    rw [h4]; rfl

/-- What a column holds some tokens later, by the kernel's rotation. -/
def moved (s r : BitVec 32) (u : FVec Ideal S2048x128 .f32) : FVec Ideal S2048x128 .f32 :=
  select (cmpi .slt (iota .tc S2048x128 32 [0] iota_S2048x128_d0_w32) (broadcast S2048x128 s))
    (dynamicRotate 0 r none u rotates_S2048x128_d0) (broadcast S2048x128 (Scalar.ofBits .f32 0x00000000#32))

theorem moved1 (u : FVec Ideal S2048x128 .f32) (p : Fin 2048) (q : Fin 128) : moved 2047#32 2047#32 u (ix2 p q) = advanced 1 (fun r => u (ix2 r q)) p := by
  rw [← advance_eq 1 (by norm_num) _ _ (Nat.mod_lt _ (by norm_num))]
  pointwise [moved]
theorem moved2 (u : FVec Ideal S2048x128 .f32) (p : Fin 2048) (q : Fin 128) : moved 2046#32 2046#32 u (ix2 p q) = advanced 2 (fun r => u (ix2 r q)) p := by
  rw [← advance_eq 2 (by norm_num) _ _ (Nat.mod_lt _ (by norm_num))]
  pointwise [moved]
theorem moved4 (u : FVec Ideal S2048x128 .f32) (p : Fin 2048) (q : Fin 128) : moved 2044#32 2044#32 u (ix2 p q) = advanced 4 (fun r => u (ix2 r q)) p := by
  rw [← advance_eq 4 (by norm_num) _ _ (Nat.mod_lt _ (by norm_num))]
  pointwise [moved]
theorem moved8 (u : FVec Ideal S2048x128 .f32) (p : Fin 2048) (q : Fin 128) : moved 2040#32 2040#32 u (ix2 p q) = advanced 8 (fun r => u (ix2 r q)) p := by
  rw [← advance_eq 8 (by norm_num) _ _ (Nat.mod_lt _ (by norm_num))]
  pointwise [moved]

/-- The cotangent of the trailing sums, or zero. -/
abbrev quiet : FVec Ideal S2048x128 .f32 := broadcast S2048x128 (Scalar.ofBits .f32 0x00000000#32)
abbrev given (a n : BitVec 32) (e : FVec Ideal S2048x128 .f32) : FVec Ideal S2048x128 .f32 := Scalar.select (Scalar.cmpi .eq a n) e quiet

/-- The sums over the next tokens as the kernel adds them, of each group's cotangent. -/
def sums (e0 e1 e2 e3 : FVec Ideal S2048x128 .f32) : FVec Ideal S2048x128 .f32 :=
  let d8 := addf (addf e2 e3) (moved 2040#32 2040#32 e3)
  let d4 := addf (addf e1 d8) (moved 2044#32 2044#32 d8)
  let d2 := addf (addf e0 d4) (moved 2046#32 2046#32 d4)
  addf d2 (moved 2047#32 2047#32 d2)

/-- What the first result's block holds. -/
def first (a : BitVec 32) (n : FVec Ideal S2048x128 .f32) : FVec Ideal S2048x128 .bf16 :=
  k0_pay1 a (iota .tc S2048x128 32 [0] iota_S2048x128_d0_w32) (k0_pay4 d w) (k0_pay7 n d w) k0_pay8
    (k0_pay9 a (iota .tc S2048x128 32 [0] iota_S2048x128_d0_w32) n d w) (k0_pay10 a (iota .tc S2048x128 32 [0] iota_S2048x128_d0_w32) n d w)
    (k0_pay11 (iota .tc S2048x128 32 [0] iota_S2048x128_d0_w32)) 2044#32

theorem first_eq (a : BitVec 32) (n : FVec Ideal S2048x128 .f32) : first w d a n
    = truncf .bf16 (subf (sums (given a 0#32 (divf (k0_pay4 d w) n)) (given a 1#32 (divf (k0_pay4 d w) n)) (given a 2#32 (divf (k0_pay4 d w) n))
      (given a 3#32 (divf (k0_pay4 d w) n))) (k0_pay4 d w)) (by decide) := rfl

/-- A step of the sums at a group not yet met. -/
theorem idle (s : BitVec 32) (n : ℕ) (hs : ∀ v : FVec Ideal S2048x128 .f32, ∀ p q, moved s s v (ix2 p q) = advanced n (fun r => v (ix2 r q)) p)
    (e : FVec Ideal S2048x128 .f32) : addf (addf e quiet) (moved s s quiet) = e := by
  have z : quiet = (fun _ => (0 : EReal)) := by funext j; idx_vars j; pointwise [quiet]
  funext j
  idx_vars j
  show (e (ix2 j0 j1) + quiet (ix2 j0 j1)) + moved s s quiet (ix2 j0 j1) = e (ix2 j0 j1)
  rw [hs, z]
  show (e (ix2 j0 j1) + 0) + advanced n (fun _ => 0) j0 = e (ix2 j0 j1)
  rw [advanced_nothing, add_zero, add_zero]

theorem pass (e : FVec Ideal S2048x128 .f32) : addf quiet e = e := by
  have z : quiet = (fun _ => (0 : EReal)) := by funext j; idx_vars j; pointwise [quiet]
  funext j
  show quiet j + e j = e j
  rw [z]
  exact zero_add _

/-- A step of the sums: the tokens in between come in. -/
theorem grown (e : FVec Ideal S2048x128 .f32) (f : Fin 2048 → Fin 128 → EReal) (k n : ℕ) (s : BitVec 32)
    (hs : ∀ v : FVec Ideal S2048x128 .f32, ∀ p q, moved s s v (ix2 p q) = advanced n (fun r => v (ix2 r q)) p)
    (h : ∀ p q, e (ix2 p q) = strided k (n + n) (fun r => f r q) p) (p : Fin 2048) (q : Fin 128) :
    addf e (moved s s e) (ix2 p q) = strided (k + k) n (fun r => f r q) p := by
  rw [← strided_double, ← h]
  show e (ix2 p q) + moved s s e (ix2 p q) = _
  rw [hs]
  simp only [h]

theorem sums_apply (g : Fin 4) (e : FVec Ideal S2048x128 .f32) :
    sums (given (BitVec.ofNat 32 g.val) 0#32 e) (given (BitVec.ofNat 32 g.val) 1#32 e) (given (BitVec.ofNat 32 g.val) 2#32 e)
      (given (BitVec.ofNat 32 g.val) 3#32 e) (ix2 p q) = ahead (2 ^ (g.val + 1)) (fun r => e (ix2 r q)) p := by
  have h0 := fun n p q => (strided_one n (fun r => e (ix2 r q)) p).symm
  rw [← strided_ahead]
  fin_cases g
  · show sums e quiet quiet quiet (ix2 p q) = _
    simp only [sums, idle _ _ moved8, idle _ _ moved4, idle _ _ moved2]
    exact grown e _ 1 1 _ moved1 (h0 2) p q
  · show sums quiet e quiet quiet (ix2 p q) = _
    simp only [sums, idle _ _ moved8, idle _ _ moved4]
    simp only [pass]
    exact grown _ _ 2 1 _ moved1 (grown e _ 1 2 _ moved2 (h0 4)) p q
  · show sums quiet quiet e quiet (ix2 p q) = _
    simp only [sums, idle _ _ moved8, pass]
    exact grown _ _ 4 1 _ moved1 (grown _ _ 2 2 _ moved2 (grown e _ 1 4 _ moved4 (h0 8))) p q
  · show sums quiet quiet quiet e (ix2 p q) = _
    simp only [sums, pass]
    exact grown _ _ 8 1 _ moved1 (grown _ _ 4 2 _ moved2 (grown _ _ 2 4 _ moved4 (grown e _ 1 8 _ moved8 (h0 16)))) p q

/-- What the first result's block holds at an element. -/
theorem first_apply (g : Fin 4) (n : FVec Ideal S2048x128 .f32) (f : Fin 128 → Fin 2048 → EReal) (hf : ∀ p q, k0_pay4 d w (ix2 p q) = f q p)
    (hn : ∀ p q, n (ix2 p q) = counted (2#32 <<< g.val) p) : first w d (BitVec.ofNat 32 g.val) n (ix2 p q) = recall g.val (f q) p := by
  rw [first_eq]
  show sums _ _ _ _ (ix2 p q) - k0_pay4 d w (ix2 p q) = _
  rw [sums_apply, hf]
  show ahead _ (fun r => Ideal.div (k0_pay4 d w (ix2 r q)) (n (ix2 r q))) p - _ = _
  simp only [hf, hn]
  rfl

end Payloads

variable (m : (ℓ : Loc nD τ sig) → Buf (Elt Ideal) ℓ) (c : Dev nD)

abbrev arg0 : Mat 4096 3584 := m ((c.tc : Thread nD τ).loc main_arg0)
abbrev arg1 : Stack 4 256 128 := m ((c.tc : Thread nD τ).loc main_arg1)
abbrev arg2 : Mat 4096 1024 := m ((c.tc : Thread nD τ).loc main_arg2)

theorem idx0 : ∀ t : Fin grid0.N, win0_0.index t = ![t.val % 2, 8 + t.val / 2] := by decide +kernel
theorem idx1 : ∀ t : Fin grid0.N, win0_1.index t = ![t.val / 2, 0, 0] := by decide +kernel
theorem idx2 : ∀ t : Fin grid0.N, win0_2.index t = ![t.val % 2, t.val / 2] := by decide +kernel
theorem idx3 : ∀ t : Fin grid0.N, win0_3.index t = ![t.val % 2, t.val / 2] := by decide +kernel
theorem idx4 : ∀ t : Fin grid0.N, win0_4.index t = ![t.val / 2, 0, 0] := by decide +kernel
theorem group : ∀ t : Fin grid0.N, (grid0.coords t 0).val = t.val / 2 := by decide +kernel

theorem points (t : Fin cfg0.N) : t.val < 8 := by have := t.isLt; have : cfg0.N = 8 := N_0; omega

/-- A tile's sequence and its group. -/
abbrev seq (t : Fin cfg0.N) : Fin 2 := ⟨t.val % 2, Nat.mod_lt _ (by norm_num)⟩
abbrev grp (t : Fin cfg0.N) : Fin 4 := ⟨t.val / 2, by have := points t; omega⟩

theorem blk0 (t : Fin cfg0.N) (r : Fin 2048) (q : Fin 128) :
    iblk m c 0 t (ix2 r q) = column (arg0 m c) (seq t) ⟨1024 + ((grp t).val * 128 + q.val), by have := (grp t).isLt; omega⟩ r := by
  unfold column
  have := points t
  blk_ext [iblk, V, idx0 t] <;> omega
theorem blk1 (t : Fin cfg0.N) (k : Fin 256) (q : Fin 128) : iblk m c 1 t (ix3 0 k q) = arg1 m c (ix3 (grp t) k q) := by
  blk_ext [iblk, V, idx1 t]
theorem blk2 (t : Fin cfg0.N) (r : Fin 2048) (k : Fin 256) :
    iblk m c 2 t (ix2 r k) = arg2 m c (ix2 ⟨(seq t).val * 2048 + r.val, by have := (seq t).isLt; omega⟩ ⟨(grp t).val * 256 + k.val, by have := (grp t).isLt; omega⟩) := by
  have := points t
  blk_ext [iblk, V, idx2 t]

theorem back_blk (t : Fin cfg0.N) (p : Fin 2048) (q : Fin 128) :
    k0_pay4 (iblk m c 2 t) (iblk m c 1 t) (ix2 p q) = carried (arg2 m c) (arg1 m c) (seq t) (grp t) q p := by
  rw [back_apply, carried]
  exact Finset.sum_congr rfl fun k _ => by rw [blk1, blk2]

theorem counts_blk (t : Fin cfg0.N) (p : Fin 2048) (q : Fin 128) : k0_pay2 (F := Ideal) (grid0.coords t) (ix2 p q) = counted (2#32 <<< (grp t).val) p := by
  rw [counts_apply, group t, ← shifted]

theorem first_blk (t : Fin cfg0.N) (p : Fin 2048) (q : Fin 128) :
    first (iblk m c 1 t) (iblk m c 2 t) (BitVec.ofNat 32 (grid0.coords t 0).val) (k0_pay2 (grid0.coords t)) (ix2 p q)
      = recall (grp t).val (carried (arg2 m c) (arg1 m c) (seq t) (grp t) q) p := by
  rw [group t]
  exact first_apply _ _ p q (grp t) _ _ (back_blk m c t) (counts_blk t)

theorem array3 : (dats m 0 c).arrAt 3 cfg0.N = pooledBack (arg1 m c) (arg2 m c) := by
  refine (dats m 0 c).arrAt_eq_of_covers 3 _ (by decide +kernel) fun t hf y => ?_
  blk_simp
  rw [after0_3]
  have key : (outsAt0 m c t.val t.isLt).1 y
      = first (iblk m c 1 t) (iblk m c 2 t) (BitVec.ofNat 32 (grid0.coords t 0).val) (k0_pay2 (grid0.coords t)) y := by
    by_cases h : t.val % 2 = 0
    · rw [Gen.outsAt0_A m c t h]
      frame_out <;> rfl
    · rw [Gen.outsAt0_B m c t h]
      frame_out <;> rfl
  rw [key]
  idx_vars y
  rw [first_blk, pooledBack_at _ _ _ (seq t) y0 (grp t) y1 (by blk_simp [idx3 t]) (by blk_simp [idx3 t])]

/-- What one tile adds to a group's weight gradient. -/
def part (t : Fin cfg0.N) (j : S1x256x128.Idx) : EReal := weightPart (arg0 m c) (arg2 m c) (grp t) (j 1) (j 2) (seq t)

theorem step (t : Fin cfg0.N) (acc : Vec Ideal S1x256x128 .f32) (j : S1x256x128.Idx) :
    k0_pay6 (iblk m c 0 t) (k0_pay3 (grid0.coords t) (iblk m c 0 t)) (iblk m c 2 t) acc j = acc j + part m c t j := by
  idx_vars j
  obtain rfl : j0 = 0 := Subsingleton.elim _ _
  rw [weight_apply]
  refine congrArg (acc _ + ·) ?_
  show _ = weightPart (arg0 m c) (arg2 m c) (grp t) j1 j2 (seq t)
  unfold weightPart
  refine Finset.sum_congr rfl fun p _ => ?_
  rw [window_apply _ _ p j2 (grp t) (group t), blk2, contrast]
  simp only [blk0]

theorem array4 : (dats m 0 c).arrAt 4 cfg0.N = pooledWeight (arg0 m c) (arg2 m c) := by
  refine (dats m 0 c).arrAt_eq_of_covers 4 _ (by decide +kernel) fun t hf y => ?_
  blk_simp
  rw [after0_4]
  have key := Pipeline.eq_sum_fin_of_reset_step_apply_of_flush (fun n h => (outsAt0 m c n h).2) 2 (fun _ => 0)
    (part m c) (fun t h j => by rw [Gen.outsAt0_A m c t h]; frame_out; exact (step m c t _ j).trans (by rw [zero_apply]))
    (fun t h j => by rw [Gen.outsAt0_B m c t h]; frame_out; exact step m c t _ j) t ((flush0_4 t).mp hf) y
  rw [show (outsAt0 m c t.val t.isLt).2 y = _ from key, zero_add]
  idx_vars y
  rw [pooledWeight_at _ _ _ (grp t) y1 y2 (by blk_simp [idx4 t]) (by blk_simp [idx4 t]) (by blk_simp [idx4 t])]
  show @Eq EReal _ _
  refine Finset.sum_congr rfl fun a _ => ?_
  have h8 := points t
  have e : ∀ h, seq ⟨2 * (t.val / 2) + a.val, h⟩ = a := fun h => Fin.ext (by dsimp only; omega)
  have f : ∀ h, grp ⟨2 * (t.val / 2) + a.val, h⟩ = grp t := fun h => Fin.ext (by dsimp only; omega)
  unfold part
  rw [e, f]
  rfl

end Cert.Kernel28Ideal.Own

namespace Cert.Reference28Ideal.Own

open Cert.Reference28Ideal Cert.Reference28Ideal.Gen Cert.Reference28Ideal.Read Cert.Attn Cert.Prod Cert.Conv Cert.Pool

variable (x0 : Mat 4096 3584) (x1 : Stack 4 256 128) (x2 : Mat 4096 1024)

theorem group_at (b : Fin 2) (p : Fin 2048) (g : Fin 4) (q : Fin 128) : val_main_v4 (F := Ideal) x0 (ix4 b p g q)
    = column x0 b ⟨1024 + (g.val * 128 + q.val), by omega⟩ p := by
  unfold column
  pointwise [val_main_v4, val_main_v1, val_main_v0]

theorem band0 (p s : Fin 2048) : val_main_v66 (F := Ideal) (ix3 0 p s) = if s.val ≤ p.val ∧ p.val < s.val + 2 then 1 else 0 := by
  rw [← band_eq 2 (by norm_num)]
  pointwise [val_main_v66, val_main_v62, val_main_v58, val_main_v18, val_main_v17, val_main_v16, val_main_v15, val_main_v14, val_main_v13, val_main_v12, val_main_v11, val_main_v10, val_main_v9, val_main_v8, val_main_v7, val_main_v6, val_main_c, val_main_v5]

theorem counts0 (b : Fin 2) (p : Fin 2048) (q : Fin 128) : val_main_v95 (F := Ideal) (ix4 b p 0 q) = counted 2#32 p := by
  pointwise [val_main_v95, val_main_v94, val_main_v91, val_main_v87, val_main_v71, val_main_v70, val_main_v69, val_main_v68, val_main_v67, val_main_c_3, val_main_c_4, val_main_v5]

theorem band1 (p s : Fin 2048) : val_main_v66 (F := Ideal) (ix3 1 p s) = if s.val ≤ p.val ∧ p.val < s.val + 4 then 1 else 0 := by
  rw [← band_eq 4 (by norm_num)]
  pointwise [val_main_v66, val_main_v63, val_main_v59, val_main_v31, val_main_v30, val_main_v29, val_main_v28, val_main_v27, val_main_v26, val_main_v25, val_main_v24, val_main_v23, val_main_v22, val_main_v21, val_main_v20, val_main_v19, val_main_c_0, val_main_v5]

theorem counts1 (b : Fin 2) (p : Fin 2048) (q : Fin 128) : val_main_v95 (F := Ideal) (ix4 b p 1 q) = counted 4#32 p := by
  pointwise [val_main_v95, val_main_v94, val_main_v91, val_main_v88, val_main_v76, val_main_v75, val_main_v74, val_main_v73, val_main_v72, val_main_c_5, val_main_c_6, val_main_v5]

theorem band2 (p s : Fin 2048) : val_main_v66 (F := Ideal) (ix3 2 p s) = if s.val ≤ p.val ∧ p.val < s.val + 8 then 1 else 0 := by
  rw [← band_eq 8 (by norm_num)]
  pointwise [val_main_v66, val_main_v64, val_main_v60, val_main_v44, val_main_v43, val_main_v42, val_main_v41, val_main_v40, val_main_v39, val_main_v38, val_main_v37, val_main_v36, val_main_v35, val_main_v34, val_main_v33, val_main_v32, val_main_c_1, val_main_v5]

theorem counts2 (b : Fin 2) (p : Fin 2048) (q : Fin 128) : val_main_v95 (F := Ideal) (ix4 b p 2 q) = counted 8#32 p := by
  pointwise [val_main_v95, val_main_v94, val_main_v91, val_main_v89, val_main_v81, val_main_v80, val_main_v79, val_main_v78, val_main_v77, val_main_c_7, val_main_c_8, val_main_v5]

theorem band3 (p s : Fin 2048) : val_main_v66 (F := Ideal) (ix3 3 p s) = if s.val ≤ p.val ∧ p.val < s.val + 16 then 1 else 0 := by
  rw [← band_eq 16 (by norm_num)]
  pointwise [val_main_v66, val_main_v65, val_main_v61, val_main_v57, val_main_v56, val_main_v55, val_main_v54, val_main_v53, val_main_v52, val_main_v51, val_main_v50, val_main_v49, val_main_v48, val_main_v47, val_main_v46, val_main_v45, val_main_c_2, val_main_v5]

theorem counts3 (b : Fin 2) (p : Fin 2048) (q : Fin 128) : val_main_v95 (F := Ideal) (ix4 b p 3 q) = counted 16#32 p := by
  pointwise [val_main_v95, val_main_v94, val_main_v91, val_main_v90, val_main_v86, val_main_v85, val_main_v84, val_main_v83, val_main_v82, val_main_c_9, val_main_c_10, val_main_v5]

theorem band (g : Fin 4) (p s : Fin 2048) : val_main_v66 (F := Ideal) (ix3 g p s) = if s.val ≤ p.val ∧ p.val < s.val + 2 ^ (g.val + 1) then 1 else 0 := by
  fin_cases g
  · exact band0 p s
  · exact band1 p s
  · exact band2 p s
  · exact band3 p s

theorem counts (b : Fin 2) (p : Fin 2048) (g : Fin 4) (q : Fin 128) : val_main_v95 (F := Ideal) (ix4 b p g q) = counted (2#32 <<< g.val) p := by
  fin_cases g
  · exact counts0 b p q
  · exact counts1 b p q
  · exact counts2 b p q
  · exact counts3 b p q

theorem counts_again : val_main_v110 (F := Ideal) = val_main_v95 (F := Ideal) := rfl

theorem contrast_at (b : Fin 2) (p : Fin 2048) (g : Fin 4) (q : Fin 128) : val_main_v97 (F := Ideal) x0 (ix4 b p g q)
    = contrast g.val (column x0 b ⟨1024 + (g.val * 128 + q.val), by omega⟩) p := by
  rw [contrast, total_band, ← counts b p g q]
  pointwise [val_main_v97, val_main_v96, val_main_v93, val_main_v92, group_at, band]
  simp only [mul_ite, mul_one, mul_zero]

theorem carried_at (b : Fin 2) (p : Fin 2048) (g : Fin 4) (q : Fin 128) : val_main_v106 (F := Ideal) x1 x2 (ix4 b p g q) = carried x2 x1 b g q p := by
  unfold carried
  pointwise [val_main_v106, val_main_v105, val_main_v104, val_main_v103, val_main_v102, val_main_v101, val_main_v3, val_main_v2]

theorem recall_at (b : Fin 2) (p : Fin 2048) (g : Fin 4) (q : Fin 128) : val_main_v115 (F := Ideal) x1 x2 (ix4 b p g q)
    = recall g.val (carried x2 x1 b g q) p := by
  rw [recall, ahead_band, sub_eq_add_neg, add_comm]
  pointwise [val_main_v115, val_main_v114, val_main_v113, val_main_v112, val_main_v111, val_main_v109, counts_again, counts, carried_at, band]
  simp only [mul_ite, mul_one, mul_zero]

theorem v118_eq : val_main_v118 (F := Ideal) x1 x2 = pooledBack x1 x2 := by
  funext i
  idx_vars i
  rw [pooledBack_at _ _ _ ⟨i0.val / 2048, by omega⟩ ⟨i0.val % 2048, by omega⟩ ⟨i1.val / 128, by omega⟩ ⟨i1.val % 128, by omega⟩
    (show i0.val = i0.val / 2048 * 2048 + i0.val % 2048 by omega) (show i1.val = i1.val / 128 * 128 + i1.val % 128 by omega), ← recall_at]
  pointwise [val_main_v118, val_main_v117, val_main_v116]

theorem v119_eq : val_main_v119 (F := Ideal) x0 x2 = pooledWeight x0 x2 := by
  funext i
  idx_vars i
  rw [pooledWeight_at _ _ _ i0 i1 i2 rfl rfl rfl]
  unfold weightPart
  pointwise [val_main_v119, val_main_v108, val_main_v107, val_main_v104, val_main_v103, val_main_v102, val_main_v101, contrast_at]

end Cert.Reference28Ideal.Own

namespace Cert.Claim28

open Cert.Attn Cert.Prod Cert.Pool

/-- The reference runs, keeps its arguments, and declares no semaphore. -/
theorem frame_reference : Cert.quiescent_Reference28Ideal (hReference28Ideal := Cert.Reference28Ideal.Gen.facts) :=
  fun m g _ => (θ_run _ _ _).mono
    (fun r h => ⟨fun c => (h c).2.2, Idealize.ShloMosaic.sem_eq_zero_of_no_sems (by decide) r.2⟩) (Cert.Reference28Ideal.Value.run m g)

/-- The call and its reference return the same arrays. -/
theorem algebraic : Cert.algebraic_Kernel28Ideal_Reference28Ideal
    (hKernel28Ideal := Cert.Kernel28Ideal.Gen.facts) (hReference28Ideal := Cert.Reference28Ideal.Gen.facts) := by
  intro m g m' g' hpre hag
  refine ⟨fun c => pooledBack (Cert.Kernel28Ideal.Own.arg1 m c) (Cert.Kernel28Ideal.Own.arg2 m c),
    fun c => pooledWeight (Cert.Kernel28Ideal.Own.arg0 m c) (Cert.Kernel28Ideal.Own.arg2 m c),
    (θ_run _ _ _).mono (fun r h c => ?_) (Cert.Kernel28Ideal.Value.run_blocks m g),
    (θ_run _ _ _).mono (fun r h c => ?_) (Cert.Reference28Ideal.Value.run m' g')⟩
  · exact ⟨(h c).1.trans (Cert.Kernel28Ideal.Own.array3 m c), (h c).2.1.trans (Cert.Kernel28Ideal.Own.array4 m c), (h c).2.2.1, (h c).2.2.2.1, (h c).2.2.2.2⟩
  · obtain ⟨e0, e1, e2⟩ := hag c
    refine ⟨(h c).1.trans ?_, (h c).2.1.trans ?_, (h c).2.2.1, (h c).2.2.2.1, (h c).2.2.2.2⟩
    · rw [Cert.Reference28Ideal.Read.val_main_v118_eq, e1, e2]
      exact Cert.Reference28Ideal.Own.v118_eq _ _
    · rw [Cert.Reference28Ideal.Read.val_main_v119_eq, e0, e2]
      exact Cert.Reference28Ideal.Own.v119_eq _ _

end Cert.Claim28

end
-- ==== Proof.Conv.FfnFwd.lean ====
/-
  The gated unit's causal convolution and its smooth gate.
-/
module

public import proofs.«01_k».proof.Defs
public import proofs.«01_k».proof.Proof.Prod.Spec
public import proofs.«01_k».proof.Proof.Conv.Spec
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel30Ideal.Own

open Cert.Kernel30Ideal Cert.Kernel30Ideal.Gen Cert.Attn Cert.Prod Cert.Conv

section Payloads

variable (g v : Vec Ideal S2048x256 .f32) (w0 w1 w2 : Vec Ideal S1x256 .f32) (p : Fin 2048) (q : Fin 256)

theorem gate_apply : k0_pay2 g w2 w0 w1 (ix2 p q) = w2 (ix2 0 q) * g (ix2 p q)
    + w0 (ix2 0 q) * delayed 2 (fun r => g (ix2 r q)) p + w1 (ix2 0 q) * delayed 1 (fun r => g (ix2 r q)) p := by
  rw [← delay_eq 2 (by norm_num) _ _ (Nat.mod_lt _ (by norm_num)), ← delay_eq 1 (by norm_num) _ _ (Nat.mod_lt _ (by norm_num))]
  pointwise [k0_pay2]

theorem last_apply : k0_pay3 v w2 (ix2 p q) = w2 (ix2 0 q) * v (ix2 p q) := by
  pointwise [k0_pay3]

theorem first_apply : k0_pay4 v w0 (ix2 p q) = w0 (ix2 0 q) * delayed 2 (fun r => v (ix2 r q)) p := by
  rw [← delay_eq 2 (by norm_num) _ _ (Nat.mod_lt _ (by norm_num))]
  pointwise [k0_pay4]

theorem out_apply (x y z : FVec Ideal S2048x256 .f32) : k0_pay1 (iota Kind.tc S2048x256 32 [0] iota_S2048x256_d0_w32) x v y z w1 (ix2 p q)
    = gelu (x (ix2 p q)) * (y (ix2 p q) + z (ix2 p q) + w1 (ix2 0 q) * delayed 1 (fun r => v (ix2 r q)) p) := by
  rw [← delay_eq 1 (by norm_num) _ _ (Nat.mod_lt _ (by norm_num)), gelu, mul_comm (x (ix2 p q) * x (ix2 p q))]
  pointwise [k0_pay1]

end Payloads

variable (m : (ℓ : Loc nD τ sig) → Buf (Elt Ideal) ℓ) (c : Dev nD)

abbrev arg0 : Mat 4096 5632 := m ((c.tc : Thread nD τ).loc main_arg0)
abbrev arg1 : Mat 3 5632 := m ((c.tc : Thread nD τ).loc main_arg1)

theorem idx0 : ∀ t : Fin grid0.N, win0_0.index t = ![t.val / 11, t.val % 11] := by decide +kernel
theorem idx1 : ∀ t : Fin grid0.N, win0_1.index t = ![t.val / 11, 11 + t.val % 11] := by decide +kernel
theorem idx2 : ∀ t : Fin grid0.N, win0_2.index t = ![0, t.val % 11] := by decide +kernel
theorem idx3 : ∀ t : Fin grid0.N, win0_3.index t = ![0, 11 + t.val % 11] := by decide +kernel
theorem idx4 : ∀ t : Fin grid0.N, win0_4.index t = ![t.val / 11, t.val % 11] := by decide +kernel

theorem points (t : Fin cfg0.N) : t.val < 22 := by have := t.isLt; have : cfg0.N = 22 := N_0; omega

/-- A tile's sequence, and its columns in the two halves. -/
abbrev seq (t : Fin cfg0.N) : Fin 2 := ⟨t.val / 11, by have := points t; omega⟩
abbrev lo (t : Fin cfg0.N) (q : Fin 256) : Fin 5632 := ⟨t.val % 11 * 256 + q.val, by omega⟩
abbrev hi (t : Fin cfg0.N) (q : Fin 256) : Fin 5632 := ⟨2816 + (t.val % 11 * 256 + q.val), by omega⟩

theorem blk0 (t : Fin cfg0.N) (r : Fin 2048) (q : Fin 256) : iblk m c 0 t (ix2 r q) = column (arg0 m c) (seq t) (lo t q) r := by
  unfold column
  have := points t
  blk_ext [iblk, V, idx0 t]
theorem blk1 (t : Fin cfg0.N) (r : Fin 2048) (q : Fin 256) : iblk m c 1 t (ix2 r q) = column (arg0 m c) (seq t) (hi t q) r := by
  unfold column
  have := points t
  blk_ext [iblk, V, idx1 t] <;> omega
theorem tap2 (t : Fin cfg0.N) (q : Fin 256) (k : Fin 3) : iblk m c 2 t (ix2 k q) = arg1 m c (ix2 k (lo t q)) := by
  blk_ext [iblk, V, idx2 t]
theorem tap3 (t : Fin cfg0.N) (q : Fin 256) (k : Fin 3) : iblk m c 3 t (ix2 k q) = arg1 m c (ix2 k (hi t q)) := by
  blk_ext [iblk, V, idx3 t] <;> omega

/-- The three taps a tile loads. -/
theorem row2 (w : Vec Ideal S3x256 .f32) (q : Fin 256) : View.ld w r0_1 (ix2 0 q) = w (ix2 2 q) := by pointwise []
theorem row0 (w : Vec Ideal S3x256 .f32) (q : Fin 256) : View.ld w r0_2 (ix2 0 q) = w (ix2 0 q) := by pointwise []
theorem row1 (w : Vec Ideal S3x256 .f32) (q : Fin 256) : View.ld w r0_3 (ix2 0 q) = w (ix2 1 q) := by pointwise []

theorem array4 : (dats m 0 c).arrAt 4 cfg0.N = gated (arg1 m c) (arg0 m c) := by
  refine (dats m 0 c).arrAt_eq_of_covers 4 _ (by decide +kernel) fun t hf y => ?_
  blk_simp
  rw [after0_4, show out0_4 (iblk m c 0 t) (iblk m c 1 t) (iblk m c 2 t) (iblk m c 3 t) y
    = k0_pay1 (iota Kind.tc S2048x256 32 [0] iota_S2048x256_d0_w32)
      (k0_pay2 (iblk m c 0 t) (View.ld (iblk m c 2 t) r0_1) (View.ld (iblk m c 2 t) r0_2) (View.ld (iblk m c 2 t) r0_3))
      (iblk m c 1 t) (k0_pay3 (iblk m c 1 t) (View.ld (iblk m c 3 t) r0_1))
      (k0_pay4 (iblk m c 1 t) (View.ld (iblk m c 3 t) r0_2)) (View.ld (iblk m c 3 t) r0_3) y by frame_out; rfl]
  idx_vars y
  rw [out_apply, gate_apply, last_apply, first_apply,
    gated_at _ _ _ (seq t) y0 ⟨t.val % 11 * 256 + y1.val, by omega⟩ (by blk_simp [idx4 t]) (by blk_simp [idx4 t]), conv_three, conv_three]
  simp only [row0, row1, row2, blk0, blk1, tap2, tap3]
  refine congrArg₂ (fun x y => gelu x * y) ?_ ?_
  · rw [add_assoc, add_comm, row0, row1, row2, tap2, tap2, tap2]
  · rw [add_assoc, add_comm, row0, row1, row2, tap3, tap3, tap3]

end Cert.Kernel30Ideal.Own

namespace Cert.Reference30Ideal.Own

open Cert.Reference30Ideal Cert.Reference30Ideal.Gen Cert.Reference30Ideal.Read Cert.Attn Cert.Prod Cert.Conv

variable (x0 : Mat 4096 5632) (x1 : Mat 3 5632)

theorem delayed_at2 (b : Fin 2) (r : Fin 2048) (q : Fin 5632) : val_main_v3 (F := Ideal) x0 (ix3 b r q) = delayed 2 (column x0 b q) r := by
  unfold delayed column
  pointwise [val_main_v3, val_main_v2, val_main_v1, val_main_v0, val_main_cst]
  by_cases h : 2 ≤ r.val
  · rw [dif_pos h, dif_neg (by omega)]
  · rw [dif_neg h, dif_pos (by omega)]
theorem delayed_at1 (b : Fin 2) (r : Fin 2048) (q : Fin 5632) : val_main_v11 (F := Ideal) x0 (ix3 b r q) = delayed 1 (column x0 b q) r := by
  unfold delayed column
  pointwise [val_main_v11, val_main_v2, val_main_v1, val_main_v0, val_main_cst]
  by_cases h : 1 ≤ r.val
  · rw [dif_pos h, dif_neg (by omega)]
    exact congrArg (fun z => x0 (ix2 z q)) (Fin.ext (show b.val * 2048 + (1 + r.val - 2) = b.val * 2048 + (r.val - 1) by omega))
  · rw [dif_neg h, dif_pos (by omega)]
theorem delayed_at0 (b : Fin 2) (r : Fin 2048) (q : Fin 5632) : val_main_v18 (F := Ideal) x0 (ix3 b r q) = column x0 b q r := by
  unfold column
  pointwise [val_main_v18, val_main_v2, val_main_v1, val_main_v0, val_main_cst]

theorem conv_at (b : Fin 2) (r : Fin 2048) (q : Fin 5632) : val_main_v24 (F := Ideal) x0 x1 (ix3 b r q)
    = conv (fun k => x1 (ix2 k q)) (column x0 b q) r := by
  rw [conv_three, ← delayed_at2, ← delayed_at1, ← delayed_at0]
  pointwise [val_main_v24, val_main_v23, val_main_v22, val_main_v21, val_main_v20, val_main_v19, val_main_v17, val_main_v16, val_main_v15, val_main_v14, val_main_v13, val_main_v12, val_main_v10, val_main_v9, val_main_v8, val_main_v7, val_main_v6, val_main_v5, val_main_v4, val_main_cst_0]
  simp only [zero_add, mul_comm]

theorem out_at (b : Fin 2) (r : Fin 2048) (q : Fin 2816) : val_main_v40 (F := Ideal) x0 x1 (ix3 b r q)
    = gelu (conv (fun k => x1 (ix2 k ⟨q.val, by omega⟩)) (column x0 b ⟨q.val, by omega⟩) r)
        * conv (fun k => x1 (ix2 k ⟨2816 + q.val, by omega⟩)) (column x0 b ⟨2816 + q.val, by omega⟩) r := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_cst_1, val_main_cst_2, val_main_cst_3, val_main_cst_4, conv_at]
  rfl

theorem v42_eq : val_main_v42 (F := Ideal) x0 x1 = gated x1 x0 := by
  funext i
  idx_vars i
  rw [gated_at _ _ _ ⟨i0.val / 2048, by omega⟩ ⟨i0.val % 2048, by omega⟩ i1 (show i0.val = i0.val / 2048 * 2048 + i0.val % 2048 by omega) rfl, ← out_at]
  pointwise [val_main_v42, val_main_v41]

end Cert.Reference30Ideal.Own

namespace Cert.Claim30

open Cert.Attn Cert.Prod

/-- The reference runs, keeps its arguments, and declares no semaphore. -/
theorem frame_reference : Cert.quiescent_Reference30Ideal (hReference30Ideal := Cert.Reference30Ideal.Gen.facts) :=
  fun m g _ => (θ_run _ _ _).mono
    (fun r h => ⟨fun c => (h c).2, Idealize.ShloMosaic.sem_eq_zero_of_no_sems (by decide) r.2⟩) (Cert.Reference30Ideal.Value.run m g)

/-- The call and its reference return the same arrays. -/
theorem algebraic : Cert.algebraic_Kernel30Ideal_Reference30Ideal
    (hKernel30Ideal := Cert.Kernel30Ideal.Gen.facts) (hReference30Ideal := Cert.Reference30Ideal.Gen.facts) := by
  intro m g m' g' hpre hag
  refine ⟨fun c => Cert.Conv.gated (Cert.Kernel30Ideal.Own.arg1 m c) (Cert.Kernel30Ideal.Own.arg0 m c),
    (θ_run _ _ _).mono (fun r h c => ?_) (Cert.Kernel30Ideal.Value.run_blocks m g),
    (θ_run _ _ _).mono (fun r h c => ?_) (Cert.Reference30Ideal.Value.run m' g')⟩
  · exact ⟨(h c).1.trans (Cert.Kernel30Ideal.Own.array4 m c), (h c).2.1, (h c).2.2⟩
  · obtain ⟨e0, e1⟩ := hag c
    refine ⟨(h c).1.trans ?_, (h c).2.1, (h c).2.2⟩
    · rw [Cert.Reference30Ideal.Read.val_main_v42_eq, e0, e1]
      exact Cert.Reference30Ideal.Own.v42_eq _ _

end Cert.Claim30

end
-- ==== Proof.Pool.Fwd.lean ====
/-
  The pooling branch: trailing means over 2, 4, 8 and 16 tokens, less the token, and the groups' projections.
-/
module

public import proofs.«01_k».proof.Defs
public import proofs.«01_k».proof.Proof.Prod.Spec
public import proofs.«01_k».proof.Proof.Pool.Spec
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel33Ideal.Own

open Cert.Kernel33Ideal Cert.Kernel33Ideal.Gen Cert.Attn Cert.Prod Cert.Conv Cert.Pool

section Payloads

variable (i : grid0.Coords) (u y : Vec Ideal S2048x128 .f32) (w : Vec Ideal S1x256x128 .bf16) (p : Fin 2048) (q : Fin 128)

theorem out_apply (d : Fin 256) : k0_pay1 u y w (ix2 p d) = ∑ c : Fin 128, (y (ix2 p c) - u (ix2 p c)) * w (ix3 0 d c) := by
  pointwise [k0_pay1]

/-- One doubling of the kernel's windows. -/
def doubled (s : BitVec 32) (u : FVec Ideal S2048x128 .f32) : FVec Ideal S2048x128 .f32 :=
  addf u (select (cmpi .sge (iota .tc S2048x128 32 [0] iota_S2048x128_d0_w32) (broadcast S2048x128 s))
    (dynamicRotate 0 s none u rotates_S2048x128_d0) (broadcast S2048x128 (Scalar.ofBits .f32 0x00000000#32)))

theorem doubled_one (f : Fin 2048 → Fin 128 → EReal) (h : ∀ p q, u (ix2 p q) = total 1 (fun r => f r q) p) : doubled 1#32 u (ix2 p q) = total 2 (fun r => f r q) p := by
  rw [← total_double 1, ← delay_eq 1 (by norm_num) _ _ (Nat.mod_lt _ (by norm_num)), ← h, ← h]
  pointwise [doubled]
theorem doubled_two (f : Fin 2048 → Fin 128 → EReal) (h : ∀ p q, u (ix2 p q) = total 2 (fun r => f r q) p) : doubled 2#32 u (ix2 p q) = total 4 (fun r => f r q) p := by
  rw [← total_double 2, ← delay_eq 2 (by norm_num) _ _ (Nat.mod_lt _ (by norm_num)), ← h, ← h]
  pointwise [doubled]
theorem doubled_four (f : Fin 2048 → Fin 128 → EReal) (h : ∀ p q, u (ix2 p q) = total 4 (fun r => f r q) p) : doubled 4#32 u (ix2 p q) = total 8 (fun r => f r q) p := by
  rw [← total_double 4, ← delay_eq 4 (by norm_num) _ _ (Nat.mod_lt _ (by norm_num)), ← h, ← h]
  pointwise [doubled]
theorem doubled_eight (f : Fin 2048 → Fin 128 → EReal) (h : ∀ p q, u (ix2 p q) = total 8 (fun r => f r q) p) : doubled 8#32 u (ix2 p q) = total 16 (fun r => f r q) p := by
  rw [← total_double 8, ← delay_eq 8 (by norm_num) _ _ (Nat.mod_lt _ (by norm_num)), ← h, ← h]
  pointwise [doubled]

/-- How many tokens a window of at most `2 <<< g` holds. -/
abbrev counts (a : BitVec 32) : FVec Ideal S2048x128 .f32 :=
  sitofp .f32 (minsi (addi (iota .tc S2048x128 32 [0] iota_S2048x128_d0_w32) (broadcast S2048x128 1#32)) (broadcast S2048x128 (Scalar.shli 2#32 a)))

theorem window_eq : k0_pay2 i u = divf (Scalar.select (Scalar.cmpi .eq (BitVec.ofNat 32 (i 1).val) 0#32) (doubled 1#32 u)
    (Scalar.select (Scalar.cmpi .eq (BitVec.ofNat 32 (i 1).val) 1#32) (doubled 2#32 (doubled 1#32 u))
      (Scalar.select (Scalar.cmpi .eq (BitVec.ofNat 32 (i 1).val) 2#32) (doubled 4#32 (doubled 2#32 (doubled 1#32 u)))
        (doubled 8#32 (doubled 4#32 (doubled 2#32 (doubled 1#32 u))))))) (counts (BitVec.ofNat 32 (i 1).val)) := rfl

theorem counts_apply (a : BitVec 32) : counts a (ix2 p q) = counted (Scalar.shli 2#32 a) p := by
  pointwise [counts]

theorem shifted : ∀ g : Fin 4, Scalar.shli 2#32 (BitVec.ofNat 32 g.val) = 2#32 <<< g.val := by decide +kernel

theorem window_apply (g : Fin 4) (h : (i 1).val = g.val) : k0_pay2 i u (ix2 p q)
    = Ideal.div (total (2 ^ (g.val + 1)) (fun r => u (ix2 r q)) p) (counted (2#32 <<< g.val) p) := by
  have h1 := fun p q => doubled_one u p q (fun r q => u (ix2 r q)) (fun p q => (total_one (fun r => u (ix2 r q)) p).symm)
  have h2 := fun p q => doubled_two (doubled 1#32 u) p q _ h1
  have h3 := fun p q => doubled_four _ p q _ h2
  have h4 := fun p q => doubled_eight _ p q _ h3
  rw [window_eq, h, ← shifted, ← counts_apply p q]
  fin_cases g
  · show FloatOps.divf (doubled 1#32 u (ix2 p q)) _ = _
    rw [h1]; rfl
  · show FloatOps.divf (doubled 2#32 (doubled 1#32 u) (ix2 p q)) _ = _
    rw [h2]; rfl
  · show FloatOps.divf (doubled 4#32 (doubled 2#32 (doubled 1#32 u)) (ix2 p q)) _ = _
    rw [h3]; rfl
  · show FloatOps.divf (doubled 8#32 (doubled 4#32 (doubled 2#32 (doubled 1#32 u))) (ix2 p q)) _ = _
    rw [h4]; rfl

end Payloads

variable (m : (ℓ : Loc nD τ sig) → Buf (Elt Ideal) ℓ) (c : Dev nD)

abbrev arg0 : Mat 4096 3584 := m ((c.tc : Thread nD τ).loc main_arg0)
abbrev arg1 : Stack 4 256 128 := m ((c.tc : Thread nD τ).loc main_arg1)

theorem idx0 : ∀ t : Fin grid0.N, win0_0.index t = ![t.val / 4, 8 + t.val % 4] := by decide +kernel
theorem idx1 : ∀ t : Fin grid0.N, win0_1.index t = ![t.val % 4, 0, 0] := by decide +kernel
theorem idx2 : ∀ t : Fin grid0.N, win0_2.index t = ![t.val / 4, t.val % 4] := by decide +kernel
theorem group : ∀ t : Fin grid0.N, (grid0.coords t 1).val = t.val % 4 := by decide +kernel

theorem points (t : Fin cfg0.N) : t.val < 8 := by have := t.isLt; have : cfg0.N = 8 := N_0; omega

/-- A tile's sequence and its group. -/
abbrev seq (t : Fin cfg0.N) : Fin 2 := ⟨t.val / 4, by have := points t; omega⟩
abbrev grp (t : Fin cfg0.N) : Fin 4 := ⟨t.val % 4, Nat.mod_lt _ (by norm_num)⟩

theorem blk0 (t : Fin cfg0.N) (r : Fin 2048) (q : Fin 128) :
    iblk m c 0 t (ix2 r q) = column (arg0 m c) (seq t) ⟨1024 + ((grp t).val * 128 + q.val), by have := (grp t).isLt; omega⟩ r := by
  unfold column
  have := points t
  blk_ext [iblk, V, idx0 t] <;> omega
theorem blk1 (t : Fin cfg0.N) (d : Fin 256) (q : Fin 128) : iblk m c 1 t (ix3 0 d q) = arg1 m c (ix3 (grp t) d q) := by
  blk_ext [iblk, V, idx1 t]

theorem array2 : (dats m 0 c).arrAt 2 cfg0.N = pooled (arg0 m c) (arg1 m c) := by
  refine (dats m 0 c).arrAt_eq_of_covers 2 _ (by decide +kernel) fun t hf y => ?_
  blk_simp
  rw [after0_2, show out0_2 (grid0.coords t) (iblk m c 0 t) (iblk m c 1 t) y
    = k0_pay1 (iblk m c 0 t) (k0_pay2 (grid0.coords t) (iblk m c 0 t)) (iblk m c 1 t) y by frame_out]
  idx_vars y
  rw [out_apply, pooled_at _ _ _ (seq t) y0 (grp t) y1 (by blk_simp [idx2 t]) (by blk_simp [idx2 t])]
  show @Eq EReal _ _
  refine Finset.sum_congr rfl fun q _ => ?_
  rw [window_apply _ _ _ _ (grp t) (group t), blk1, contrast]
  simp only [blk0]

end Cert.Kernel33Ideal.Own

namespace Cert.Reference33Ideal.Own

open Cert.Reference33Ideal Cert.Reference33Ideal.Gen Cert.Reference33Ideal.Read Cert.Attn Cert.Prod Cert.Conv Cert.Pool

variable (x0 : Mat 4096 3584) (x1 : Stack 4 256 128)

theorem group_at (b : Fin 2) (p : Fin 2048) (g : Fin 4) (q : Fin 128) : val_main_v4 (F := Ideal) x0 (ix4 b p g q)
    = column x0 b ⟨1024 + (g.val * 128 + q.val), by omega⟩ p := by
  unfold column
  pointwise [val_main_v4, val_main_v1, val_main_v0]

theorem band0 (p s : Fin 2048) : val_main_v19 (F := Ideal) (ix2 p s) = if s.val ≤ p.val ∧ p.val < s.val + 2 then 1 else 0 := by
  rw [← band_eq 2 (by norm_num)]
  pointwise [val_main_v19, val_main_v18, val_main_v17, val_main_v16, val_main_v15, val_main_v14, val_main_v13, val_main_v12, val_main_v11, val_main_v10, val_main_v9, val_main_v8, val_main_v7, val_main_v6, val_main_c, val_main_v5]

theorem contrast0 (b : Fin 2) (p : Fin 2048) (q : Fin 128) : val_main_v34 (F := Ideal) x0 (ix3 b p q)
    = contrast 0 (column x0 b ⟨1024 + (0 * 128 + q.val), by omega⟩) p := by
  rw [contrast, total_band]
  pointwise [val_main_v34, val_main_v33, val_main_v32, val_main_v31, val_main_v30, val_main_v29, val_main_v28, val_main_v27, val_main_v26, val_main_v25, val_main_v24, val_main_c_0, val_main_c_1, val_main_v5, val_main_v23, val_main_v22, val_main_v21, val_main_v20, group_at, band0]
  simp only [mul_ite, mul_one, mul_zero]
  rfl

theorem stacked0 (b : Fin 2) (p : Fin 2048) (q : Fin 128) : val_main_v126 (F := Ideal) x0 (ix4 b p 0 q)
    = contrast 0 (column x0 b ⟨1024 + (0 * 128 + q.val), by omega⟩) p := by
  rw [← contrast0]
  pointwise [val_main_v126, val_main_v122]

theorem band1 (p s : Fin 2048) : val_main_v48 (F := Ideal) (ix2 p s) = if s.val ≤ p.val ∧ p.val < s.val + 4 then 1 else 0 := by
  rw [← band_eq 4 (by norm_num)]
  pointwise [val_main_v48, val_main_v47, val_main_v46, val_main_v45, val_main_v44, val_main_v43, val_main_v42, val_main_v41, val_main_v40, val_main_v39, val_main_v38, val_main_v37, val_main_v36, val_main_v35, val_main_c_2, val_main_v5]

theorem contrast1 (b : Fin 2) (p : Fin 2048) (q : Fin 128) : val_main_v63 (F := Ideal) x0 (ix3 b p q)
    = contrast 1 (column x0 b ⟨1024 + (1 * 128 + q.val), by omega⟩) p := by
  rw [contrast, total_band]
  pointwise [val_main_v63, val_main_v62, val_main_v61, val_main_v60, val_main_v59, val_main_v58, val_main_v57, val_main_v56, val_main_v55, val_main_v54, val_main_v53, val_main_c_3, val_main_c_4, val_main_v5, val_main_v52, val_main_v51, val_main_v50, val_main_v49, group_at, band1]
  simp only [mul_ite, mul_one, mul_zero]
  rfl

theorem stacked1 (b : Fin 2) (p : Fin 2048) (q : Fin 128) : val_main_v126 (F := Ideal) x0 (ix4 b p 1 q)
    = contrast 1 (column x0 b ⟨1024 + (1 * 128 + q.val), by omega⟩) p := by
  rw [← contrast1]
  pointwise [val_main_v126, val_main_v123]

theorem band2 (p s : Fin 2048) : val_main_v77 (F := Ideal) (ix2 p s) = if s.val ≤ p.val ∧ p.val < s.val + 8 then 1 else 0 := by
  rw [← band_eq 8 (by norm_num)]
  pointwise [val_main_v77, val_main_v76, val_main_v75, val_main_v74, val_main_v73, val_main_v72, val_main_v71, val_main_v70, val_main_v69, val_main_v68, val_main_v67, val_main_v66, val_main_v65, val_main_v64, val_main_c_5, val_main_v5]

theorem contrast2 (b : Fin 2) (p : Fin 2048) (q : Fin 128) : val_main_v92 (F := Ideal) x0 (ix3 b p q)
    = contrast 2 (column x0 b ⟨1024 + (2 * 128 + q.val), by omega⟩) p := by
  rw [contrast, total_band]
  pointwise [val_main_v92, val_main_v91, val_main_v90, val_main_v89, val_main_v88, val_main_v87, val_main_v86, val_main_v85, val_main_v84, val_main_v83, val_main_v82, val_main_c_6, val_main_c_7, val_main_v5, val_main_v81, val_main_v80, val_main_v79, val_main_v78, group_at, band2]
  simp only [mul_ite, mul_one, mul_zero]
  rfl

theorem stacked2 (b : Fin 2) (p : Fin 2048) (q : Fin 128) : val_main_v126 (F := Ideal) x0 (ix4 b p 2 q)
    = contrast 2 (column x0 b ⟨1024 + (2 * 128 + q.val), by omega⟩) p := by
  rw [← contrast2]
  pointwise [val_main_v126, val_main_v124]

theorem band3 (p s : Fin 2048) : val_main_v106 (F := Ideal) (ix2 p s) = if s.val ≤ p.val ∧ p.val < s.val + 16 then 1 else 0 := by
  rw [← band_eq 16 (by norm_num)]
  pointwise [val_main_v106, val_main_v105, val_main_v104, val_main_v103, val_main_v102, val_main_v101, val_main_v100, val_main_v99, val_main_v98, val_main_v97, val_main_v96, val_main_v95, val_main_v94, val_main_v93, val_main_c_8, val_main_v5]

theorem contrast3 (b : Fin 2) (p : Fin 2048) (q : Fin 128) : val_main_v121 (F := Ideal) x0 (ix3 b p q)
    = contrast 3 (column x0 b ⟨1024 + (3 * 128 + q.val), by omega⟩) p := by
  rw [contrast, total_band]
  pointwise [val_main_v121, val_main_v120, val_main_v119, val_main_v118, val_main_v117, val_main_v116, val_main_v115, val_main_v114, val_main_v113, val_main_v112, val_main_v111, val_main_c_9, val_main_c_10, val_main_v5, val_main_v110, val_main_v109, val_main_v108, val_main_v107, group_at, band3]
  simp only [mul_ite, mul_one, mul_zero]
  rfl

theorem stacked3 (b : Fin 2) (p : Fin 2048) (q : Fin 128) : val_main_v126 (F := Ideal) x0 (ix4 b p 3 q)
    = contrast 3 (column x0 b ⟨1024 + (3 * 128 + q.val), by omega⟩) p := by
  rw [← contrast3]
  pointwise [val_main_v126, val_main_v125]

theorem stacked (b : Fin 2) (p : Fin 2048) (g : Fin 4) (q : Fin 128) : val_main_v126 (F := Ideal) x0 (ix4 b p g q)
    = contrast g.val (column x0 b ⟨1024 + (g.val * 128 + q.val), by omega⟩) p := by
  fin_cases g
  · exact stacked0 x0 b p q
  · exact stacked1 x0 b p q
  · exact stacked2 x0 b p q
  · exact stacked3 x0 b p q

theorem out_at (b : Fin 2) (p : Fin 2048) (g : Fin 4) (d : Fin 256) : val_main_v128 (F := Ideal) x0 x1 (ix4 b p g d)
    = ∑ c : Fin 128, contrast g.val (column x0 b ⟨1024 + (g.val * 128 + c.val), by omega⟩) p * x1 (ix3 g d c) := by
  pointwise [val_main_v128, val_main_v127, val_main_v3, val_main_v2]
  exact Finset.sum_congr rfl fun c _ => (mul_comm _ _).trans (congrArg (· * x1 (ix3 g d c)) (stacked x0 b p g c))

theorem v130_eq : val_main_v130 (F := Ideal) x0 x1 = pooled x0 x1 := by
  funext i
  idx_vars i
  rw [pooled_at _ _ _ ⟨i0.val / 2048, by omega⟩ ⟨i0.val % 2048, by omega⟩ ⟨i1.val / 256, by omega⟩ ⟨i1.val % 256, by omega⟩
    (show i0.val = i0.val / 2048 * 2048 + i0.val % 2048 by omega) (show i1.val = i1.val / 256 * 256 + i1.val % 256 by omega), ← out_at]
  pointwise [val_main_v130, val_main_v129]

end Cert.Reference33Ideal.Own

namespace Cert.Claim33

open Cert.Attn Cert.Prod

/-- The reference runs, keeps its arguments, and declares no semaphore. -/
theorem frame_reference : Cert.quiescent_Reference33Ideal (hReference33Ideal := Cert.Reference33Ideal.Gen.facts) :=
  fun m g _ => (θ_run _ _ _).mono
    (fun r h => ⟨fun c => (h c).2, Idealize.ShloMosaic.sem_eq_zero_of_no_sems (by decide) r.2⟩) (Cert.Reference33Ideal.Value.run m g)

/-- The call and its reference return the same arrays. -/
theorem algebraic : Cert.algebraic_Kernel33Ideal_Reference33Ideal
    (hKernel33Ideal := Cert.Kernel33Ideal.Gen.facts) (hReference33Ideal := Cert.Reference33Ideal.Gen.facts) := by
  intro m g m' g' hpre hag
  refine ⟨fun c => Cert.Pool.pooled (Cert.Kernel33Ideal.Own.arg0 m c) (Cert.Kernel33Ideal.Own.arg1 m c),
    (θ_run _ _ _).mono (fun r h c => ?_) (Cert.Kernel33Ideal.Value.run_blocks m g),
    (θ_run _ _ _).mono (fun r h c => ?_) (Cert.Reference33Ideal.Value.run m' g')⟩
  · exact ⟨(h c).1.trans (Cert.Kernel33Ideal.Own.array2 m c), (h c).2.1, (h c).2.2⟩
  · obtain ⟨e0, e1⟩ := hag c
    refine ⟨(h c).1.trans ?_, (h c).2.1, (h c).2.2⟩
    · rw [Cert.Reference33Ideal.Read.val_main_v130_eq, e0, e1]
      exact Cert.Reference33Ideal.Own.v130_eq _ _

end Cert.Claim33

end
-- ==== Proof.Fwd.Proj.lean ====
/-
  The combined input projection.
-/
module

public import proofs.«01_k».proof.Defs
public import proofs.«01_k».proof.Proof.Prod.Spec
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel32Ideal.Own

open Cert.Kernel32Ideal Cert.Kernel32Ideal.Gen Cert.Attn Cert.Prod

theorem pay_apply (u : Vec Ideal S4096x1024 .bf16) (v : Vec Ideal S1x1024x512 .bf16) (p : Fin 4096) (q : Fin 512) :
    k0_pay1 u v (ix2 p q) = (∑ r : Fin 1024, u (ix2 p r) * v (ix3 0 r q)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 1024 3584 := m ((c.tc : Thread nD τ).loc main_arg1)

theorem idx0 : ∀ t : Fin grid0.N, win0_0.index t = ![0, 0] := by decide +kernel
theorem idx1 : ∀ t : Fin grid0.N, win0_1.index t = ![0, 0, t.val] := by decide +kernel
theorem idx2 : ∀ t : Fin grid0.N, win0_2.index t = ![0, t.val] := by decide +kernel

theorem points (t : Fin cfg0.N) : t.val < 7 := by have := t.isLt; have : cfg0.N = 7 := N_0; omega

theorem blk0 (t : Fin cfg0.N) (r : Fin 1024) (p : Fin 4096) :
    iblk m c 0 t (ix2 p r) = arg0 m c (ix2 p r) := by
  blk_ext [iblk, V, idx0 t]

theorem blk1 (t : Fin cfg0.N) (r : Fin 1024) (q : Fin 512) :
    iblk m c 1 t (ix3 0 r q) = sheet (arg1 m c) (ix2 r ⟨t.val * 512 + q.val, by have := points t; omega⟩) := by
  show _ = arg1 m c (ix3 0 r ⟨t.val * 512 + q.val, by have := points t; omega⟩)
  blk_ext [iblk, V, idx1 t]

theorem array2 : (dats m 0 c).arrAt 2 cfg0.N = prodNN (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNN_at _ _ _ y0 ⟨t.val * 512 + y1.val, by have := points t; omega⟩ (by blk_simp [idx2 t]) (by blk_simp [idx2 t])]
  show @Eq EReal _ _
  exact Finset.sum_congr rfl fun r _ => by rw [blk0, blk1]

end Cert.Kernel32Ideal.Own

namespace Cert.Reference32Ideal.Own

open Cert.Reference32Ideal Cert.Reference32Ideal.Gen Cert.Reference32Ideal.Read Cert.Attn Cert.Prod

variable (x0 : Mat 4096 1024) (x1 : Stack 1 1024 3584)

theorem v3_eq : val_main_v3 (F := Ideal) x0 x1 = prodNN x0 (sheet x1) := by
  funext i
  idx_vars i
  pointwise [val_main_v3, val_main_v2, val_main_v1, val_main_v0]
  rfl

end Cert.Reference32Ideal.Own

namespace Cert.Claim32

open Cert.Attn Cert.Prod

/-- The reference runs, keeps its arguments, and declares no semaphore. -/
theorem frame_reference : Cert.quiescent_Reference32Ideal (hReference32Ideal := Cert.Reference32Ideal.Gen.facts) :=
  fun m g _ => (θ_run _ _ _).mono
    (fun r h => ⟨fun c => (h c).2, Idealize.ShloMosaic.sem_eq_zero_of_no_sems (by decide) r.2⟩) (Cert.Reference32Ideal.Value.run m g)

/-- The call and its reference return the same arrays. -/
theorem algebraic : Cert.algebraic_Kernel32Ideal_Reference32Ideal
    (hKernel32Ideal := Cert.Kernel32Ideal.Gen.facts) (hReference32Ideal := Cert.Reference32Ideal.Gen.facts) := by
  intro m g m' g' hpre hag
  refine ⟨fun c => prodNN (Cert.Kernel32Ideal.Own.arg0 m c) (sheet (Cert.Kernel32Ideal.Own.arg1 m c)),
    (θ_run _ _ _).mono (fun r h c => ?_) (Cert.Kernel32Ideal.Value.run_blocks m g),
    (θ_run _ _ _).mono (fun r h c => ?_) (Cert.Reference32Ideal.Value.run m' g')⟩
  · exact ⟨(h c).1.trans (Cert.Kernel32Ideal.Own.array2 m c), (h c).2.1, (h c).2.2⟩
  · obtain ⟨e0, e1⟩ := hag c
    refine ⟨(h c).1.trans ?_, (h c).2.1, (h c).2.2⟩
    · rw [e0, e1]
      exact (Cert.Reference32Ideal.Read.val_main_v3_eq (F := Ideal) (Cert.Kernel32Ideal.Own.arg0 m c) (Cert.Kernel32Ideal.Own.arg1 m c)).trans (Cert.Reference32Ideal.Own.v3_eq (Cert.Kernel32Ideal.Own.arg0 m c) (Cert.Kernel32Ideal.Own.arg1 m c))

end Cert.Claim32

end
-- ==== Proof.Prod.DGact0.lean ====
/-
  The gradient of the gated activations from a bf16 cotangent: cotangent times the down projection's weight transposed.
-/
module

public import proofs.«01_k».proof.Defs
public import proofs.«01_k».proof.Proof.Prod.Spec
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel34Ideal.Own

open Cert.Kernel34Ideal Cert.Kernel34Ideal.Gen Cert.Attn Cert.Prod

theorem pay_apply (u : Vec Ideal S4096x1024 .bf16) (v : Vec Ideal S1x256x1024 .bf16) (p : Fin 4096) (q : Fin 256) :
    k0_pay1 u v (ix2 p q) = (∑ r : Fin 1024, u (ix2 p r) * v (ix3 0 q r)) := by
  pointwise [k0_pay1]

variable (m : (ℓ : Loc nD τ sig) → Buf (Elt Ideal) ℓ) (c : Dev nD)

abbrev arg0 : Mat 4096 1024 := m ((c.tc : Thread nD τ).loc main_arg0)
abbrev arg1 : Stack 1 2816 1024 := m ((c.tc : Thread nD τ).loc main_arg1)

theorem idx0 : ∀ t : Fin grid0.N, win0_0.index t = ![0, 0] := by decide +kernel
theorem idx1 : ∀ t : Fin grid0.N, win0_1.index t = ![0, t.val, 0] := by decide +kernel
theorem idx2 : ∀ t : Fin grid0.N, win0_2.index t = ![0, t.val] := by decide +kernel

theorem points (t : Fin cfg0.N) : t.val < 11 := by have := t.isLt; have : cfg0.N = 11 := N_0; omega

theorem blk0 (t : Fin cfg0.N) (r : Fin 1024) (p : Fin 4096) :
    iblk m c 0 t (ix2 p r) = arg0 m c (ix2 p r) := by
  blk_ext [iblk, V, idx0 t]

theorem blk1 (t : Fin cfg0.N) (r : Fin 1024) (q : Fin 256) :
    iblk m c 1 t (ix3 0 q r) = sheet (arg1 m c) (ix2 ⟨t.val * 256 + q.val, by have := points t; omega⟩ r) := by
  show _ = arg1 m c (ix3 0 ⟨t.val * 256 + q.val, by have := points t; omega⟩ r)
  blk_ext [iblk, V, idx1 t]

theorem array2 : (dats m 0 c).arrAt 2 cfg0.N = prodNT (arg0 m c) (sheet (arg1 m c)) := by
  refine (dats m 0 c).arrAt_eq_of_covers 2 _ (by decide +kernel) fun t hf y => ?_
  blk_simp
  rw [after0_2, show out0_2 (iblk m c 0 t) (iblk m c 1 t) y = k0_pay1 (iblk m c 0 t) (iblk m c 1 t) y by frame_out]
  idx_vars y
  rw [pay_apply, prodNT_at _ _ _ y0 ⟨t.val * 256 + y1.val, by have := points t; omega⟩ (by blk_simp [idx2 t]) (by blk_simp [idx2 t])]
  show @Eq EReal _ _
  exact Finset.sum_congr rfl fun r _ => by rw [blk0, blk1]

end Cert.Kernel34Ideal.Own

namespace Cert.Reference34Ideal.Own

open Cert.Reference34Ideal Cert.Reference34Ideal.Gen Cert.Reference34Ideal.Read Cert.Attn Cert.Prod

variable (x0 : Mat 4096 1024) (x1 : Stack 1 2816 1024)

theorem v6_eq : val_main_v6 (F := Ideal) x0 x1 = prodNT x0 (sheet x1) := by
  funext i
  idx_vars i
  pointwise [val_main_v6, val_main_v5, val_main_v4, val_main_v2, val_main_v1]
  rfl

end Cert.Reference34Ideal.Own

namespace Cert.Claim34

open Cert.Attn Cert.Prod

/-- The reference runs, keeps its arguments, and declares no semaphore. -/
theorem frame_reference : Cert.quiescent_Reference34Ideal (hReference34Ideal := Cert.Reference34Ideal.Gen.facts) :=
  fun m g _ => (θ_run _ _ _).mono
    (fun r h => ⟨fun c => (h c).2, Idealize.ShloMosaic.sem_eq_zero_of_no_sems (by decide) r.2⟩) (Cert.Reference34Ideal.Value.run m g)

/-- The call and its reference return the same arrays. -/
theorem algebraic : Cert.algebraic_Kernel34Ideal_Reference34Ideal
    (hKernel34Ideal := Cert.Kernel34Ideal.Gen.facts) (hReference34Ideal := Cert.Reference34Ideal.Gen.facts) := by
  intro m g m' g' hpre hag
  refine ⟨fun c => prodNT (Cert.Kernel34Ideal.Own.arg0 m c) (sheet (Cert.Kernel34Ideal.Own.arg1 m c)),
    (θ_run _ _ _).mono (fun r h c => ?_) (Cert.Kernel34Ideal.Value.run_blocks m g),
    (θ_run _ _ _).mono (fun r h c => ?_) (Cert.Reference34Ideal.Value.run m' g')⟩
  · exact ⟨(h c).1.trans (Cert.Kernel34Ideal.Own.array2 m c), (h c).2.1, (h c).2.2⟩
  · obtain ⟨e0, e1⟩ := hag c
    refine ⟨(h c).1.trans ?_, (h c).2.1, (h c).2.2⟩
    · rw [e0, e1]
      exact (Cert.Reference34Ideal.Read.val_main_v6_eq (F := Ideal) (Cert.Kernel34Ideal.Own.arg0 m c) (Cert.Kernel34Ideal.Own.arg1 m c)).trans (Cert.Reference34Ideal.Own.v6_eq (Cert.Kernel34Ideal.Own.arg0 m c) (Cert.Kernel34Ideal.Own.arg1 m c))

end Cert.Claim34

end
-- ==== Proof.lean ====
/-
  The proof of the certificate's claim: the frames are the generated runs, the values are the own modules' claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn.Claim
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Norm.DHf
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Norm.DH
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Norm.DHq
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Norm.DConvOut
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gate.MergeBwd
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Prod.DwUp
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Prod.DwDown
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Prod.DwSquare
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Prod.DwConvOut
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Prod.DwKv
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Prod.DwInGates
public import proofs.«01_k».proof.Proof.Gen.Kernel35
public import proofs.«01_k».proof.Proof.Gen.Kernel35.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Prod.DwInPool
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Prod.DGact
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Prod.DMerged
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Prod.DMem
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Fwd.Up
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Fwd.Query
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Fwd.KeyValue
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Fwd.Out
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Fwd.Down
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Fwd.ConvOut
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Norm.Forward
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Norm.LossBwd
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Norm.MemBwd
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Attn.Forward
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gate.MergeFwd
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Pool.Bwd
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Conv.FfnFwd
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Pool.Fwd
public import proofs.«01_k».proof.Proof.Gen.Kernel32
public import proofs.«01_k».proof.Proof.Gen.Kernel32.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Fwd.Proj
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Prod.DGact0
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel35.Gen.facts, Cert.Kernel35Ideal.Gen.facts, Cert.Reference35Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel30.Gen.facts, Cert.Kernel30Ideal.Gen.facts, Cert.Reference30Ideal.Gen.facts,
    Cert.Kernel33.Gen.facts, Cert.Kernel33Ideal.Gen.facts, Cert.Reference33Ideal.Gen.facts,
    Cert.Kernel32.Gen.facts, Cert.Kernel32Ideal.Gen.facts, Cert.Reference32Ideal.Gen.facts,
    Cert.Kernel34.Gen.facts, Cert.Kernel34Ideal.Gen.facts, Cert.Reference34Ideal.Gen.facts,
    Cert.Attn.preFacts,
    fun m ρ _ => Cert.Kernel.Gen.frame m ρ, fun m ρ _ => Cert.KernelIdeal.Gen.frame m ρ, fun m ρ _ => Cert.KernelIdeal.Gen.frame m ρ,
    fun m ρ _ => Cert.Attn.frame_reference m ρ, fun m ρ _ => Cert.Attn.frame_reference m ρ,
    fun m ρ _ => Cert.Kernel2.Gen.frame m ρ, fun m ρ _ => Cert.Kernel2Ideal.Gen.frame m ρ, Cert.Claim2.frame_reference,
    fun m ρ _ => Cert.Kernel3.Gen.frame m ρ, fun m ρ _ => Cert.Kernel3Ideal.Gen.frame m ρ, Cert.Claim3.frame_reference,
    fun m ρ _ => Cert.Kernel4.Gen.frame m ρ, fun m ρ _ => Cert.Kernel4Ideal.Gen.frame m ρ, Cert.Claim4.frame_reference,
    fun m ρ _ => Cert.Kernel5.Gen.frame m ρ, fun m ρ _ => Cert.Kernel5Ideal.Gen.frame m ρ, Cert.Claim5.frame_reference,
    fun m ρ _ => Cert.Kernel6.Gen.frame m ρ, fun m ρ _ => Cert.Kernel6Ideal.Gen.frame m ρ, Cert.Claim6.frame_reference,
    fun m ρ _ => Cert.Kernel8.Gen.frame m ρ, fun m ρ _ => Cert.Kernel8Ideal.Gen.frame m ρ, Cert.Claim8.frame_reference,
    fun m ρ _ => Cert.Kernel9.Gen.frame m ρ, fun m ρ _ => Cert.Kernel9Ideal.Gen.frame m ρ, Cert.Claim9.frame_reference,
    fun m ρ _ => Cert.Kernel10.Gen.frame m ρ, fun m ρ _ => Cert.Kernel10Ideal.Gen.frame m ρ, Cert.Claim10.frame_reference,
    fun m ρ _ => Cert.Kernel11.Gen.frame m ρ, fun m ρ _ => Cert.Kernel11Ideal.Gen.frame m ρ, Cert.Claim11.frame_reference,
    fun m ρ _ => Cert.Kernel12.Gen.frame m ρ, fun m ρ _ => Cert.Kernel12Ideal.Gen.frame m ρ, Cert.Claim12.frame_reference,
    fun m ρ _ => Cert.Kernel13.Gen.frame m ρ, fun m ρ _ => Cert.Kernel13Ideal.Gen.frame m ρ, Cert.Claim13.frame_reference,
    fun m ρ _ => Cert.Kernel35.Gen.frame m ρ, fun m ρ _ => Cert.Kernel35Ideal.Gen.frame m ρ, Cert.Claim35.frame_reference,
    fun m ρ _ => Cert.Kernel14.Gen.frame m ρ, fun m ρ _ => Cert.Kernel14Ideal.Gen.frame m ρ, Cert.Claim14.frame_reference,
    fun m ρ _ => Cert.Kernel15.Gen.frame m ρ, fun m ρ _ => Cert.Kernel15Ideal.Gen.frame m ρ, Cert.Claim15.frame_reference,
    fun m ρ _ => Cert.Kernel16.Gen.frame m ρ, fun m ρ _ => Cert.Kernel16Ideal.Gen.frame m ρ, Cert.Claim16.frame_reference,
    fun m ρ _ => Cert.Kernel17.Gen.frame m ρ, fun m ρ _ => Cert.Kernel17Ideal.Gen.frame m ρ, Cert.Claim17.frame_reference,
    fun m ρ _ => Cert.Kernel18.Gen.frame m ρ, fun m ρ _ => Cert.Kernel18Ideal.Gen.frame m ρ, Cert.Claim18.frame_reference,
    fun m ρ _ => Cert.Kernel19.Gen.frame m ρ, fun m ρ _ => Cert.Kernel19Ideal.Gen.frame m ρ, Cert.Claim19.frame_reference,
    fun m ρ _ => Cert.Kernel20.Gen.frame m ρ, fun m ρ _ => Cert.Kernel20Ideal.Gen.frame m ρ, Cert.Claim20.frame_reference,
    fun m ρ _ => Cert.Kernel21.Gen.frame m ρ, fun m ρ _ => Cert.Kernel21Ideal.Gen.frame m ρ, Cert.Claim21.frame_reference,
    fun m ρ _ => Cert.Kernel22.Gen.frame m ρ, fun m ρ _ => Cert.Kernel22Ideal.Gen.frame m ρ, Cert.Claim22.frame_reference,
    fun m ρ _ => Cert.Kernel23.Gen.frame m ρ, fun m ρ _ => Cert.Kernel23Ideal.Gen.frame m ρ, Cert.Claim23.frame_reference,
    fun m ρ _ => Cert.Kernel24.Gen.frame m ρ, fun m ρ _ => Cert.Kernel24Ideal.Gen.frame m ρ, Cert.Claim24.frame_reference,
    fun m ρ _ => Cert.Kernel25.Gen.frame m ρ, fun m ρ _ => Cert.Kernel25Ideal.Gen.frame m ρ, Cert.Claim25.frame_reference,
    fun m ρ _ => Cert.Kernel26.Gen.frame m ρ, fun m ρ _ => Cert.Kernel26Ideal.Gen.frame m ρ, Cert.Claim26.frame_reference,
    fun m ρ _ => Cert.Kernel27.Gen.frame m ρ, fun m ρ _ => Cert.Kernel27Ideal.Gen.frame m ρ, Cert.Claim27.frame_reference,
    fun m ρ _ => Cert.Kernel28.Gen.frame m ρ, fun m ρ _ => Cert.Kernel28Ideal.Gen.frame m ρ, Cert.Claim28.frame_reference,
    fun m ρ _ => Cert.Kernel30.Gen.frame m ρ, fun m ρ _ => Cert.Kernel30Ideal.Gen.frame m ρ, Cert.Claim30.frame_reference,
    fun m ρ _ => Cert.Kernel33.Gen.frame m ρ, fun m ρ _ => Cert.Kernel33Ideal.Gen.frame m ρ, Cert.Claim33.frame_reference,
    fun m ρ _ => Cert.Kernel32.Gen.frame m ρ, fun m ρ _ => Cert.Kernel32Ideal.Gen.frame m ρ, Cert.Claim32.frame_reference,
    fun m ρ _ => Cert.Kernel34.Gen.frame m ρ, fun m ρ _ => Cert.Kernel34Ideal.Gen.frame m ρ, Cert.Claim34.frame_reference,
    trivial, Cert.Attn.algebraic,
    trivial, Cert.Claim2.algebraic,
    trivial, Cert.Claim3.algebraic,
    trivial, Cert.Claim4.algebraic,
    trivial, Cert.Claim5.algebraic,
    trivial, Cert.Claim6.algebraic,
    trivial, Cert.Claim8.algebraic,
    trivial, Cert.Claim9.algebraic,
    trivial, Cert.Claim10.algebraic,
    trivial, Cert.Claim11.algebraic,
    trivial, Cert.Claim12.algebraic,
    trivial, Cert.Claim13.algebraic,
    trivial, Cert.Claim35.algebraic,
    trivial, Cert.Claim14.algebraic,
    trivial, Cert.Claim15.algebraic,
    trivial, Cert.Claim16.algebraic,
    trivial, Cert.Claim17.algebraic,
    trivial, Cert.Claim18.algebraic,
    trivial, Cert.Claim19.algebraic,
    trivial, Cert.Claim20.algebraic,
    trivial, Cert.Claim21.algebraic,
    trivial, Cert.Claim22.algebraic,
    trivial, Cert.Claim23.algebraic,
    trivial, Cert.Claim24.algebraic,
    trivial, Cert.Claim25.algebraic,
    trivial, Cert.Claim26.algebraic,
    trivial, Cert.Claim27.algebraic,
    trivial, Cert.Claim28.algebraic,
    trivial, Cert.Claim30.algebraic,
    trivial, Cert.Claim33.algebraic,
    trivial, Cert.Claim32.algebraic,
    trivial, Cert.Claim34.algebraic⟩

end Cert.Proof

end
